-- ==== Defs.lean ====
def Pre_AttC (m : (ℓ : Loc Cert.AttC.nD Cert.AttC.τ Cert.AttC.sig) → Buf (Elt Bits) ℓ) : Prop :=
  True

def Pre_AttCIdeal (m : (ℓ : Loc Cert.AttCIdeal.nD Cert.AttCIdeal.τ Cert.AttCIdeal.sig) → Buf (Elt Ideal) ℓ) : Prop :=
  True

def Pre_AttCIdeal_finite [hPre_finite : Cert.Pre_finite.Facts] (m : (ℓ : Loc Cert.AttCIdeal.nD Cert.AttCIdeal.τ Cert.AttCIdeal.sig) → Buf (Elt Ideal) ℓ) : Prop :=
  ∀ c : Dev Cert.AttCIdeal.nD,
    (Cert.Pre_finite.fn (F := Ideal) (m ((c.tc : Thread Cert.AttCIdeal.nD Cert.AttCIdeal.τ).loc Cert.AttCIdeal.main_arg0)) (m ((c.tc : Thread Cert.AttCIdeal.nD Cert.AttCIdeal.τ).loc Cert.AttCIdeal.main_arg1)) (m ((c.tc : Thread Cert.AttCIdeal.nD Cert.AttCIdeal.τ).loc Cert.AttCIdeal.main_arg2))).1 = (fun _ => 1#1)
    ∧ (Cert.Pre_finite.fn (F := Ideal) (m ((c.tc : Thread Cert.AttCIdeal.nD Cert.AttCIdeal.τ).loc Cert.AttCIdeal.main_arg0)) (m ((c.tc : Thread Cert.AttCIdeal.nD Cert.AttCIdeal.τ).loc Cert.AttCIdeal.main_arg1)) (m ((c.tc : Thread Cert.AttCIdeal.nD Cert.AttCIdeal.τ).loc Cert.AttCIdeal.main_arg2))).2.1 = (fun _ => 1#1)
    ∧ (Cert.Pre_finite.fn (F := Ideal) (m ((c.tc : Thread Cert.AttCIdeal.nD Cert.AttCIdeal.τ).loc Cert.AttCIdeal.main_arg0)) (m ((c.tc : Thread Cert.AttCIdeal.nD Cert.AttCIdeal.τ).loc Cert.AttCIdeal.main_arg1)) (m ((c.tc : Thread Cert.AttCIdeal.nD Cert.AttCIdeal.τ).loc Cert.AttCIdeal.main_arg2))).2.2 = (fun _ => 1#1)

def Pre_AttCRefIdeal (m : (ℓ : Loc Cert.AttCRefIdeal.nD Cert.AttCRefIdeal.τ Cert.AttCRefIdeal.sig) → Buf (Elt Ideal) ℓ) : Prop :=
  True

def Pre_AttCRefIdeal_finite [hPre_finite : Cert.Pre_finite.Facts] (m : (ℓ : Loc Cert.AttCRefIdeal.nD Cert.AttCRefIdeal.τ Cert.AttCRefIdeal.sig) → Buf (Elt Ideal) ℓ) : Prop :=
  ∀ c : Dev Cert.AttCRefIdeal.nD,
    (Cert.Pre_finite.fn (F := Ideal) (m ((c.tc : Thread Cert.AttCRefIdeal.nD Cert.AttCRefIdeal.τ).loc Cert.AttCRefIdeal.main_arg0)) (m ((c.tc : Thread Cert.AttCRefIdeal.nD Cert.AttCRefIdeal.τ).loc Cert.AttCRefIdeal.main_arg1)) (m ((c.tc : Thread Cert.AttCRefIdeal.nD Cert.AttCRefIdeal.τ).loc Cert.AttCRefIdeal.main_arg2))).1 = (fun _ => 1#1)
    ∧ (Cert.Pre_finite.fn (F := Ideal) (m ((c.tc : Thread Cert.AttCRefIdeal.nD Cert.AttCRefIdeal.τ).loc Cert.AttCRefIdeal.main_arg0)) (m ((c.tc : Thread Cert.AttCRefIdeal.nD Cert.AttCRefIdeal.τ).loc Cert.AttCRefIdeal.main_arg1)) (m ((c.tc : Thread Cert.AttCRefIdeal.nD Cert.AttCRefIdeal.τ).loc Cert.AttCRefIdeal.main_arg2))).2.1 = (fun _ => 1#1)
    ∧ (Cert.Pre_finite.fn (F := Ideal) (m ((c.tc : Thread Cert.AttCRefIdeal.nD Cert.AttCRefIdeal.τ).loc Cert.AttCRefIdeal.main_arg0)) (m ((c.tc : Thread Cert.AttCRefIdeal.nD Cert.AttCRefIdeal.τ).loc Cert.AttCRefIdeal.main_arg1)) (m ((c.tc : Thread Cert.AttCRefIdeal.nD Cert.AttCRefIdeal.τ).loc Cert.AttCRefIdeal.main_arg2))).2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcRefIdeal (m : (ℓ : Loc Cert.XbcRefIdeal.nD Cert.XbcRefIdeal.τ Cert.XbcRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_KvA (m : (ℓ : Loc Cert.KvA.nD Cert.KvA.τ Cert.KvA.sig) → Buf (Elt Bits) ℓ) : Prop :=
  True

def Pre_KvAIdeal (m : (ℓ : Loc Cert.KvAIdeal.nD Cert.KvAIdeal.τ Cert.KvAIdeal.sig) → Buf (Elt Ideal) ℓ) : Prop :=
  True

def Pre_KvARefIdeal (m : (ℓ : Loc Cert.KvARefIdeal.nD Cert.KvARefIdeal.τ Cert.KvARefIdeal.sig) → Buf (Elt Ideal) ℓ) : Prop :=
  True

def Pre_KvB (m : (ℓ : Loc Cert.KvB.nD Cert.KvB.τ Cert.KvB.sig) → Buf (Elt Bits) ℓ) : Prop :=
  True

def Pre_KvBIdeal (m : (ℓ : Loc Cert.KvBIdeal.nD Cert.KvBIdeal.τ Cert.KvBIdeal.sig) → Buf (Elt Ideal) ℓ) : Prop :=
  True

def Pre_KvBRefIdeal (m : (ℓ : Loc Cert.KvBRefIdeal.nD Cert.KvBRefIdeal.τ Cert.KvBRefIdeal.sig) → Buf (Elt Ideal) ℓ) : Prop :=
  True

def Pre_KvC (m : (ℓ : Loc Cert.KvC.nD Cert.KvC.τ Cert.KvC.sig) → Buf (Elt Bits) ℓ) : Prop :=
  True

def Pre_KvCIdeal (m : (ℓ : Loc Cert.KvCIdeal.nD Cert.KvCIdeal.τ Cert.KvCIdeal.sig) → Buf (Elt Ideal) ℓ) : Prop :=
  True

def Pre_KvCRefIdeal (m : (ℓ : Loc Cert.KvCRefIdeal.nD Cert.KvCRefIdeal.τ Cert.KvCRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_AttC [hAttC : Cert.AttC.Facts] : Prop :=
  ∀ (m : (ℓ : Loc Cert.AttC.nD Cert.AttC.τ Cert.AttC.sig) → Buf (Elt Bits) ℓ) (g : Dev Cert.AttC.nD → PrngReg), Pre_AttC m →
    θ_run (Cert.AttC.defs (F := Bits)) (onTc (τ := Cert.AttC.τ) (Cert.AttC.main (F := Bits))) ⟨m, fun _ => 0, g⟩ (fun r => (∀ c : Dev Cert.AttC.nD,
      r.2.mem ((c.tc : Thread Cert.AttC.nD Cert.AttC.τ).loc Cert.AttC.main_arg0) = m ((c.tc : Thread Cert.AttC.nD Cert.AttC.τ).loc Cert.AttC.main_arg0)
      ∧ r.2.mem ((c.tc : Thread Cert.AttC.nD Cert.AttC.τ).loc Cert.AttC.main_arg1) = m ((c.tc : Thread Cert.AttC.nD Cert.AttC.τ).loc Cert.AttC.main_arg1)
      ∧ r.2.mem ((c.tc : Thread Cert.AttC.nD Cert.AttC.τ).loc Cert.AttC.main_arg2) = m ((c.tc : Thread Cert.AttC.nD Cert.AttC.τ).loc Cert.AttC.main_arg2))
      ∧ r.2.sem = fun _ => 0)

def quiescent_AttCIdeal [hAttCIdeal : Cert.AttCIdeal.Facts] : Prop :=
  ∀ (m : (ℓ : Loc Cert.AttCIdeal.nD Cert.AttCIdeal.τ Cert.AttCIdeal.sig) → Buf (Elt Ideal) ℓ) (g : Dev Cert.AttCIdeal.nD → PrngReg), Pre_AttCIdeal m →
    θ_run (Cert.AttCIdeal.defs (F := Ideal)) (onTc (τ := Cert.AttCIdeal.τ) (Cert.AttCIdeal.main (F := Ideal))) ⟨m, fun _ => 0, g⟩ (fun r => (∀ c : Dev Cert.AttCIdeal.nD,
      r.2.mem ((c.tc : Thread Cert.AttCIdeal.nD Cert.AttCIdeal.τ).loc Cert.AttCIdeal.main_arg0) = m ((c.tc : Thread Cert.AttCIdeal.nD Cert.AttCIdeal.τ).loc Cert.AttCIdeal.main_arg0)
      ∧ r.2.mem ((c.tc : Thread Cert.AttCIdeal.nD Cert.AttCIdeal.τ).loc Cert.AttCIdeal.main_arg1) = m ((c.tc : Thread Cert.AttCIdeal.nD Cert.AttCIdeal.τ).loc Cert.AttCIdeal.main_arg1)
      ∧ r.2.mem ((c.tc : Thread Cert.AttCIdeal.nD Cert.AttCIdeal.τ).loc Cert.AttCIdeal.main_arg2) = m ((c.tc : Thread Cert.AttCIdeal.nD Cert.AttCIdeal.τ).loc Cert.AttCIdeal.main_arg2))
      ∧ r.2.sem = fun _ => 0)

def quiescent_AttCIdeal_pre_finite [hAttCIdeal : Cert.AttCIdeal.Facts] [hPre_finite : Cert.Pre_finite.Facts] : Prop :=
  ∀ (m : (ℓ : Loc Cert.AttCIdeal.nD Cert.AttCIdeal.τ Cert.AttCIdeal.sig) → Buf (Elt Ideal) ℓ) (g : Dev Cert.AttCIdeal.nD → PrngReg), Pre_AttCIdeal_finite m →
    θ_run (Cert.AttCIdeal.defs (F := Ideal)) (onTc (τ := Cert.AttCIdeal.τ) (Cert.AttCIdeal.main (F := Ideal))) ⟨m, fun _ => 0, g⟩ (fun r => (∀ c : Dev Cert.AttCIdeal.nD,
      r.2.mem ((c.tc : Thread Cert.AttCIdeal.nD Cert.AttCIdeal.τ).loc Cert.AttCIdeal.main_arg0) = m ((c.tc : Thread Cert.AttCIdeal.nD Cert.AttCIdeal.τ).loc Cert.AttCIdeal.main_arg0)
      ∧ r.2.mem ((c.tc : Thread Cert.AttCIdeal.nD Cert.AttCIdeal.τ).loc Cert.AttCIdeal.main_arg1) = m ((c.tc : Thread Cert.AttCIdeal.nD Cert.AttCIdeal.τ).loc Cert.AttCIdeal.main_arg1)
      ∧ r.2.mem ((c.tc : Thread Cert.AttCIdeal.nD Cert.AttCIdeal.τ).loc Cert.AttCIdeal.main_arg2) = m ((c.tc : Thread Cert.AttCIdeal.nD Cert.AttCIdeal.τ).loc Cert.AttCIdeal.main_arg2))
      ∧ r.2.sem = fun _ => 0)

def quiescent_AttCRefIdeal [hAttCRefIdeal : Cert.AttCRefIdeal.Facts] : Prop :=
  ∀ (m : (ℓ : Loc Cert.AttCRefIdeal.nD Cert.AttCRefIdeal.τ Cert.AttCRefIdeal.sig) → Buf (Elt Ideal) ℓ) (g : Dev Cert.AttCRefIdeal.nD → PrngReg), Pre_AttCRefIdeal m →
    θ_run (Cert.AttCRefIdeal.defs (F := Ideal)) (onTc (τ := Cert.AttCRefIdeal.τ) (Cert.AttCRefIdeal.main (F := Ideal))) ⟨m, fun _ => 0, g⟩ (fun r => (∀ c : Dev Cert.AttCRefIdeal.nD,
      r.2.mem ((c.tc : Thread Cert.AttCRefIdeal.nD Cert.AttCRefIdeal.τ).loc Cert.AttCRefIdeal.main_arg0) = m ((c.tc : Thread Cert.AttCRefIdeal.nD Cert.AttCRefIdeal.τ).loc Cert.AttCRefIdeal.main_arg0)
      ∧ r.2.mem ((c.tc : Thread Cert.AttCRefIdeal.nD Cert.AttCRefIdeal.τ).loc Cert.AttCRefIdeal.main_arg1) = m ((c.tc : Thread Cert.AttCRefIdeal.nD Cert.AttCRefIdeal.τ).loc Cert.AttCRefIdeal.main_arg1)
      ∧ r.2.mem ((c.tc : Thread Cert.AttCRefIdeal.nD Cert.AttCRefIdeal.τ).loc Cert.AttCRefIdeal.main_arg2) = m ((c.tc : Thread Cert.AttCRefIdeal.nD Cert.AttCRefIdeal.τ).loc Cert.AttCRefIdeal.main_arg2))
      ∧ r.2.sem = fun _ => 0)

def quiescent_AttCRefIdeal_pre_finite [hAttCRefIdeal : Cert.AttCRefIdeal.Facts] [hPre_finite : Cert.Pre_finite.Facts] : Prop :=
  ∀ (m : (ℓ : Loc Cert.AttCRefIdeal.nD Cert.AttCRefIdeal.τ Cert.AttCRefIdeal.sig) → Buf (Elt Ideal) ℓ) (g : Dev Cert.AttCRefIdeal.nD → PrngReg), Pre_AttCRefIdeal_finite m →
    θ_run (Cert.AttCRefIdeal.defs (F := Ideal)) (onTc (τ := Cert.AttCRefIdeal.τ) (Cert.AttCRefIdeal.main (F := Ideal))) ⟨m, fun _ => 0, g⟩ (fun r => (∀ c : Dev Cert.AttCRefIdeal.nD,
      r.2.mem ((c.tc : Thread Cert.AttCRefIdeal.nD Cert.AttCRefIdeal.τ).loc Cert.AttCRefIdeal.main_arg0) = m ((c.tc : Thread Cert.AttCRefIdeal.nD Cert.AttCRefIdeal.τ).loc Cert.AttCRefIdeal.main_arg0)
      ∧ r.2.mem ((c.tc : Thread Cert.AttCRefIdeal.nD Cert.AttCRefIdeal.τ).loc Cert.AttCRefIdeal.main_arg1) = m ((c.tc : Thread Cert.AttCRefIdeal.nD Cert.AttCRefIdeal.τ).loc Cert.AttCRefIdeal.main_arg1)
      ∧ r.2.mem ((c.tc : Thread Cert.AttCRefIdeal.nD Cert.AttCRefIdeal.τ).loc Cert.AttCRefIdeal.main_arg2) = m ((c.tc : Thread Cert.AttCRefIdeal.nD Cert.AttCRefIdeal.τ).loc Cert.AttCRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1)
      ∧ r.2.mem ((c.tc : Thread Cert.Xbc.nD Cert.Xbc.τ).loc Cert.Xbc.main_arg2) = m ((c.tc : Thread Cert.Xbc.nD Cert.Xbc.τ).loc Cert.Xbc.main_arg2))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
      ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2))
      ∧ r.2.sem = fun _ => 0)

def quiescent_XbcRefIdeal [hXbcRefIdeal : Cert.XbcRefIdeal.Facts] : Prop :=
  ∀ (m : (ℓ : Loc Cert.XbcRefIdeal.nD Cert.XbcRefIdeal.τ Cert.XbcRefIdeal.sig) → Buf (Elt Ideal) ℓ) (g : Dev Cert.XbcRefIdeal.nD → PrngReg), Pre_XbcRefIdeal m →
    θ_run (Cert.XbcRefIdeal.defs (F := Ideal)) (onTc (τ := Cert.XbcRefIdeal.τ) (Cert.XbcRefIdeal.main (F := Ideal))) ⟨m, fun _ => 0, g⟩ (fun r => (∀ c : Dev Cert.XbcRefIdeal.nD,
      r.2.mem ((c.tc : Thread Cert.XbcRefIdeal.nD Cert.XbcRefIdeal.τ).loc Cert.XbcRefIdeal.main_arg0) = m ((c.tc : Thread Cert.XbcRefIdeal.nD Cert.XbcRefIdeal.τ).loc Cert.XbcRefIdeal.main_arg0)
      ∧ r.2.mem ((c.tc : Thread Cert.XbcRefIdeal.nD Cert.XbcRefIdeal.τ).loc Cert.XbcRefIdeal.main_arg1) = m ((c.tc : Thread Cert.XbcRefIdeal.nD Cert.XbcRefIdeal.τ).loc Cert.XbcRefIdeal.main_arg1)
      ∧ r.2.mem ((c.tc : Thread Cert.XbcRefIdeal.nD Cert.XbcRefIdeal.τ).loc Cert.XbcRefIdeal.main_arg2) = m ((c.tc : Thread Cert.XbcRefIdeal.nD Cert.XbcRefIdeal.τ).loc Cert.XbcRefIdeal.main_arg2))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1)
      ∧ r.2.mem ((c.tc : Thread Cert.InZ.nD Cert.InZ.τ).loc Cert.InZ.main_arg2) = m ((c.tc : Thread Cert.InZ.nD Cert.InZ.τ).loc Cert.InZ.main_arg2))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1)
      ∧ r.2.mem ((c.tc : Thread Cert.InZIdeal.nD Cert.InZIdeal.τ).loc Cert.InZIdeal.main_arg2) = m ((c.tc : Thread Cert.InZIdeal.nD Cert.InZIdeal.τ).loc Cert.InZIdeal.main_arg2))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1)
      ∧ r.2.mem ((c.tc : Thread Cert.InZRefIdeal.nD Cert.InZRefIdeal.τ).loc Cert.InZRefIdeal.main_arg2) = m ((c.tc : Thread Cert.InZRefIdeal.nD Cert.InZRefIdeal.τ).loc Cert.InZRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1)
      ∧ r.2.mem ((c.tc : Thread Cert.InQ.nD Cert.InQ.τ).loc Cert.InQ.main_arg2) = m ((c.tc : Thread Cert.InQ.nD Cert.InQ.τ).loc Cert.InQ.main_arg2))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
      ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1)
      ∧ r.2.mem ((c.tc : Thread Cert.InQRefIdeal.nD Cert.InQRefIdeal.τ).loc Cert.InQRefIdeal.main_arg2) = m ((c.tc : Thread Cert.InQRefIdeal.nD Cert.InQRefIdeal.τ).loc Cert.InQRefIdeal.main_arg2))
      ∧ r.2.sem = fun _ => 0)

def quiescent_KvA [hKvA : Cert.KvA.Facts] : Prop :=
  ∀ (m : (ℓ : Loc Cert.KvA.nD Cert.KvA.τ Cert.KvA.sig) → Buf (Elt Bits) ℓ) (g : Dev Cert.KvA.nD → PrngReg), Pre_KvA m →
    θ_run (Cert.KvA.defs (F := Bits)) (onTc (τ := Cert.KvA.τ) (Cert.KvA.main (F := Bits))) ⟨m, fun _ => 0, g⟩ (fun r => (∀ c : Dev Cert.KvA.nD,
      r.2.mem ((c.tc : Thread Cert.KvA.nD Cert.KvA.τ).loc Cert.KvA.main_arg0) = m ((c.tc : Thread Cert.KvA.nD Cert.KvA.τ).loc Cert.KvA.main_arg0)
      ∧ r.2.mem ((c.tc : Thread Cert.KvA.nD Cert.KvA.τ).loc Cert.KvA.main_arg1) = m ((c.tc : Thread Cert.KvA.nD Cert.KvA.τ).loc Cert.KvA.main_arg1)
      ∧ r.2.mem ((c.tc : Thread Cert.KvA.nD Cert.KvA.τ).loc Cert.KvA.main_arg2) = m ((c.tc : Thread Cert.KvA.nD Cert.KvA.τ).loc Cert.KvA.main_arg2))
      ∧ r.2.sem = fun _ => 0)

def quiescent_KvAIdeal [hKvAIdeal : Cert.KvAIdeal.Facts] : Prop :=
  ∀ (m : (ℓ : Loc Cert.KvAIdeal.nD Cert.KvAIdeal.τ Cert.KvAIdeal.sig) → Buf (Elt Ideal) ℓ) (g : Dev Cert.KvAIdeal.nD → PrngReg), Pre_KvAIdeal m →
    θ_run (Cert.KvAIdeal.defs (F := Ideal)) (onTc (τ := Cert.KvAIdeal.τ) (Cert.KvAIdeal.main (F := Ideal))) ⟨m, fun _ => 0, g⟩ (fun r => (∀ c : Dev Cert.KvAIdeal.nD,
      r.2.mem ((c.tc : Thread Cert.KvAIdeal.nD Cert.KvAIdeal.τ).loc Cert.KvAIdeal.main_arg0) = m ((c.tc : Thread Cert.KvAIdeal.nD Cert.KvAIdeal.τ).loc Cert.KvAIdeal.main_arg0)
      ∧ r.2.mem ((c.tc : Thread Cert.KvAIdeal.nD Cert.KvAIdeal.τ).loc Cert.KvAIdeal.main_arg1) = m ((c.tc : Thread Cert.KvAIdeal.nD Cert.KvAIdeal.τ).loc Cert.KvAIdeal.main_arg1)
      ∧ r.2.mem ((c.tc : Thread Cert.KvAIdeal.nD Cert.KvAIdeal.τ).loc Cert.KvAIdeal.main_arg2) = m ((c.tc : Thread Cert.KvAIdeal.nD Cert.KvAIdeal.τ).loc Cert.KvAIdeal.main_arg2))
      ∧ r.2.sem = fun _ => 0)

def quiescent_KvARefIdeal [hKvARefIdeal : Cert.KvARefIdeal.Facts] : Prop :=
  ∀ (m : (ℓ : Loc Cert.KvARefIdeal.nD Cert.KvARefIdeal.τ Cert.KvARefIdeal.sig) → Buf (Elt Ideal) ℓ) (g : Dev Cert.KvARefIdeal.nD → PrngReg), Pre_KvARefIdeal m →
    θ_run (Cert.KvARefIdeal.defs (F := Ideal)) (onTc (τ := Cert.KvARefIdeal.τ) (Cert.KvARefIdeal.main (F := Ideal))) ⟨m, fun _ => 0, g⟩ (fun r => (∀ c : Dev Cert.KvARefIdeal.nD,
      r.2.mem ((c.tc : Thread Cert.KvARefIdeal.nD Cert.KvARefIdeal.τ).loc Cert.KvARefIdeal.main_arg0) = m ((c.tc : Thread Cert.KvARefIdeal.nD Cert.KvARefIdeal.τ).loc Cert.KvARefIdeal.main_arg0)
      ∧ r.2.mem ((c.tc : Thread Cert.KvARefIdeal.nD Cert.KvARefIdeal.τ).loc Cert.KvARefIdeal.main_arg1) = m ((c.tc : Thread Cert.KvARefIdeal.nD Cert.KvARefIdeal.τ).loc Cert.KvARefIdeal.main_arg1)
      ∧ r.2.mem ((c.tc : Thread Cert.KvARefIdeal.nD Cert.KvARefIdeal.τ).loc Cert.KvARefIdeal.main_arg2) = m ((c.tc : Thread Cert.KvARefIdeal.nD Cert.KvARefIdeal.τ).loc Cert.KvARefIdeal.main_arg2))
      ∧ r.2.sem = fun _ => 0)

def quiescent_KvB [hKvB : Cert.KvB.Facts] : Prop :=
  ∀ (m : (ℓ : Loc Cert.KvB.nD Cert.KvB.τ Cert.KvB.sig) → Buf (Elt Bits) ℓ) (g : Dev Cert.KvB.nD → PrngReg), Pre_KvB m →
    θ_run (Cert.KvB.defs (F := Bits)) (onTc (τ := Cert.KvB.τ) (Cert.KvB.main (F := Bits))) ⟨m, fun _ => 0, g⟩ (fun r => (∀ c : Dev Cert.KvB.nD,
      r.2.mem ((c.tc : Thread Cert.KvB.nD Cert.KvB.τ).loc Cert.KvB.main_arg0) = m ((c.tc : Thread Cert.KvB.nD Cert.KvB.τ).loc Cert.KvB.main_arg0)
      ∧ r.2.mem ((c.tc : Thread Cert.KvB.nD Cert.KvB.τ).loc Cert.KvB.main_arg1) = m ((c.tc : Thread Cert.KvB.nD Cert.KvB.τ).loc Cert.KvB.main_arg1)
      ∧ r.2.mem ((c.tc : Thread Cert.KvB.nD Cert.KvB.τ).loc Cert.KvB.main_arg2) = m ((c.tc : Thread Cert.KvB.nD Cert.KvB.τ).loc Cert.KvB.main_arg2))
      ∧ r.2.sem = fun _ => 0)

def quiescent_KvBIdeal [hKvBIdeal : Cert.KvBIdeal.Facts] : Prop :=
  ∀ (m : (ℓ : Loc Cert.KvBIdeal.nD Cert.KvBIdeal.τ Cert.KvBIdeal.sig) → Buf (Elt Ideal) ℓ) (g : Dev Cert.KvBIdeal.nD → PrngReg), Pre_KvBIdeal m →
    θ_run (Cert.KvBIdeal.defs (F := Ideal)) (onTc (τ := Cert.KvBIdeal.τ) (Cert.KvBIdeal.main (F := Ideal))) ⟨m, fun _ => 0, g⟩ (fun r => (∀ c : Dev Cert.KvBIdeal.nD,
      r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
      ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
      ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2))
      ∧ r.2.sem = fun _ => 0)

def quiescent_KvBRefIdeal [hKvBRefIdeal : Cert.KvBRefIdeal.Facts] : Prop :=
  ∀ (m : (ℓ : Loc Cert.KvBRefIdeal.nD Cert.KvBRefIdeal.τ Cert.KvBRefIdeal.sig) → Buf (Elt Ideal) ℓ) (g : Dev Cert.KvBRefIdeal.nD → PrngReg), Pre_KvBRefIdeal m →
    θ_run (Cert.KvBRefIdeal.defs (F := Ideal)) (onTc (τ := Cert.KvBRefIdeal.τ) (Cert.KvBRefIdeal.main (F := Ideal))) ⟨m, fun _ => 0, g⟩ (fun r => (∀ c : Dev Cert.KvBRefIdeal.nD,
      r.2.mem ((c.tc : Thread Cert.KvBRefIdeal.nD Cert.KvBRefIdeal.τ).loc Cert.KvBRefIdeal.main_arg0) = m ((c.tc : Thread Cert.KvBRefIdeal.nD Cert.KvBRefIdeal.τ).loc Cert.KvBRefIdeal.main_arg0)
      ∧ r.2.mem ((c.tc : Thread Cert.KvBRefIdeal.nD Cert.KvBRefIdeal.τ).loc Cert.KvBRefIdeal.main_arg1) = m ((c.tc : Thread Cert.KvBRefIdeal.nD Cert.KvBRefIdeal.τ).loc Cert.KvBRefIdeal.main_arg1)
      ∧ r.2.mem ((c.tc : Thread Cert.KvBRefIdeal.nD Cert.KvBRefIdeal.τ).loc Cert.KvBRefIdeal.main_arg2) = m ((c.tc : Thread Cert.KvBRefIdeal.nD Cert.KvBRefIdeal.τ).loc Cert.KvBRefIdeal.main_arg2))
      ∧ r.2.sem = fun _ => 0)

def quiescent_KvC [hKvC : Cert.KvC.Facts] : Prop :=
  ∀ (m : (ℓ : Loc Cert.KvC.nD Cert.KvC.τ Cert.KvC.sig) → Buf (Elt Bits) ℓ) (g : Dev Cert.KvC.nD → PrngReg), Pre_KvC m →
    θ_run (Cert.KvC.defs (F := Bits)) (onTc (τ := Cert.KvC.τ) (Cert.KvC.main (F := Bits))) ⟨m, fun _ => 0, g⟩ (fun r => (∀ c : Dev Cert.KvC.nD,
      r.2.mem ((c.tc : Thread Cert.KvC.nD Cert.KvC.τ).loc Cert.KvC.main_arg0) = m ((c.tc : Thread Cert.KvC.nD Cert.KvC.τ).loc Cert.KvC.main_arg0)
      ∧ r.2.mem ((c.tc : Thread Cert.KvC.nD Cert.KvC.τ).loc Cert.KvC.main_arg1) = m ((c.tc : Thread Cert.KvC.nD Cert.KvC.τ).loc Cert.KvC.main_arg1)
      ∧ r.2.mem ((c.tc : Thread Cert.KvC.nD Cert.KvC.τ).loc Cert.KvC.main_arg2) = m ((c.tc : Thread Cert.KvC.nD Cert.KvC.τ).loc Cert.KvC.main_arg2))
      ∧ r.2.sem = fun _ => 0)

def quiescent_KvCIdeal [hKvCIdeal : Cert.KvCIdeal.Facts] : Prop :=
  ∀ (m : (ℓ : Loc Cert.KvCIdeal.nD Cert.KvCIdeal.τ Cert.KvCIdeal.sig) → Buf (Elt Ideal) ℓ) (g : Dev Cert.KvCIdeal.nD → PrngReg), Pre_KvCIdeal m →
    θ_run (Cert.KvCIdeal.defs (F := Ideal)) (onTc (τ := Cert.KvCIdeal.τ) (Cert.KvCIdeal.main (F := Ideal))) ⟨m, fun _ => 0, g⟩ (fun r => (∀ c : Dev Cert.KvCIdeal.nD,
      r.2.mem ((c.tc : Thread Cert.KvCIdeal.nD Cert.KvCIdeal.τ).loc Cert.KvCIdeal.main_arg0) = m ((c.tc : Thread Cert.KvCIdeal.nD Cert.KvCIdeal.τ).loc Cert.KvCIdeal.main_arg0)
      ∧ r.2.mem ((c.tc : Thread Cert.KvCIdeal.nD Cert.KvCIdeal.τ).loc Cert.KvCIdeal.main_arg1) = m ((c.tc : Thread Cert.KvCIdeal.nD Cert.KvCIdeal.τ).loc Cert.KvCIdeal.main_arg1)
      ∧ r.2.mem ((c.tc : Thread Cert.KvCIdeal.nD Cert.KvCIdeal.τ).loc Cert.KvCIdeal.main_arg2) = m ((c.tc : Thread Cert.KvCIdeal.nD Cert.KvCIdeal.τ).loc Cert.KvCIdeal.main_arg2))
      ∧ r.2.sem = fun _ => 0)

def quiescent_KvCRefIdeal [hKvCRefIdeal : Cert.KvCRefIdeal.Facts] : Prop :=
  ∀ (m : (ℓ : Loc Cert.KvCRefIdeal.nD Cert.KvCRefIdeal.τ Cert.KvCRefIdeal.sig) → Buf (Elt Ideal) ℓ) (g : Dev Cert.KvCRefIdeal.nD → PrngReg), Pre_KvCRefIdeal m →
    θ_run (Cert.KvCRefIdeal.defs (F := Ideal)) (onTc (τ := Cert.KvCRefIdeal.τ) (Cert.KvCRefIdeal.main (F := Ideal))) ⟨m, fun _ => 0, g⟩ (fun r => (∀ c : Dev Cert.KvCRefIdeal.nD,
      r.2.mem ((c.tc : Thread Cert.KvCRefIdeal.nD Cert.KvCRefIdeal.τ).loc Cert.KvCRefIdeal.main_arg0) = m ((c.tc : Thread Cert.KvCRefIdeal.nD Cert.KvCRefIdeal.τ).loc Cert.KvCRefIdeal.main_arg0)
      ∧ r.2.mem ((c.tc : Thread Cert.KvCRefIdeal.nD Cert.KvCRefIdeal.τ).loc Cert.KvCRefIdeal.main_arg1) = m ((c.tc : Thread Cert.KvCRefIdeal.nD Cert.KvCRefIdeal.τ).loc Cert.KvCRefIdeal.main_arg1)
      ∧ r.2.mem ((c.tc : Thread Cert.KvCRefIdeal.nD Cert.KvCRefIdeal.τ).loc Cert.KvCRefIdeal.main_arg2) = m ((c.tc : Thread Cert.KvCRefIdeal.nD Cert.KvCRefIdeal.τ).loc Cert.KvCRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def preserves_AttC_AttCIdeal : Prop :=
  True

def algebraic_AttCIdeal_AttCRefIdeal_pre_finite [hAttCIdeal : Cert.AttCIdeal.Facts] [hAttCRefIdeal : Cert.AttCRefIdeal.Facts] [hPre_finite : Cert.Pre_finite.Facts] : Prop :=
  ∀ (m : (ℓ : Loc Cert.AttCIdeal.nD Cert.AttCIdeal.τ Cert.AttCIdeal.sig) → Buf (Elt Ideal) ℓ) (g : Dev Cert.AttCIdeal.nD → PrngReg)
    (m' : (ℓ : Loc Cert.AttCRefIdeal.nD Cert.AttCRefIdeal.τ Cert.AttCRefIdeal.sig) → Buf (Elt Ideal) ℓ) (g' : Dev Cert.AttCRefIdeal.nD → PrngReg), Pre_AttCIdeal_finite m →
    (∀ c : Dev Cert.AttCIdeal.nD,
      m' ((c.tc : Thread Cert.AttCRefIdeal.nD Cert.AttCRefIdeal.τ).loc Cert.AttCRefIdeal.main_arg0) = m ((c.tc : Thread Cert.AttCIdeal.nD Cert.AttCIdeal.τ).loc Cert.AttCIdeal.main_arg0)
      ∧ m' ((c.tc : Thread Cert.AttCRefIdeal.nD Cert.AttCRefIdeal.τ).loc Cert.AttCRefIdeal.main_arg1) = m ((c.tc : Thread Cert.AttCIdeal.nD Cert.AttCIdeal.τ).loc Cert.AttCIdeal.main_arg1)
      ∧ m' ((c.tc : Thread Cert.AttCRefIdeal.nD Cert.AttCRefIdeal.τ).loc Cert.AttCRefIdeal.main_arg2) = m ((c.tc : Thread Cert.AttCIdeal.nD Cert.AttCIdeal.τ).loc Cert.AttCIdeal.main_arg2)) →
    ∃ (v0 : (c : Dev Cert.AttCIdeal.nD) → Buf (Elt Ideal) ((c.tc : Thread Cert.AttCIdeal.nD Cert.AttCIdeal.τ).loc Cert.AttCIdeal.main_v32_0)) (v1 : (c : Dev Cert.AttCIdeal.nD) → Buf (Elt Ideal) ((c.tc : Thread Cert.AttCIdeal.nD Cert.AttCIdeal.τ).loc Cert.AttCIdeal.main_v32_1)),
      θ_run (Cert.AttCIdeal.defs (F := Ideal)) (onTc (τ := Cert.AttCIdeal.τ) (Cert.AttCIdeal.main (F := Ideal))) ⟨m, fun _ => 0, g⟩ (fun r => ∀ c : Dev Cert.AttCIdeal.nD,
          r.2.mem ((c.tc : Thread Cert.AttCIdeal.nD Cert.AttCIdeal.τ).loc Cert.AttCIdeal.main_v32_0) = v0 c
          ∧ r.2.mem ((c.tc : Thread Cert.AttCIdeal.nD Cert.AttCIdeal.τ).loc Cert.AttCIdeal.main_v32_1) = v1 c
          ∧ r.2.mem ((c.tc : Thread Cert.AttCIdeal.nD Cert.AttCIdeal.τ).loc Cert.AttCIdeal.main_arg0) = m ((c.tc : Thread Cert.AttCIdeal.nD Cert.AttCIdeal.τ).loc Cert.AttCIdeal.main_arg0)
          ∧ r.2.mem ((c.tc : Thread Cert.AttCIdeal.nD Cert.AttCIdeal.τ).loc Cert.AttCIdeal.main_arg1) = m ((c.tc : Thread Cert.AttCIdeal.nD Cert.AttCIdeal.τ).loc Cert.AttCIdeal.main_arg1)
          ∧ r.2.mem ((c.tc : Thread Cert.AttCIdeal.nD Cert.AttCIdeal.τ).loc Cert.AttCIdeal.main_arg2) = m ((c.tc : Thread Cert.AttCIdeal.nD Cert.AttCIdeal.τ).loc Cert.AttCIdeal.main_arg2))
      ∧ θ_run (Cert.AttCRefIdeal.defs (F := Ideal)) (onTc (τ := Cert.AttCRefIdeal.τ) (Cert.AttCRefIdeal.main (F := Ideal))) ⟨m', fun _ => 0, g'⟩ (fun r => ∀ c : Dev Cert.AttCRefIdeal.nD,
          r.2.mem ((c.tc : Thread Cert.AttCRefIdeal.nD Cert.AttCRefIdeal.τ).loc Cert.AttCRefIdeal.main_v93) = v0 c
          ∧ r.2.mem ((c.tc : Thread Cert.AttCRefIdeal.nD Cert.AttCRefIdeal.τ).loc Cert.AttCRefIdeal.main_v96) = v1 c
          ∧ r.2.mem ((c.tc : Thread Cert.AttCRefIdeal.nD Cert.AttCRefIdeal.τ).loc Cert.AttCRefIdeal.main_arg0) = m' ((c.tc : Thread Cert.AttCRefIdeal.nD Cert.AttCRefIdeal.τ).loc Cert.AttCRefIdeal.main_arg0)
          ∧ r.2.mem ((c.tc : Thread Cert.AttCRefIdeal.nD Cert.AttCRefIdeal.τ).loc Cert.AttCRefIdeal.main_arg1) = m' ((c.tc : Thread Cert.AttCRefIdeal.nD Cert.AttCRefIdeal.τ).loc Cert.AttCRefIdeal.main_arg1)
          ∧ r.2.mem ((c.tc : Thread Cert.AttCRefIdeal.nD Cert.AttCRefIdeal.τ).loc Cert.AttCRefIdeal.main_arg2) = m' ((c.tc : Thread Cert.AttCRefIdeal.nD Cert.AttCRefIdeal.τ).loc Cert.AttCRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v1)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v1) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v12) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1))

def preserves_Xbc_XbcIdeal : Prop :=
  True

def algebraic_XbcIdeal_XbcRefIdeal [hXbcIdeal : Cert.XbcIdeal.Facts] [hXbcRefIdeal : Cert.XbcRefIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcRefIdeal.nD Cert.XbcRefIdeal.τ Cert.XbcRefIdeal.sig) → Buf (Elt Ideal) ℓ) (g' : Dev Cert.XbcRefIdeal.nD → PrngReg), Pre_XbcIdeal m →
    (∀ c : Dev Cert.XbcIdeal.nD,
      m' ((c.tc : Thread Cert.XbcRefIdeal.nD Cert.XbcRefIdeal.τ).loc Cert.XbcRefIdeal.main_arg0) = m ((c.tc : Thread Cert.XbcIdeal.nD Cert.XbcIdeal.τ).loc Cert.XbcIdeal.main_arg0)
      ∧ m' ((c.tc : Thread Cert.XbcRefIdeal.nD Cert.XbcRefIdeal.τ).loc Cert.XbcRefIdeal.main_arg1) = m ((c.tc : Thread Cert.XbcIdeal.nD Cert.XbcIdeal.τ).loc Cert.XbcIdeal.main_arg1)
      ∧ m' ((c.tc : Thread Cert.XbcRefIdeal.nD Cert.XbcRefIdeal.τ).loc Cert.XbcRefIdeal.main_arg2) = m ((c.tc : Thread Cert.XbcIdeal.nD Cert.XbcIdeal.τ).loc Cert.XbcIdeal.main_arg2)) →
    ∃ (v0 : (c : Dev Cert.XbcIdeal.nD) → Buf (Elt Ideal) ((c.tc : Thread Cert.XbcIdeal.nD Cert.XbcIdeal.τ).loc Cert.XbcIdeal.main_v2)) (v1 : (c : Dev Cert.XbcIdeal.nD) → Buf (Elt Ideal) ((c.tc : Thread Cert.XbcIdeal.nD Cert.XbcIdeal.τ).loc Cert.XbcIdeal.main_v8)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v2) = v0 c
          ∧ r.2.mem ((c.tc : Thread Cert.XbcIdeal.nD Cert.XbcIdeal.τ).loc Cert.XbcIdeal.main_v8) = v1 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
          ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2))
      ∧ θ_run (Cert.XbcRefIdeal.defs (F := Ideal)) (onTc (τ := Cert.XbcRefIdeal.τ) (Cert.XbcRefIdeal.main (F := Ideal))) ⟨m', fun _ => 0, g'⟩ (fun r => ∀ c : Dev Cert.XbcRefIdeal.nD,
          r.2.mem ((c.tc : Thread Cert.XbcRefIdeal.nD Cert.XbcRefIdeal.τ).loc Cert.XbcRefIdeal.main_v3) = v0 c
          ∧ r.2.mem ((c.tc : Thread Cert.XbcRefIdeal.nD Cert.XbcRefIdeal.τ).loc Cert.XbcRefIdeal.main_v7) = v1 c
          ∧ r.2.mem ((c.tc : Thread Cert.XbcRefIdeal.nD Cert.XbcRefIdeal.τ).loc Cert.XbcRefIdeal.main_arg0) = m' ((c.tc : Thread Cert.XbcRefIdeal.nD Cert.XbcRefIdeal.τ).loc Cert.XbcRefIdeal.main_arg0)
          ∧ r.2.mem ((c.tc : Thread Cert.XbcRefIdeal.nD Cert.XbcRefIdeal.τ).loc Cert.XbcRefIdeal.main_arg1) = m' ((c.tc : Thread Cert.XbcRefIdeal.nD Cert.XbcRefIdeal.τ).loc Cert.XbcRefIdeal.main_arg1)
          ∧ r.2.mem ((c.tc : Thread Cert.XbcRefIdeal.nD Cert.XbcRefIdeal.τ).loc Cert.XbcRefIdeal.main_arg2) = m' ((c.tc : Thread Cert.XbcRefIdeal.nD Cert.XbcRefIdeal.τ).loc Cert.XbcRefIdeal.main_arg2))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)
      ∧ m' ((c.tc : Thread Cert.InZRefIdeal.nD Cert.InZRefIdeal.τ).loc Cert.InZRefIdeal.main_arg2) = m ((c.tc : Thread Cert.InZIdeal.nD Cert.InZIdeal.τ).loc Cert.InZIdeal.main_arg2)) →
    ∃ (v0 : (c : Dev Cert.InZIdeal.nD) → Buf (Elt Ideal) ((c.tc : Thread Cert.InZIdeal.nD Cert.InZIdeal.τ).loc Cert.InZIdeal.main_v2_0)) (v1 : (c : Dev Cert.InZIdeal.nD) → Buf (Elt Ideal) ((c.tc : Thread Cert.InZIdeal.nD Cert.InZIdeal.τ).loc Cert.InZIdeal.main_v2_1)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v2_0) = v0 c
          ∧ r.2.mem ((c.tc : Thread Cert.InZIdeal.nD Cert.InZIdeal.τ).loc Cert.InZIdeal.main_v2_1) = v1 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1)
          ∧ r.2.mem ((c.tc : Thread Cert.InZIdeal.nD Cert.InZIdeal.τ).loc Cert.InZIdeal.main_arg2) = m ((c.tc : Thread Cert.InZIdeal.nD Cert.InZIdeal.τ).loc Cert.InZIdeal.main_arg2))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v3) = v0 c
          ∧ r.2.mem ((c.tc : Thread Cert.InZRefIdeal.nD Cert.InZRefIdeal.τ).loc Cert.InZRefIdeal.main_v5) = v1 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1)
          ∧ r.2.mem ((c.tc : Thread Cert.InZRefIdeal.nD Cert.InZRefIdeal.τ).loc Cert.InZRefIdeal.main_arg2) = m' ((c.tc : Thread Cert.InZRefIdeal.nD Cert.InZRefIdeal.τ).loc Cert.InZRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v3) = v0 c
          ∧ r.2.mem ((c.tc : Thread Cert.GatesRefIdeal.nD Cert.GatesRefIdeal.τ).loc Cert.GatesRefIdeal.main_v5) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)
      ∧ m' ((c.tc : Thread Cert.InQRefIdeal.nD Cert.InQRefIdeal.τ).loc Cert.InQRefIdeal.main_arg2) = m ((c.tc : Thread Cert.InQIdeal.nD Cert.InQIdeal.τ).loc Cert.InQIdeal.main_arg2)) →
    ∃ (v0 : (c : Dev Cert.InQIdeal.nD) → Buf (Elt Ideal) ((c.tc : Thread Cert.InQIdeal.nD Cert.InQIdeal.τ).loc Cert.InQIdeal.main_v2_0)) (v1 : (c : Dev Cert.InQIdeal.nD) → Buf (Elt Ideal) ((c.tc : Thread Cert.InQIdeal.nD Cert.InQIdeal.τ).loc Cert.InQIdeal.main_v2_1)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v2_0) = v0 c
          ∧ r.2.mem ((c.tc : Thread Cert.InQIdeal.nD Cert.InQIdeal.τ).loc Cert.InQIdeal.main_v2_1) = v1 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
          ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v4) = v0 c
          ∧ r.2.mem ((c.tc : Thread Cert.InQRefIdeal.nD Cert.InQRefIdeal.τ).loc Cert.InQRefIdeal.main_v7) = v1 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1)
          ∧ r.2.mem ((c.tc : Thread Cert.InQRefIdeal.nD Cert.InQRefIdeal.τ).loc Cert.InQRefIdeal.main_arg2) = m' ((c.tc : Thread Cert.InQRefIdeal.nD Cert.InQRefIdeal.τ).loc Cert.InQRefIdeal.main_arg2))

def preserves_KvA_KvAIdeal : Prop :=
  True

def algebraic_KvAIdeal_KvARefIdeal [hKvAIdeal : Cert.KvAIdeal.Facts] [hKvARefIdeal : Cert.KvARefIdeal.Facts] : Prop :=
  ∀ (m : (ℓ : Loc Cert.KvAIdeal.nD Cert.KvAIdeal.τ Cert.KvAIdeal.sig) → Buf (Elt Ideal) ℓ) (g : Dev Cert.KvAIdeal.nD → PrngReg)
    (m' : (ℓ : Loc Cert.KvARefIdeal.nD Cert.KvARefIdeal.τ Cert.KvARefIdeal.sig) → Buf (Elt Ideal) ℓ) (g' : Dev Cert.KvARefIdeal.nD → PrngReg), Pre_KvAIdeal m →
    (∀ c : Dev Cert.KvAIdeal.nD,
      m' ((c.tc : Thread Cert.KvARefIdeal.nD Cert.KvARefIdeal.τ).loc Cert.KvARefIdeal.main_arg0) = m ((c.tc : Thread Cert.KvAIdeal.nD Cert.KvAIdeal.τ).loc Cert.KvAIdeal.main_arg0)
      ∧ m' ((c.tc : Thread Cert.KvARefIdeal.nD Cert.KvARefIdeal.τ).loc Cert.KvARefIdeal.main_arg1) = m ((c.tc : Thread Cert.KvAIdeal.nD Cert.KvAIdeal.τ).loc Cert.KvAIdeal.main_arg1)
      ∧ m' ((c.tc : Thread Cert.KvARefIdeal.nD Cert.KvARefIdeal.τ).loc Cert.KvARefIdeal.main_arg2) = m ((c.tc : Thread Cert.KvAIdeal.nD Cert.KvAIdeal.τ).loc Cert.KvAIdeal.main_arg2)) →
    ∃ (v0 : (c : Dev Cert.KvAIdeal.nD) → Buf (Elt Ideal) ((c.tc : Thread Cert.KvAIdeal.nD Cert.KvAIdeal.τ).loc Cert.KvAIdeal.main_v2_0)) (v1 : (c : Dev Cert.KvAIdeal.nD) → Buf (Elt Ideal) ((c.tc : Thread Cert.KvAIdeal.nD Cert.KvAIdeal.τ).loc Cert.KvAIdeal.main_v2_1)) (v2 : (c : Dev Cert.KvAIdeal.nD) → Buf (Elt Ideal) ((c.tc : Thread Cert.KvAIdeal.nD Cert.KvAIdeal.τ).loc Cert.KvAIdeal.main_v4)),
      θ_run (Cert.KvAIdeal.defs (F := Ideal)) (onTc (τ := Cert.KvAIdeal.τ) (Cert.KvAIdeal.main (F := Ideal))) ⟨m, fun _ => 0, g⟩ (fun r => ∀ c : Dev Cert.KvAIdeal.nD,
          r.2.mem ((c.tc : Thread Cert.KvAIdeal.nD Cert.KvAIdeal.τ).loc Cert.KvAIdeal.main_v2_0) = v0 c
          ∧ r.2.mem ((c.tc : Thread Cert.KvAIdeal.nD Cert.KvAIdeal.τ).loc Cert.KvAIdeal.main_v2_1) = v1 c
          ∧ r.2.mem ((c.tc : Thread Cert.KvAIdeal.nD Cert.KvAIdeal.τ).loc Cert.KvAIdeal.main_v4) = v2 c
          ∧ r.2.mem ((c.tc : Thread Cert.KvAIdeal.nD Cert.KvAIdeal.τ).loc Cert.KvAIdeal.main_arg0) = m ((c.tc : Thread Cert.KvAIdeal.nD Cert.KvAIdeal.τ).loc Cert.KvAIdeal.main_arg0)
          ∧ r.2.mem ((c.tc : Thread Cert.KvAIdeal.nD Cert.KvAIdeal.τ).loc Cert.KvAIdeal.main_arg1) = m ((c.tc : Thread Cert.KvAIdeal.nD Cert.KvAIdeal.τ).loc Cert.KvAIdeal.main_arg1)
          ∧ r.2.mem ((c.tc : Thread Cert.KvAIdeal.nD Cert.KvAIdeal.τ).loc Cert.KvAIdeal.main_arg2) = m ((c.tc : Thread Cert.KvAIdeal.nD Cert.KvAIdeal.τ).loc Cert.KvAIdeal.main_arg2))
      ∧ θ_run (Cert.KvARefIdeal.defs (F := Ideal)) (onTc (τ := Cert.KvARefIdeal.τ) (Cert.KvARefIdeal.main (F := Ideal))) ⟨m', fun _ => 0, g'⟩ (fun r => ∀ c : Dev Cert.KvARefIdeal.nD,
          r.2.mem ((c.tc : Thread Cert.KvARefIdeal.nD Cert.KvARefIdeal.τ).loc Cert.KvARefIdeal.main_v20) = v0 c
          ∧ r.2.mem ((c.tc : Thread Cert.KvARefIdeal.nD Cert.KvARefIdeal.τ).loc Cert.KvARefIdeal.main_v21) = v1 c
          ∧ r.2.mem ((c.tc : Thread Cert.KvARefIdeal.nD Cert.KvARefIdeal.τ).loc Cert.KvARefIdeal.main_v28) = v2 c
          ∧ r.2.mem ((c.tc : Thread Cert.KvARefIdeal.nD Cert.KvARefIdeal.τ).loc Cert.KvARefIdeal.main_arg0) = m' ((c.tc : Thread Cert.KvARefIdeal.nD Cert.KvARefIdeal.τ).loc Cert.KvARefIdeal.main_arg0)
          ∧ r.2.mem ((c.tc : Thread Cert.KvARefIdeal.nD Cert.KvARefIdeal.τ).loc Cert.KvARefIdeal.main_arg1) = m' ((c.tc : Thread Cert.KvARefIdeal.nD Cert.KvARefIdeal.τ).loc Cert.KvARefIdeal.main_arg1)
          ∧ r.2.mem ((c.tc : Thread Cert.KvARefIdeal.nD Cert.KvARefIdeal.τ).loc Cert.KvARefIdeal.main_arg2) = m' ((c.tc : Thread Cert.KvARefIdeal.nD Cert.KvARefIdeal.τ).loc Cert.KvARefIdeal.main_arg2))

def preserves_KvB_KvBIdeal : Prop :=
  True

def algebraic_KvBIdeal_KvBRefIdeal [hKvBIdeal : Cert.KvBIdeal.Facts] [hKvBRefIdeal : Cert.KvBRefIdeal.Facts] : Prop :=
  ∀ (m : (ℓ : Loc Cert.KvBIdeal.nD Cert.KvBIdeal.τ Cert.KvBIdeal.sig) → Buf (Elt Ideal) ℓ) (g : Dev Cert.KvBIdeal.nD → PrngReg)
    (m' : (ℓ : Loc Cert.KvBRefIdeal.nD Cert.KvBRefIdeal.τ Cert.KvBRefIdeal.sig) → Buf (Elt Ideal) ℓ) (g' : Dev Cert.KvBRefIdeal.nD → PrngReg), Pre_KvBIdeal m →
    (∀ c : Dev Cert.KvBIdeal.nD,
      m' ((c.tc : Thread Cert.KvBRefIdeal.nD Cert.KvBRefIdeal.τ).loc Cert.KvBRefIdeal.main_arg0) = m ((c.tc : Thread Cert.KvBIdeal.nD Cert.KvBIdeal.τ).loc Cert.KvBIdeal.main_arg0)
      ∧ m' ((c.tc : Thread Cert.KvBRefIdeal.nD Cert.KvBRefIdeal.τ).loc Cert.KvBRefIdeal.main_arg1) = m ((c.tc : Thread Cert.KvBIdeal.nD Cert.KvBIdeal.τ).loc Cert.KvBIdeal.main_arg1)
      ∧ m' ((c.tc : Thread Cert.KvBRefIdeal.nD Cert.KvBRefIdeal.τ).loc Cert.KvBRefIdeal.main_arg2) = m ((c.tc : Thread Cert.KvBIdeal.nD Cert.KvBIdeal.τ).loc Cert.KvBIdeal.main_arg2)) →
    ∃ (v0 : (c : Dev Cert.KvBIdeal.nD) → Buf (Elt Ideal) ((c.tc : Thread Cert.KvBIdeal.nD Cert.KvBIdeal.τ).loc Cert.KvBIdeal.main_v2_0)) (v1 : (c : Dev Cert.KvBIdeal.nD) → Buf (Elt Ideal) ((c.tc : Thread Cert.KvBIdeal.nD Cert.KvBIdeal.τ).loc Cert.KvBIdeal.main_v2_1)) (v2 : (c : Dev Cert.KvBIdeal.nD) → Buf (Elt Ideal) ((c.tc : Thread Cert.KvBIdeal.nD Cert.KvBIdeal.τ).loc Cert.KvBIdeal.main_v4)),
      θ_run (Cert.KvBIdeal.defs (F := Ideal)) (onTc (τ := Cert.KvBIdeal.τ) (Cert.KvBIdeal.main (F := Ideal))) ⟨m, fun _ => 0, g⟩ (fun r => ∀ c : Dev Cert.KvBIdeal.nD,
          r.2.mem ((c.tc : Thread Cert.KvBIdeal.nD Cert.KvBIdeal.τ).loc Cert.KvBIdeal.main_v2_0) = v0 c
          ∧ r.2.mem ((c.tc : Thread Cert.KvBIdeal.nD Cert.KvBIdeal.τ).loc Cert.KvBIdeal.main_v2_1) = v1 c
          ∧ r.2.mem ((c.tc : Thread Cert.KvBIdeal.nD Cert.KvBIdeal.τ).loc Cert.KvBIdeal.main_v4) = v2 c
          ∧ r.2.mem ((c.tc : Thread Cert.KvBIdeal.nD Cert.KvBIdeal.τ).loc Cert.KvBIdeal.main_arg0) = m ((c.tc : Thread Cert.KvBIdeal.nD Cert.KvBIdeal.τ).loc Cert.KvBIdeal.main_arg0)
          ∧ r.2.mem ((c.tc : Thread Cert.KvBIdeal.nD Cert.KvBIdeal.τ).loc Cert.KvBIdeal.main_arg1) = m ((c.tc : Thread Cert.KvBIdeal.nD Cert.KvBIdeal.τ).loc Cert.KvBIdeal.main_arg1)
          ∧ r.2.mem ((c.tc : Thread Cert.KvBIdeal.nD Cert.KvBIdeal.τ).loc Cert.KvBIdeal.main_arg2) = m ((c.tc : Thread Cert.KvBIdeal.nD Cert.KvBIdeal.τ).loc Cert.KvBIdeal.main_arg2))
      ∧ θ_run (Cert.KvBRefIdeal.defs (F := Ideal)) (onTc (τ := Cert.KvBRefIdeal.τ) (Cert.KvBRefIdeal.main (F := Ideal))) ⟨m', fun _ => 0, g'⟩ (fun r => ∀ c : Dev Cert.KvBRefIdeal.nD,
          r.2.mem ((c.tc : Thread Cert.KvBRefIdeal.nD Cert.KvBRefIdeal.τ).loc Cert.KvBRefIdeal.main_v20) = v0 c
          ∧ r.2.mem ((c.tc : Thread Cert.KvBRefIdeal.nD Cert.KvBRefIdeal.τ).loc Cert.KvBRefIdeal.main_v21) = v1 c
          ∧ r.2.mem ((c.tc : Thread Cert.KvBRefIdeal.nD Cert.KvBRefIdeal.τ).loc Cert.KvBRefIdeal.main_v28) = v2 c
          ∧ r.2.mem ((c.tc : Thread Cert.KvBRefIdeal.nD Cert.KvBRefIdeal.τ).loc Cert.KvBRefIdeal.main_arg0) = m' ((c.tc : Thread Cert.KvBRefIdeal.nD Cert.KvBRefIdeal.τ).loc Cert.KvBRefIdeal.main_arg0)
          ∧ r.2.mem ((c.tc : Thread Cert.KvBRefIdeal.nD Cert.KvBRefIdeal.τ).loc Cert.KvBRefIdeal.main_arg1) = m' ((c.tc : Thread Cert.KvBRefIdeal.nD Cert.KvBRefIdeal.τ).loc Cert.KvBRefIdeal.main_arg1)
          ∧ r.2.mem ((c.tc : Thread Cert.KvBRefIdeal.nD Cert.KvBRefIdeal.τ).loc Cert.KvBRefIdeal.main_arg2) = m' ((c.tc : Thread Cert.KvBRefIdeal.nD Cert.KvBRefIdeal.τ).loc Cert.KvBRefIdeal.main_arg2))

def preserves_KvC_KvCIdeal : Prop :=
  True

def algebraic_KvCIdeal_KvCRefIdeal [hKvCIdeal : Cert.KvCIdeal.Facts] [hKvCRefIdeal : Cert.KvCRefIdeal.Facts] : Prop :=
  ∀ (m : (ℓ : Loc Cert.KvCIdeal.nD Cert.KvCIdeal.τ Cert.KvCIdeal.sig) → Buf (Elt Ideal) ℓ) (g : Dev Cert.KvCIdeal.nD → PrngReg)
    (m' : (ℓ : Loc Cert.KvCRefIdeal.nD Cert.KvCRefIdeal.τ Cert.KvCRefIdeal.sig) → Buf (Elt Ideal) ℓ) (g' : Dev Cert.KvCRefIdeal.nD → PrngReg), Pre_KvCIdeal m →
    (∀ c : Dev Cert.KvCIdeal.nD,
      m' ((c.tc : Thread Cert.KvCRefIdeal.nD Cert.KvCRefIdeal.τ).loc Cert.KvCRefIdeal.main_arg0) = m ((c.tc : Thread Cert.KvCIdeal.nD Cert.KvCIdeal.τ).loc Cert.KvCIdeal.main_arg0)
      ∧ m' ((c.tc : Thread Cert.KvCRefIdeal.nD Cert.KvCRefIdeal.τ).loc Cert.KvCRefIdeal.main_arg1) = m ((c.tc : Thread Cert.KvCIdeal.nD Cert.KvCIdeal.τ).loc Cert.KvCIdeal.main_arg1)
      ∧ m' ((c.tc : Thread Cert.KvCRefIdeal.nD Cert.KvCRefIdeal.τ).loc Cert.KvCRefIdeal.main_arg2) = m ((c.tc : Thread Cert.KvCIdeal.nD Cert.KvCIdeal.τ).loc Cert.KvCIdeal.main_arg2)) →
    ∃ (v0 : (c : Dev Cert.KvCIdeal.nD) → Buf (Elt Ideal) ((c.tc : Thread Cert.KvCIdeal.nD Cert.KvCIdeal.τ).loc Cert.KvCIdeal.main_v2_0)) (v1 : (c : Dev Cert.KvCIdeal.nD) → Buf (Elt Ideal) ((c.tc : Thread Cert.KvCIdeal.nD Cert.KvCIdeal.τ).loc Cert.KvCIdeal.main_v2_1)),
      θ_run (Cert.KvCIdeal.defs (F := Ideal)) (onTc (τ := Cert.KvCIdeal.τ) (Cert.KvCIdeal.main (F := Ideal))) ⟨m, fun _ => 0, g⟩ (fun r => ∀ c : Dev Cert.KvCIdeal.nD,
          r.2.mem ((c.tc : Thread Cert.KvCIdeal.nD Cert.KvCIdeal.τ).loc Cert.KvCIdeal.main_v2_0) = v0 c
          ∧ r.2.mem ((c.tc : Thread Cert.KvCIdeal.nD Cert.KvCIdeal.τ).loc Cert.KvCIdeal.main_v2_1) = v1 c
          ∧ r.2.mem ((c.tc : Thread Cert.KvCIdeal.nD Cert.KvCIdeal.τ).loc Cert.KvCIdeal.main_arg0) = m ((c.tc : Thread Cert.KvCIdeal.nD Cert.KvCIdeal.τ).loc Cert.KvCIdeal.main_arg0)
          ∧ r.2.mem ((c.tc : Thread Cert.KvCIdeal.nD Cert.KvCIdeal.τ).loc Cert.KvCIdeal.main_arg1) = m ((c.tc : Thread Cert.KvCIdeal.nD Cert.KvCIdeal.τ).loc Cert.KvCIdeal.main_arg1)
          ∧ r.2.mem ((c.tc : Thread Cert.KvCIdeal.nD Cert.KvCIdeal.τ).loc Cert.KvCIdeal.main_arg2) = m ((c.tc : Thread Cert.KvCIdeal.nD Cert.KvCIdeal.τ).loc Cert.KvCIdeal.main_arg2))
      ∧ θ_run (Cert.KvCRefIdeal.defs (F := Ideal)) (onTc (τ := Cert.KvCRefIdeal.τ) (Cert.KvCRefIdeal.main (F := Ideal))) ⟨m', fun _ => 0, g'⟩ (fun r => ∀ c : Dev Cert.KvCRefIdeal.nD,
          r.2.mem ((c.tc : Thread Cert.KvCRefIdeal.nD Cert.KvCRefIdeal.τ).loc Cert.KvCRefIdeal.main_v20) = v0 c
          ∧ r.2.mem ((c.tc : Thread Cert.KvCRefIdeal.nD Cert.KvCRefIdeal.τ).loc Cert.KvCRefIdeal.main_v21) = v1 c
          ∧ r.2.mem ((c.tc : Thread Cert.KvCRefIdeal.nD Cert.KvCRefIdeal.τ).loc Cert.KvCRefIdeal.main_arg0) = m' ((c.tc : Thread Cert.KvCRefIdeal.nD Cert.KvCRefIdeal.τ).loc Cert.KvCRefIdeal.main_arg0)
          ∧ r.2.mem ((c.tc : Thread Cert.KvCRefIdeal.nD Cert.KvCRefIdeal.τ).loc Cert.KvCRefIdeal.main_arg1) = m' ((c.tc : Thread Cert.KvCRefIdeal.nD Cert.KvCRefIdeal.τ).loc Cert.KvCRefIdeal.main_arg1)
          ∧ r.2.mem ((c.tc : Thread Cert.KvCRefIdeal.nD Cert.KvCRefIdeal.τ).loc Cert.KvCRefIdeal.main_arg2) = m' ((c.tc : Thread Cert.KvCRefIdeal.nD Cert.KvCRefIdeal.τ).loc Cert.KvCRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v6) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v43) = v0 c
          ∧ r.2.mem ((c.tc : Thread Cert.ConvRefIdeal.nD Cert.ConvRefIdeal.τ).loc Cert.ConvRefIdeal.main_v44) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hAttC : Cert.AttC.Facts) (hAttCIdeal : Cert.AttCIdeal.Facts) (hAttCRefIdeal : Cert.AttCRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hFinal : Cert.Final.Facts) (hFinalIdeal : Cert.FinalIdeal.Facts) (hFinalRefIdeal : Cert.FinalRefIdeal.Facts) (hFinalS : Cert.FinalS.Facts) (hFinalSIdeal : Cert.FinalSIdeal.Facts) (hFinalSRefIdeal : Cert.FinalSRefIdeal.Facts) (hXbc : Cert.Xbc.Facts) (hXbcIdeal : Cert.XbcIdeal.Facts) (hXbcRefIdeal : Cert.XbcRefIdeal.Facts) (hInZ : Cert.InZ.Facts) (hInZIdeal : Cert.InZIdeal.Facts) (hInZRefIdeal : Cert.InZRefIdeal.Facts) (hGates : Cert.Gates.Facts) (hGatesIdeal : Cert.GatesIdeal.Facts) (hGatesRefIdeal : Cert.GatesRefIdeal.Facts) (hInQ : Cert.InQ.Facts) (hInQIdeal : Cert.InQIdeal.Facts) (hInQRefIdeal : Cert.InQRefIdeal.Facts) (hKvA : Cert.KvA.Facts) (hKvAIdeal : Cert.KvAIdeal.Facts) (hKvARefIdeal : Cert.KvARefIdeal.Facts) (hKvB : Cert.KvB.Facts) (hKvBIdeal : Cert.KvBIdeal.Facts) (hKvBRefIdeal : Cert.KvBRefIdeal.Facts) (hKvC : Cert.KvC.Facts) (hKvCIdeal : Cert.KvCIdeal.Facts) (hKvCRefIdeal : Cert.KvCRefIdeal.Facts) (hConv : Cert.Conv.Facts) (hConvIdeal : Cert.ConvIdeal.Facts) (hConvRefIdeal : Cert.ConvRefIdeal.Facts) (hPre_finite : Cert.Pre_finite.Facts),
    quiescent_AttC (hAttC := hAttC)
    ∧ quiescent_AttCIdeal (hAttCIdeal := hAttCIdeal)
    ∧ quiescent_AttCIdeal_pre_finite (hAttCIdeal := hAttCIdeal) (hPre_finite := hPre_finite)
    ∧ quiescent_AttCRefIdeal (hAttCRefIdeal := hAttCRefIdeal)
    ∧ quiescent_AttCRefIdeal_pre_finite (hAttCRefIdeal := hAttCRefIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Xbc (hXbc := hXbc)
    ∧ quiescent_XbcIdeal (hXbcIdeal := hXbcIdeal)
    ∧ quiescent_XbcRefIdeal (hXbcRefIdeal := hXbcRefIdeal)
    ∧ quiescent_InZ (hInZ := hInZ)
    ∧ quiescent_InZIdeal (hInZIdeal := hInZIdeal)
    ∧ quiescent_InZRefIdeal (hInZRefIdeal := hInZRefIdeal)
    ∧ quiescent_Gates (hGates := hGates)
    ∧ quiescent_GatesIdeal (hGatesIdeal := hGatesIdeal)
    ∧ quiescent_GatesRefIdeal (hGatesRefIdeal := hGatesRefIdeal)
    ∧ quiescent_InQ (hInQ := hInQ)
    ∧ quiescent_InQIdeal (hInQIdeal := hInQIdeal)
    ∧ quiescent_InQRefIdeal (hInQRefIdeal := hInQRefIdeal)
    ∧ quiescent_KvA (hKvA := hKvA)
    ∧ quiescent_KvAIdeal (hKvAIdeal := hKvAIdeal)
    ∧ quiescent_KvARefIdeal (hKvARefIdeal := hKvARefIdeal)
    ∧ quiescent_KvB (hKvB := hKvB)
    ∧ quiescent_KvBIdeal (hKvBIdeal := hKvBIdeal)
    ∧ quiescent_KvBRefIdeal (hKvBRefIdeal := hKvBRefIdeal)
    ∧ quiescent_KvC (hKvC := hKvC)
    ∧ quiescent_KvCIdeal (hKvCIdeal := hKvCIdeal)
    ∧ quiescent_KvCRefIdeal (hKvCRefIdeal := hKvCRefIdeal)
    ∧ quiescent_Conv (hConv := hConv)
    ∧ quiescent_ConvIdeal (hConvIdeal := hConvIdeal)
    ∧ quiescent_ConvRefIdeal (hConvRefIdeal := hConvRefIdeal)
    ∧ preserves_AttC_AttCIdeal
    ∧ algebraic_AttCIdeal_AttCRefIdeal_pre_finite (hAttCIdeal := hAttCIdeal) (hAttCRefIdeal := hAttCRefIdeal) (hPre_finite := hPre_finite)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Final_FinalIdeal
    ∧ algebraic_FinalIdeal_FinalRefIdeal (hFinalIdeal := hFinalIdeal) (hFinalRefIdeal := hFinalRefIdeal)
    ∧ preserves_FinalS_FinalSIdeal
    ∧ algebraic_FinalSIdeal_FinalSRefIdeal (hFinalSIdeal := hFinalSIdeal) (hFinalSRefIdeal := hFinalSRefIdeal)
    ∧ preserves_Xbc_XbcIdeal
    ∧ algebraic_XbcIdeal_XbcRefIdeal (hXbcIdeal := hXbcIdeal) (hXbcRefIdeal := hXbcRefIdeal)
    ∧ preserves_InZ_InZIdeal
    ∧ algebraic_InZIdeal_InZRefIdeal (hInZIdeal := hInZIdeal) (hInZRefIdeal := hInZRefIdeal)
    ∧ preserves_Gates_GatesIdeal
    ∧ algebraic_GatesIdeal_GatesRefIdeal (hGatesIdeal := hGatesIdeal) (hGatesRefIdeal := hGatesRefIdeal)
    ∧ preserves_InQ_InQIdeal
    ∧ algebraic_InQIdeal_InQRefIdeal (hInQIdeal := hInQIdeal) (hInQRefIdeal := hInQRefIdeal)
    ∧ preserves_KvA_KvAIdeal
    ∧ algebraic_KvAIdeal_KvARefIdeal (hKvAIdeal := hKvAIdeal) (hKvARefIdeal := hKvARefIdeal)
    ∧ preserves_KvB_KvBIdeal
    ∧ algebraic_KvBIdeal_KvBRefIdeal (hKvBIdeal := hKvBIdeal) (hKvBRefIdeal := hKvBRefIdeal)
    ∧ preserves_KvC_KvCIdeal
    ∧ algebraic_KvCIdeal_KvCRefIdeal (hKvCIdeal := hKvCIdeal) (hKvCRefIdeal := hKvCRefIdeal)
    ∧ preserves_Conv_ConvIdeal
    ∧ algebraic_ConvIdeal_ConvRefIdeal (hConvIdeal := hConvIdeal) (hConvRefIdeal := hConvRefIdeal)
-- ==== Pre_finite.lean ====
abbrev S8192x24x128 : Shape := ⟨3, ![8192, 24, 128]⟩
abbrev S8192x16x128 : Shape := ⟨3, ![8192, 16, 128]⟩
abbrev S32x24 : Shape := ⟨2, ![32, 24]⟩
abbrev S8192x8x128 : Shape := ⟨3, ![8192, 8, 128]⟩
abbrev S_ : Shape := ⟨0, ![]⟩

class Facts : Prop where
  slices_S8192x16x128_S8192x8x128_0_0_0 : S8192x16x128.Slices ![0, 0, 0] S8192x8x128
  bcast_S_S8192x24x128 : S_.BroadcastsInDim S8192x24x128 (![] : Fin 0 → Fin S8192x24x128.rank)
  bcast_S_S8192x8x128 : S_.BroadcastsInDim S8192x8x128 (![] : Fin 0 → Fin S8192x8x128.rank)
  bcast_S_S32x24 : S_.BroadcastsInDim S32x24 (![] : Fin 0 → Fin S32x24.rank)

variable [Facts]

def fn {F : FTy → Type} [FloatOps F] (main_arg0 : FVec F S8192x24x128 .f32) (main_arg1 : FVec F S8192x16x128 .f32) (main_arg2 : FVec F S32x24 .f32) : IVec S8192x24x128 1 × IVec S8192x8x128 1 × IVec S32x24 1 :=
  let main_v0 : FVec F S8192x8x128 .f32 := (extractStridedSlice S8192x8x128 ![0, 0, 0] · slices_S8192x16x128_S8192x8x128_0_0_0) main_arg1
  let main_v1 : FVec F S8192x24x128 .f32 := Host.absf main_arg0
  let main_cst : FVec F S_ .f32 := constant S_ .f32 0x7F800000#32
  let main_v2 : FVec F S8192x24x128 .f32 := broadcastInDim S8192x24x128 ![] bcast_S_S8192x24x128 main_cst
  let main_v3 : IVec S8192x24x128 1 := cmpf .olt main_v1 main_v2
  let main_v4 : FVec F S8192x8x128 .f32 := Host.absf main_v0
  let main_cst_0 : FVec F S_ .f32 := constant S_ .f32 0x7F800000#32
  let main_v5 : FVec F S8192x8x128 .f32 := broadcastInDim S8192x8x128 ![] bcast_S_S8192x8x128 main_cst_0
  let main_v6 : IVec S8192x8x128 1 := cmpf .olt main_v4 main_v5
  let main_v7 : FVec F S32x24 .f32 := Host.absf main_arg2
  let main_cst_1 : FVec F S_ .f32 := constant S_ .f32 0x7F800000#32
  let main_v8 : FVec F S32x24 .f32 := broadcastInDim S32x24 ![] bcast_S_S32x24 main_cst_1
  let main_v9 : IVec S32x24 1 := cmpf .olt main_v7 main_v8
  (main_v3, main_v6, main_v9)
-- ==== AttC.lean ====
abbrev S8192x24x128 : Shape := ⟨3, ![8192, 24, 128]⟩
abbrev S8192x16x128 : Shape := ⟨3, ![8192, 16, 128]⟩
abbrev S32x24 : Shape := ⟨2, ![32, 24]⟩
abbrev S129 : Shape := ⟨1, ![129]⟩
abbrev S384 : Shape := ⟨1, ![384]⟩
abbrev S_ : Shape := ⟨0, ![]⟩
abbrev S129x1 : Shape := ⟨2, ![129, 1]⟩
abbrev S129x24 : Shape := ⟨2, ![129, 24]⟩
abbrev S129x8 : Shape := ⟨2, ![129, 8]⟩
abbrev S384x1 : Shape := ⟨2, ![384, 1]⟩
abbrev S384x8 : Shape := ⟨2, ![384, 8]⟩
abbrev S8x384 : Shape := ⟨2, ![8, 384]⟩
abbrev S1x8x1x384 : Shape := ⟨4, ![1, 8, 1, 384]⟩
abbrev S1x8x128x384 : Shape := ⟨4, ![1, 8, 128, 384]⟩
abbrev S8x49152 : Shape := ⟨2, ![8, 49152]⟩
abbrev S8x49024 : Shape := ⟨2, ![8, 49024]⟩
abbrev S8x128x383 : Shape := ⟨3, ![8, 128, 383]⟩
abbrev S8x128x256 : Shape := ⟨3, ![8, 128, 256]⟩
abbrev S512x16x24x128 : Shape := ⟨4, ![512, 16, 24, 128]⟩
abbrev S512x16x16x128 : Shape := ⟨4, ![512, 16, 16, 128]⟩
abbrev S512x16x8x128 : Shape := ⟨4, ![512, 16, 8, 128]⟩
abbrev S128x1x8x128 : Shape := ⟨4, ![128, 1, 8, 128]⟩
abbrev S1024x128 : Shape := ⟨2, ![1024, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 47
  | .vmem => 11
  | .smem => 0
  | _ => 0

abbrev bufTy : (tb : Table) → Fin (tcTables nBuf tb) → BufTy
  | .hbm, ⟨0, _⟩ => ⟨S8192x24x128, .f32⟩
  | .hbm, ⟨1, _⟩ => ⟨S8192x16x128, .f32⟩
  | .hbm, ⟨2, _⟩ => ⟨S32x24, .f32⟩
  | .hbm, ⟨3, _⟩ => ⟨S129, .i32⟩
  | .hbm, ⟨4, _⟩ => ⟨S129, .i1⟩
  | .hbm, ⟨5, _⟩ => ⟨S384, .i32⟩
  | .hbm, ⟨6, _⟩ => ⟨S384, .i1⟩
  | .hbm, ⟨7, _⟩ => ⟨S_, .i32⟩
  | .hbm, ⟨8, _⟩ => ⟨S129, .i32⟩
  | .hbm, ⟨9, _⟩ => ⟨S129, .i32⟩
  | .hbm, ⟨10, _⟩ => ⟨S129, .i32⟩
  | .hbm, ⟨11, _⟩ => ⟨S129x1, .i32⟩
  | .hbm, ⟨12, _⟩ => ⟨S129x24, .f32⟩
  | .hbm, ⟨13, _⟩ => ⟨S129x8, .f32⟩
  | .hbm, ⟨14, _⟩ => ⟨S_, .i32⟩
  | .hbm, ⟨15, _⟩ => ⟨S384, .i32⟩
  | .hbm, ⟨16, _⟩ => ⟨S384, .i32⟩
  | .hbm, ⟨17, _⟩ => ⟨S384, .i32⟩
  | .hbm, ⟨18, _⟩ => ⟨S384x1, .i32⟩
  | .hbm, ⟨19, _⟩ => ⟨S384x8, .f32⟩
  | .hbm, ⟨20, _⟩ => ⟨S8x384, .f32⟩
  | .hbm, ⟨21, _⟩ => ⟨S1x8x1x384, .f32⟩
  | .hbm, ⟨22, _⟩ => ⟨S1x8x128x384, .f32⟩
  | .hbm, ⟨23, _⟩ => ⟨S8x49152, .f32⟩
  | .hbm, ⟨24, _⟩ => ⟨S8x49024, .f32⟩
  | .hbm, ⟨25, _⟩ => ⟨S8x128x383, .f32⟩
  | .hbm, ⟨26, _⟩ => ⟨S8x128x256, .i32⟩
  | .hbm, ⟨27, _⟩ => ⟨S_, .i32⟩
  | .hbm, ⟨28, _⟩ => ⟨S8x128x256, .i32⟩
  | .hbm, ⟨29, _⟩ => ⟨S8x128x256, .i32⟩
  | .hbm, ⟨30, _⟩ => ⟨S8x128x256, .i32⟩
  | .hbm, ⟨31, _⟩ => ⟨S8x128x256, .i32⟩
  | .hbm, ⟨32, _⟩ => ⟨S_, .i32⟩
  | .hbm, ⟨33, _⟩ => ⟨S8x128x256, .i32⟩
  | .hbm, ⟨34, _⟩ => ⟨S8x128x256, .i1⟩
  | .hbm, ⟨35, _⟩ => ⟨S_, .i32⟩
  | .hbm, ⟨36, _⟩ => ⟨S8x128x256, .i32⟩
  | .hbm, ⟨37, _⟩ => ⟨S8x128x256, .i1⟩
  | .hbm, ⟨38, _⟩ => ⟨S8x128x256, .i1⟩
  | .hbm, ⟨39, _⟩ => ⟨S8x128x256, .f32⟩
  | .hbm, ⟨40, _⟩ => ⟨S_, .f32⟩
  | .hbm, ⟨41, _⟩ => ⟨S8x128x256, .f32⟩
  | .hbm, ⟨42, _⟩ => ⟨S8x128x256, .f32⟩
  | .hbm, ⟨43, _⟩ => ⟨S512x16x24x128, .f32⟩
  | .hbm, ⟨44, _⟩ => ⟨S512x16x16x128, .f32⟩
  | .hbm, ⟨45, _⟩ => ⟨S512x16x8x128, .f32⟩
  | .hbm, ⟨46, _⟩ => ⟨S512x16x8x128, .f32⟩
  | .local _ .vmem, ⟨0, _⟩ => ⟨S128x1x8x128, .f32⟩
  | .local _ .vmem, ⟨1, _⟩ => ⟨S128x1x8x128, .f32⟩
  | .local _ .vmem, ⟨2, _⟩ => ⟨S128x1x8x128, .f32⟩
  | .local _ .vmem, ⟨3, _⟩ => ⟨S128x1x8x128, .f32⟩
  | .local _ .vmem, ⟨4, _⟩ => ⟨S128x1x8x128, .f32⟩
  | .local _ .vmem, ⟨5, _⟩ => ⟨S128x1x8x128, .f32⟩
  | .local _ .vmem, ⟨6, _⟩ => ⟨S8x128x256, .f32⟩
  | .local _ .vmem, ⟨7, _⟩ => ⟨S128x1x8x128, .f32⟩
  | .local _ .vmem, ⟨8, _⟩ => ⟨S128x1x8x128, .f32⟩
  | .local _ .vmem, ⟨9, _⟩ => ⟨S128x1x8x128, .f32⟩
  | .local _ .vmem, ⟨10, _⟩ => ⟨S128x1x8x128, .f32⟩
  | _, _ => ⟨S8192x24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_c_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let c0_i32 : BitVec 32 := 0#32
  let c0_i32_0 : BitVec 32 := 0#32
  ![v1.toNat, arg1.toNat, c2_i32.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1_i32_0 : BitVec 32 := 1#32
  let c0_i32 : BitVec 32 := 0#32
  let c0_i32_1 : BitVec 32 := 0#32
  ![v1.toNat, arg1.toNat, c1_i32_0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![v1.toNat, arg1.toNat, c0_i32.toNat, c0_i32_0.toNat]

abbrev stage0_0 : Fin 2 → Memref sig .tc .vmem S128x1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S128x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttCRefIdeal.lean ====
abbrev S8192x24x128 : Shape := ⟨3, ![8192, 24, 128]⟩
abbrev S8192x16x128 : Shape := ⟨3, ![8192, 16, 128]⟩
abbrev S32x24 : Shape := ⟨2, ![32, 24]⟩
abbrev S129 : Shape := ⟨1, ![129]⟩
abbrev S_ : Shape := ⟨0, ![]⟩
abbrev S129x1 : Shape := ⟨2, ![129, 1]⟩
abbrev S129x24 : Shape := ⟨2, ![129, 24]⟩
abbrev S129x8 : Shape := ⟨2, ![129, 8]⟩
abbrev S4x2048x3x8x128 : Shape := ⟨5, ![4, 2048, 3, 8, 128]⟩
abbrev S4x2048x1x8x128 : Shape := ⟨5, ![4, 2048, 1, 8, 128]⟩
abbrev S4x2048x8x128 : Shape := ⟨4, ![4, 2048, 8, 128]⟩
abbrev S4x2048x2x8x128 : Shape := ⟨5, ![4, 2048, 2, 8, 128]⟩
abbrev S4x128x16x8x128 : Shape := ⟨5, ![4, 128, 16, 8, 128]⟩
abbrev S4x1x128x16x8x128 : Shape := ⟨6, ![4, 1, 128, 16, 8, 128]⟩
abbrev S4x256x16x8x128 : Shape := ⟨5, ![4, 256, 16, 8, 128]⟩
abbrev S4x2x128x16x8x128 : Shape := ⟨6, ![4, 2, 128, 16, 8, 128]⟩
abbrev S4x1x256x16x8x128 : Shape := ⟨6, ![4, 1, 256, 16, 8, 128]⟩
abbrev S4x1x16x8x128x256 : Shape := ⟨6, ![4, 1, 16, 8, 128, 256]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x1x1x8x128x256 : Shape := ⟨6, ![1, 1, 1, 8, 128, 256]⟩
abbrev S4x1x16x8x128 : Shape := ⟨5, ![4, 1, 16, 8, 128]⟩
abbrev S4x1x16x8x128x1 : Shape := ⟨6, ![4, 1, 16, 8, 128, 1]⟩
abbrev S4x1x16x8x128x128 : Shape := ⟨6, ![4, 1, 16, 8, 128, 128]⟩
abbrev S4x1x128x16x8 : Shape := ⟨5, ![4, 1, 128, 16, 8]⟩
abbrev S4x128x16x8 : Shape := ⟨4, ![4, 128, 16, 8]⟩
abbrev S4x2048x8 : Shape := ⟨3, ![4, 2048, 8]⟩
abbrev S512x16x8x128 : Shape := ⟨4, ![512, 16, 8, 128]⟩
abbrev S4x2048x8x1 : Shape := ⟨4, ![4, 2048, 8, 1]⟩

abbrev nBuf : Space → Nat
  | .hbm => 130
  | .vmem => 0
  | .smem => 0
  | _ => 0

abbrev hbmTy0_0 (i : Nat) : BufTy := match i % 128 with
  | 0 => ⟨S8192x24x128, .f32⟩
  | 1 => ⟨S8192x16x128, .f32⟩
  | 2 => ⟨S32x24, .f32⟩
  | 3 => ⟨S129, .i32⟩
  | 4 => ⟨S129, .i1⟩
  | 5 => ⟨S_, .i32⟩
  | 6 => ⟨S129, .i32⟩
  | 7 => ⟨S129, .i32⟩
  | 8 => ⟨S129, .i32⟩
  | 9 => ⟨S129x1, .i32⟩
  | 10 => ⟨S129x24, .f32⟩
  | 11 => ⟨S129x8, .f32⟩
  | 12 => ⟨S4x2048x3x8x128, .f32⟩
  | 13 => ⟨S4x2048x1x8x128, .f32⟩
  | 14 => ⟨S4x2048x8x128, .f32⟩
  | 15 => ⟨S4x2048x2x8x128, .f32⟩
  | 16 => ⟨S4x2048x1x8x128, .f32⟩
  | 17 => ⟨S4x2048x8x128, .f32⟩
  | 18 => ⟨S4x2048x2x8x128, .f32⟩
  | 19 => ⟨S4x2048x1x8x128, .f32⟩
  | 20 => ⟨S4x2048x8x128, .f32⟩
  | 21 => ⟨S4x128x16x8x128, .f32⟩
  | 22 => ⟨S_, .i32⟩
  | 23 => ⟨S_, .f32⟩
  | 24 => ⟨S4x128x16x8x128, .f32⟩
  | 25 => ⟨S4x1x128x16x8x128, .f32⟩
  | 26 => ⟨S4x128x16x8x128, .f32⟩
  | 27 => ⟨S_, .i32⟩
  | 28 => ⟨S_, .f32⟩
  | 29 => ⟨S4x256x16x8x128, .f32⟩
  | 30 => ⟨S4x2x128x16x8x128, .f32⟩
  | 31 => ⟨S4x1x128x16x8x128, .f32⟩
  | 32 => ⟨S4x1x128x16x8x128, .f32⟩
  | 33 => ⟨S4x1x256x16x8x128, .f32⟩
  | 34 => ⟨S4x128x16x8x128, .f32⟩
  | 35 => ⟨S_, .i32⟩
  | 36 => ⟨S_, .f32⟩
  | 37 => ⟨S4x256x16x8x128, .f32⟩
  | 38 => ⟨S4x2x128x16x8x128, .f32⟩
  | 39 => ⟨S4x1x128x16x8x128, .f32⟩
  | 40 => ⟨S4x1x128x16x8x128, .f32⟩
  | 41 => ⟨S4x1x256x16x8x128, .f32⟩
  | 42 => ⟨S4x1x16x8x128x256, .f32⟩
  | 43 => ⟨S_, .f32⟩
  | 44 => ⟨S4x1x16x8x128x256, .f32⟩
  | 45 => ⟨S4x1x16x8x128x256, .f32⟩
  | 46 => ⟨S128x256, .i32⟩
  | 47 => ⟨S_, .i32⟩
  | 48 => ⟨S128x256, .i32⟩
  | 49 => ⟨S128x256, .i32⟩
  | 50 => ⟨S128x256, .i32⟩
  | 51 => ⟨S128x256, .i32⟩
  | 52 => ⟨S4x1x16x8x128x256, .i32⟩
  | 53 => ⟨S4x1x16x8x128x256, .i32⟩
  | 54 => ⟨S4x1x16x8x128x256, .i32⟩
  | 55 => ⟨S_, .i32⟩
  | 56 => ⟨S4x1x16x8x128x256, .i32⟩
  | 57 => ⟨S4x1x16x8x128x256, .i32⟩
  | 58 => ⟨S_, .i32⟩
  | 59 => ⟨S4x1x16x8x128x256, .i32⟩
  | 60 => ⟨S4x1x16x8x128x256, .i32⟩
  | 61 => ⟨S4x1x16x8x128x256, .i32⟩
  | 62 => ⟨S_, .i32⟩
  | 63 => ⟨S4x1x16x8x128x256, .i32⟩
  | 64 => ⟨S4x1x16x8x128x256, .i32⟩
  | 65 => ⟨S4x1x16x8x128x256, .i32⟩
  | 66 => ⟨S_, .i32⟩
  | 67 => ⟨S4x1x16x8x128x256, .i32⟩
  | 68 => ⟨S4x1x16x8x128x256, .i1⟩
  | 69 => ⟨S_, .i32⟩
  | 70 => ⟨S4x1x16x8x128x256, .i32⟩
  | 71 => ⟨S4x1x16x8x128x256, .i32⟩
  | 72 => ⟨S4x1x16x8x128x256, .i32⟩
  | 73 => ⟨S_, .i32⟩
  | 74 => ⟨S4x1x16x8x128x256, .i32⟩
  | 75 => ⟨S4x1x16x8x128x256, .i1⟩
  | 76 => ⟨S4x1x16x8x128x256, .i1⟩
  | 77 => ⟨S_, .i32⟩
  | 78 => ⟨S4x1x16x8x128x256, .i32⟩
  | 79 => ⟨S4x1x16x8x128x256, .i1⟩
  | 80 => ⟨S4x1x16x8x128x256, .i1⟩
  | 81 => ⟨S_, .i32⟩
  | 82 => ⟨S_, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i32⟩
  | 95 => ⟨S128x256, .i32⟩
  | 96 => ⟨S128x256x1, .i32⟩
  | 97 => ⟨S128x256x8, .f32⟩
  | 98 => ⟨S8x128x256, .f32⟩
  | 99 => ⟨S1x1x1x8x128x256, .f32⟩
  | 100 => ⟨S4x1x16x8x128x256, .f32⟩
  | 101 => ⟨S4x1x16x8x128x256, .f32⟩
  | 102 => ⟨S_, .f32⟩
  | 103 => ⟨S4x1x16x8x128x256, .f32⟩
  | 104 => ⟨S4x1x16x8x128x256, .f32⟩
  | 105 => ⟨S_, .f32⟩
  | 106 => ⟨S4x1x16x8x128, .f32⟩
  | 107 => ⟨S4x1x16x8x128x1, .f32⟩
  | 108 => ⟨S4x1x16x8x128x256, .f32⟩
  | 109 => ⟨S4x1x16x8x128x256, .f32⟩
  | 110 => ⟨S4x1x16x8x128x256, .f32⟩
  | 111 => ⟨S_, .f32⟩
  | 112 => ⟨S4x1x16x8x128, .f32⟩
  | 113 => ⟨S4x1x16x8x128, .f32⟩
  | 114 => ⟨S4x1x16x8x128, .f32⟩
  | 115 => ⟨S4x1x16x8x128x1, .f32⟩
  | 116 => ⟨S4x1x16x8x128x256, .f32⟩
  | 117 => ⟨S4x1x16x8x128x256, .f32⟩
  | 118 => ⟨S4x1x16x8x128x256, .f32⟩
  | 119 => ⟨S4x1x16x8x128x128, .f32⟩
  | 120 => ⟨S4x1x128x16x8x128, .f32⟩
  | 121 => ⟨S4x128x16x8x128, .f32⟩
  | 122 => ⟨S4x2048x8x128, .f32⟩
  | 123 => ⟨S4x1x128x16x8, .f32⟩
  | 124 => ⟨S4x128x16x8, .f32⟩
  | 125 => ⟨S4x2048x8, .f32⟩
  | 126 => ⟨S512x16x8x128, .f32⟩
  | 127 => ⟨S4x2048x8x1, .f32⟩
  | _ => ⟨S8192x24x128, .f32⟩

abbrev hbmTy0_1 (i : Nat) : BufTy := match i % 128 with
  | 0 => ⟨S4x2048x8x128, .f32⟩
  | 1 => ⟨S512x16x8x128, .f32⟩
  | _ => ⟨S8192x24x128, .f32⟩

abbrev hbmTy (i : Nat) : BufTy := match i / 128 with
  | 0 => hbmTy0_0 i
  | 1 => hbmTy0_1 i
  | _ => ⟨S8192x24x128, .f32⟩

abbrev bufTy : (tb : Table) → Fin (tcTables nBuf tb) → BufTy
  | .hbm, ⟨i, _⟩ => hbmTy i
  | _, _ => ⟨S8192x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_call1_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_c_14 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v60 : Ref sig .tc := ⟨.hbm, 88, rfl⟩
abbrev main_c_15 : Ref sig .tc := ⟨.hbm, 89, rfl⟩
abbrev main_v61 : Ref sig .tc := ⟨.hbm, 90, rfl⟩
abbrev main_v62 : Ref sig .tc := ⟨.hbm, 91, rfl⟩
abbrev main_c_16 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_19 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Down.lean ====
abbrev S8192x8192 : Shape := ⟨2, ![8192, 8192]⟩
abbrev S8192x2048 : Shape := ⟨2, ![8192, 2048]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x8192 : Shape := ⟨2, ![8192, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Merge.lean ====
abbrev S8192x4096 : Shape := ⟨2, ![8192, 4096]⟩
abbrev S8192x1024 : Shape := ⟨2, ![8192, 1024]⟩
abbrev S4096x2048 : Shape := ⟨2, ![4096, 2048]⟩
abbrev S1024x2048 : Shape := ⟨2, ![1024, 2048]⟩
abbrev S8192x2048 : Shape := ⟨2, ![8192, 2048]⟩
abbrev S1024x4096 : Shape := ⟨2, ![1024, 4096]⟩
abbrev S1024x1024 : Shape := ⟨2, ![1024, 1024]⟩
abbrev S1024x512 : Shape := ⟨2, ![1024, 512]⟩
abbrev S4096x512 : Shape := ⟨2, ![4096, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S4096x2048, .bf16⟩
  | .hbm, ⟨4, _⟩ => ⟨S1024x2048, .bf16⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | .local _ .vmem, ⟨9, _⟩ => ⟨S4096x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x4096 : Shape := ⟨2, ![8192, 4096]⟩
abbrev S8192x1024 : Shape := ⟨2, ![8192, 1024]⟩
abbrev S4096x2048 : Shape := ⟨2, ![4096, 2048]⟩
abbrev S1024x2048 : Shape := ⟨2, ![1024, 2048]⟩
abbrev S8192x2048 : Shape := ⟨2, ![8192, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S4096x2048, .bf16⟩
  | .hbm, ⟨4, _⟩ => ⟨S1024x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x4096, .f32⟩
  | .hbm, ⟨16, _⟩ => ⟨S4096x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Final.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalIdeal.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== FinalS.lean ====
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S1x2048, .f32⟩
  | .hbm, ⟨3, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinalSRefIdeal.lean ====
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S512x2048, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x2048, .f32⟩
  | .hbm, ⟨14, _⟩ => ⟨S512x2048, .f32⟩
  | .hbm, ⟨15, _⟩ => ⟨S1x2048, .f32⟩
  | .hbm, ⟨16, _⟩ => ⟨S512x2048, .f32⟩
  | .hbm, ⟨17, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Xbc.lean ====
abbrev S512x2048 : Shape := ⟨2, ![512, 2048]⟩
abbrev S1x2048x23616 : Shape := ⟨3, ![1, 2048, 23616]⟩
abbrev S1x128x3x6144 : Shape := ⟨4, ![1, 128, 3, 6144]⟩
abbrev S2048x23616 : Shape := ⟨2, ![2048, 23616]⟩
abbrev S23616x2048 : Shape := ⟨2, ![23616, 2048]⟩
abbrev S512x6144 : Shape := ⟨2, ![512, 6144]⟩
abbrev S1024x2048 : Shape := ⟨2, ![1024, 2048]⟩
abbrev S512x1024 : Shape := ⟨2, ![512, 1024]⟩
abbrev S128x3x6144 : Shape := ⟨3, ![128, 3, 6144]⟩
abbrev S128x18432 : Shape := ⟨2, ![128, 18432]⟩
abbrev S128x24576 : Shape := ⟨2, ![128, 24576]⟩
abbrev S128x43008 : Shape := ⟨2, ![128, 43008]⟩
abbrev S128x7x6144 : Shape := ⟨3, ![128, 7, 6144]⟩

abbrev nBuf : Space → Nat
  | .hbm => 12
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S1x2048x23616, .f32⟩
  | .hbm, ⟨2, _⟩ => ⟨S1x128x3x6144, .f32⟩
  | .hbm, ⟨3, _⟩ => ⟨S2048x23616, .f32⟩
  | .hbm, ⟨4, _⟩ => ⟨S23616x2048, .f32⟩
  | .hbm, ⟨5, _⟩ => ⟨S512x6144, .f32⟩
  | .hbm, ⟨6, _⟩ => ⟨S128x3x6144, .f32⟩
  | .hbm, ⟨7, _⟩ => ⟨S128x18432, .f32⟩
  | .hbm, ⟨8, _⟩ => ⟨S128x24576, .f32⟩
  | .hbm, ⟨9, _⟩ => ⟨S128x43008, .f32⟩
  | .hbm, ⟨10, _⟩ => ⟨S128x7x6144, .f32⟩
  | .hbm, ⟨11, _⟩ => ⟨S128x3x6144, .f32⟩
  | .local _ .vmem, ⟨0, _⟩ => ⟨S512x2048, .bf16⟩
  | .local _ .vmem, ⟨1, _⟩ => ⟨S1024x2048, .f32⟩
  | .local _ .vmem, ⟨2, _⟩ => ⟨S1024x2048, .f32⟩
  | .local _ .vmem, ⟨3, _⟩ => ⟨S512x1024, .f32⟩
  | .local _ .vmem, ⟨4, _⟩ => ⟨S512x1024, .f32⟩
  | .local _ .vmem, ⟨5, _⟩ => ⟨S1024x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 1], ![false, false]⟩

def k0_mult1 (i : grid0.Coords) : BitVec 32 :=
  let c4096_i32 : BitVec 32 := 4096#32
  let arg0 : BitVec 32 := BitVec.ofNat 32 (i 0).val
  let c1024_i32 : BitVec 32 := 1024#32
  let v0 : BitVec 32 := Scalar.muli arg0 c1024_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcRefIdeal.lean ====
abbrev S512x2048 : Shape := ⟨2, ![512, 2048]⟩
abbrev S1x2048x23616 : Shape := ⟨3, ![1, 2048, 23616]⟩
abbrev S1x128x3x6144 : Shape := ⟨4, ![1, 128, 3, 6144]⟩
abbrev S2048x23616 : Shape := ⟨2, ![2048, 23616]⟩
abbrev S2048x6144 : Shape := ⟨2, ![2048, 6144]⟩
abbrev S512x6144 : Shape := ⟨2, ![512, 6144]⟩
abbrev S128x3x6144 : Shape := ⟨3, ![128, 3, 6144]⟩
abbrev S128x4x6144 : Shape := ⟨3, ![128, 4, 6144]⟩
abbrev S128x7x6144 : Shape := ⟨3, ![128, 7, 6144]⟩

abbrev nBuf : Space → Nat
  | .hbm => 11
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1x2048x23616, .f32⟩
  | .hbm, ⟨2, _⟩ => ⟨S1x128x3x6144, .f32⟩
  | .hbm, ⟨3, _⟩ => ⟨S512x2048, .f32⟩
  | .hbm, ⟨4, _⟩ => ⟨S2048x23616, .f32⟩
  | .hbm, ⟨5, _⟩ => ⟨S2048x6144, .f32⟩
  | .hbm, ⟨6, _⟩ => ⟨S512x6144, .f32⟩
  | .hbm, ⟨7, _⟩ => ⟨S128x3x6144, .f32⟩
  | .hbm, ⟨8, _⟩ => ⟨S128x4x6144, .f32⟩
  | .hbm, ⟨9, _⟩ => ⟨S128x7x6144, .f32⟩
  | .hbm, ⟨10, _⟩ => ⟨S128x3x6144, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InZ.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S23616x2048 : Shape := ⟨2, ![23616, 2048]⟩
abbrev S8192x4096 : Shape := ⟨2, ![8192, 4096]⟩
abbrev S512x4096 : Shape := ⟨2, ![512, 4096]⟩
abbrev S1024x2048 : Shape := ⟨2, ![1024, 2048]⟩
abbrev S1024x1024 : Shape := ⟨2, ![1024, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S23616x2048, .f32⟩
  | .hbm, ⟨5, _⟩ => ⟨S8192x4096, .f32⟩
  | .hbm, ⟨6, _⟩ => ⟨S512x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S1024x1024, .f32⟩
  | .local _ .vmem, ⟨6, _⟩ => ⟨S1024x1024, .f32⟩
  | .local _ .vmem, ⟨7, _⟩ => ⟨S512x1024, .f32⟩
  | .local _ .vmem, ⟨8, _⟩ => ⟨S512x1024, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InZRefIdeal.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S2048x4096 : Shape := ⟨2, ![2048, 4096]⟩
abbrev S8192x4096 : Shape := ⟨2, ![8192, 4096]⟩
abbrev S512x4096 : Shape := ⟨2, ![512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S2048x4096, .f32⟩
  | .hbm, ⟨5, _⟩ => ⟨S8192x2048, .f32⟩
  | .hbm, ⟨6, _⟩ => ⟨S8192x4096, .f32⟩
  | .hbm, ⟨7, _⟩ => ⟨S512x2048, .f32⟩
  | .hbm, ⟨8, _⟩ => ⟨S512x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gates.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S23616x2048 : Shape := ⟨2, ![23616, 2048]⟩
abbrev S8192x4096 : Shape := ⟨2, ![8192, 4096]⟩
abbrev S512x4096 : Shape := ⟨2, ![512, 4096]⟩
abbrev S1024x2048 : Shape := ⟨2, ![1024, 2048]⟩
abbrev S1024x1024 : Shape := ⟨2, ![1024, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S23616x2048, .f32⟩
  | .hbm, ⟨5, _⟩ => ⟨S8192x4096, .f32⟩
  | .hbm, ⟨6, _⟩ => ⟨S512x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S1024x1024, .f32⟩
  | .local _ .vmem, ⟨6, _⟩ => ⟨S1024x1024, .f32⟩
  | .local _ .vmem, ⟨7, _⟩ => ⟨S512x1024, .f32⟩
  | .local _ .vmem, ⟨8, _⟩ => ⟨S512x1024, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_mult1 (i : grid0.Coords) : BitVec 32 :=
  let c19520_i32 : BitVec 32 := 19520#32
  let arg0 : BitVec 32 := BitVec.ofNat 32 (i 0).val
  let c1024_i32 : BitVec 32 := 1024#32
  let v0 : BitVec 32 := Scalar.muli arg0 c1024_i32
  let v1 : BitVec 32 := Scalar.addi c19520_i32 v0
  v1
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c19520_i32 : BitVec 32 := 19520#32
  let v1 : BitVec 32 := Scalar.addi c19520_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GatesRefIdeal.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S2048x4096 : Shape := ⟨2, ![2048, 4096]⟩
abbrev S8192x4096 : Shape := ⟨2, ![8192, 4096]⟩
abbrev S512x4096 : Shape := ⟨2, ![512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S2048x4096, .f32⟩
  | .hbm, ⟨5, _⟩ => ⟨S8192x2048, .f32⟩
  | .hbm, ⟨6, _⟩ => ⟨S8192x4096, .f32⟩
  | .hbm, ⟨7, _⟩ => ⟨S512x2048, .f32⟩
  | .hbm, ⟨8, _⟩ => ⟨S512x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InQ.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S23616x2048 : Shape := ⟨2, ![23616, 2048]⟩
abbrev S8192x24x128 : Shape := ⟨3, ![8192, 24, 128]⟩
abbrev S512x24x128 : Shape := ⟨3, ![512, 24, 128]⟩
abbrev S1024x2048 : Shape := ⟨2, ![1024, 2048]⟩
abbrev S1024x8x128 : Shape := ⟨3, ![1024, 8, 128]⟩
abbrev S512x8x128 : Shape := ⟨3, ![512, 8, 128]⟩
abbrev S1024x1024 : Shape := ⟨2, ![1024, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩
abbrev S4096x128 : Shape := ⟨2, ![4096, 128]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S23616x2048, .f32⟩
  | .hbm, ⟨5, _⟩ => ⟨S8192x24x128, .f32⟩
  | .hbm, ⟨6, _⟩ => ⟨S512x24x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S1024x8x128, .f32⟩
  | .local _ .vmem, ⟨6, _⟩ => ⟨S1024x8x128, .f32⟩
  | .local _ .vmem, ⟨7, _⟩ => ⟨S512x8x128, .f32⟩
  | .local _ .vmem, ⟨8, _⟩ => ⟨S512x8x128, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 9], ![false, false]⟩

def k0_mult1 (i : grid0.Coords) : BitVec 32 :=
  let c10304_i32 : BitVec 32 := 10304#32
  let arg0 : BitVec 32 := BitVec.ofNat 32 (i 0).val
  let c1024_i32 : BitVec 32 := 1024#32
  let v0 : BitVec 32 := Scalar.muli arg0 c1024_i32
  let v1 : BitVec 32 := Scalar.addi c10304_i32 v0
  v1
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c10304_i32 : BitVec 32 := 10304#32
  let v1 : BitVec 32 := Scalar.addi c10304_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InQRefIdeal.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S2048x3072 : Shape := ⟨2, ![2048, 3072]⟩
abbrev S8192x3072 : Shape := ⟨2, ![8192, 3072]⟩
abbrev S8192x24x128 : Shape := ⟨3, ![8192, 24, 128]⟩
abbrev S512x3072 : Shape := ⟨2, ![512, 3072]⟩
abbrev S512x24x128 : Shape := ⟨3, ![512, 24, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S2048x3072, .f32⟩
  | .hbm, ⟨5, _⟩ => ⟨S8192x2048, .f32⟩
  | .hbm, ⟨6, _⟩ => ⟨S8192x3072, .f32⟩
  | .hbm, ⟨7, _⟩ => ⟨S8192x24x128, .f32⟩
  | .hbm, ⟨8, _⟩ => ⟨S512x2048, .f32⟩
  | .hbm, ⟨9, _⟩ => ⟨S512x3072, .f32⟩
  | .hbm, ⟨10, _⟩ => ⟨S512x24x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvA.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S23616x2048 : Shape := ⟨2, ![23616, 2048]⟩
abbrev S8192x16x128 : Shape := ⟨3, ![8192, 16, 128]⟩
abbrev S512x16x128 : Shape := ⟨3, ![512, 16, 128]⟩
abbrev S1024x2048 : Shape := ⟨2, ![1024, 2048]⟩
abbrev S1024x8x128 : Shape := ⟨3, ![1024, 8, 128]⟩
abbrev S512x8x128 : Shape := ⟨3, ![512, 8, 128]⟩
abbrev S1024x1024 : Shape := ⟨2, ![1024, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩
abbrev S4096x128 : Shape := ⟨2, ![4096, 128]⟩
abbrev S4x2048x2x8x128 : Shape := ⟨5, ![4, 2048, 2, 8, 128]⟩
abbrev S4x128x2x8x128 : Shape := ⟨5, ![4, 128, 2, 8, 128]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S23616x2048, .f32⟩
  | .hbm, ⟨5, _⟩ => ⟨S8192x16x128, .f32⟩
  | .hbm, ⟨6, _⟩ => ⟨S512x16x128, .f32⟩
  | .hbm, ⟨7, _⟩ => ⟨S4x2048x2x8x128, .f32⟩
  | .hbm, ⟨8, _⟩ => ⟨S4x128x2x8x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S1024x8x128, .f32⟩
  | .local _ .vmem, ⟨6, _⟩ => ⟨S1024x8x128, .f32⟩
  | .local _ .vmem, ⟨7, _⟩ => ⟨S512x8x128, .f32⟩
  | .local _ .vmem, ⟨8, _⟩ => ⟨S512x8x128, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 9], ![false, false]⟩

def k0_mult1 (i : grid0.Coords) : BitVec 32 :=
  let c13376_i32 : BitVec 32 := 13376#32
  let arg0 : BitVec 32 := BitVec.ofNat 32 (i 0).val
  let c3072_i32 : BitVec 32 := 3072#32
  let v0 : BitVec 32 := Scalar.muli arg0 c3072_i32
  let v1 : BitVec 32 := Scalar.addi c13376_i32 v0
  v1
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c13376_i32 : BitVec 32 := 13376#32
  let v1 : BitVec 32 := Scalar.addi c13376_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KvARefIdeal.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S2048x1024 : Shape := ⟨2, ![2048, 1024]⟩
abbrev S8192x1024 : Shape := ⟨2, ![8192, 1024]⟩
abbrev S8192x8x128 : Shape := ⟨3, ![8192, 8, 128]⟩
abbrev S512x1024 : Shape := ⟨2, ![512, 1024]⟩
abbrev S512x8x128 : Shape := ⟨3, ![512, 8, 128]⟩
abbrev S8192x16x128 : Shape := ⟨3, ![8192, 16, 128]⟩
abbrev S512x16x128 : Shape := ⟨3, ![512, 16, 128]⟩
abbrev S4x2048x8x128 : Shape := ⟨4, ![4, 2048, 8, 128]⟩
abbrev S4x128x8x128 : Shape := ⟨4, ![4, 128, 8, 128]⟩
abbrev S4x128x1x8x128 : Shape := ⟨5, ![4, 128, 1, 8, 128]⟩
abbrev S4x128x2x8x128 : Shape := ⟨5, ![4, 128, 2, 8, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x8x128, .f32⟩
  | .hbm, ⟨8, _⟩ => ⟨S2048x23616, .f32⟩
  | .hbm, ⟨9, _⟩ => ⟨S2048x1024, .f32⟩
  | .hbm, ⟨10, _⟩ => ⟨S8192x2048, .f32⟩
  | .hbm, ⟨11, _⟩ => ⟨S8192x1024, .f32⟩
  | .hbm, ⟨12, _⟩ => ⟨S8192x8x128, .f32⟩
  | .hbm, ⟨13, _⟩ => ⟨S2048x23616, .f32⟩
  | .hbm, ⟨14, _⟩ => ⟨S2048x1024, .f32⟩
  | .hbm, ⟨15, _⟩ => ⟨S512x2048, .f32⟩
  | .hbm, ⟨16, _⟩ => ⟨S512x1024, .f32⟩
  | .hbm, ⟨17, _⟩ => ⟨S512x8x128, .f32⟩
  | .hbm, ⟨18, _⟩ => ⟨S2048x23616, .f32⟩
  | .hbm, ⟨19, _⟩ => ⟨S2048x1024, .f32⟩
  | .hbm, ⟨20, _⟩ => ⟨S512x2048, .f32⟩
  | .hbm, ⟨21, _⟩ => ⟨S512x1024, .f32⟩
  | .hbm, ⟨22, _⟩ => ⟨S512x8x128, .f32⟩
  | .hbm, ⟨23, _⟩ => ⟨S8192x16x128, .f32⟩
  | .hbm, ⟨24, _⟩ => ⟨S512x16x128, .f32⟩
  | .hbm, ⟨25, _⟩ => ⟨S4x2048x8x128, .f32⟩
  | .hbm, ⟨26, _⟩ => ⟨S4x128x8x128, .f32⟩
  | .hbm, ⟨27, _⟩ => ⟨S4x2048x8x128, .f32⟩
  | .hbm, ⟨28, _⟩ => ⟨S4x128x8x128, .f32⟩
  | .hbm, ⟨29, _⟩ => ⟨S4x128x1x8x128, .f32⟩
  | .hbm, ⟨30, _⟩ => ⟨S4x128x1x8x128, .f32⟩
  | .hbm, ⟨31, _⟩ => ⟨S4x128x2x8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== KvB.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S23616x2048 : Shape := ⟨2, ![23616, 2048]⟩
abbrev S8192x16x128 : Shape := ⟨3, ![8192, 16, 128]⟩
abbrev S512x16x128 : Shape := ⟨3, ![512, 16, 128]⟩
abbrev S1024x2048 : Shape := ⟨2, ![1024, 2048]⟩
abbrev S1024x8x128 : Shape := ⟨3, ![1024, 8, 128]⟩
abbrev S512x8x128 : Shape := ⟨3, ![512, 8, 128]⟩
abbrev S1024x1024 : Shape := ⟨2, ![1024, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩
abbrev S4096x128 : Shape := ⟨2, ![4096, 128]⟩
abbrev S4x2048x2x8x128 : Shape := ⟨5, ![4, 2048, 2, 8, 128]⟩
abbrev S4x512x2x8x128 : Shape := ⟨5, ![4, 512, 2, 8, 128]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S23616x2048, .f32⟩
  | .hbm, ⟨5, _⟩ => ⟨S8192x16x128, .f32⟩
  | .hbm, ⟨6, _⟩ => ⟨S512x16x128, .f32⟩
  | .hbm, ⟨7, _⟩ => ⟨S4x2048x2x8x128, .f32⟩
  | .hbm, ⟨8, _⟩ => ⟨S4x512x2x8x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S1024x8x128, .f32⟩
  | .local _ .vmem, ⟨6, _⟩ => ⟨S1024x8x128, .f32⟩
  | .local _ .vmem, ⟨7, _⟩ => ⟨S512x8x128, .f32⟩
  | .local _ .vmem, ⟨8, _⟩ => ⟨S512x8x128, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 9], ![false, false]⟩

def k0_mult1 (i : grid0.Coords) : BitVec 32 :=
  let c14400_i32 : BitVec 32 := 14400#32
  let arg0 : BitVec 32 := BitVec.ofNat 32 (i 0).val
  let c3072_i32 : BitVec 32 := 3072#32
  let v0 : BitVec 32 := Scalar.muli arg0 c3072_i32
  let v1 : BitVec 32 := Scalar.addi c14400_i32 v0
  v1
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c14400_i32 : BitVec 32 := 14400#32
  let v1 : BitVec 32 := Scalar.addi c14400_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KvBRefIdeal.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S2048x1024 : Shape := ⟨2, ![2048, 1024]⟩
abbrev S8192x1024 : Shape := ⟨2, ![8192, 1024]⟩
abbrev S8192x8x128 : Shape := ⟨3, ![8192, 8, 128]⟩
abbrev S512x1024 : Shape := ⟨2, ![512, 1024]⟩
abbrev S512x8x128 : Shape := ⟨3, ![512, 8, 128]⟩
abbrev S8192x16x128 : Shape := ⟨3, ![8192, 16, 128]⟩
abbrev S512x16x128 : Shape := ⟨3, ![512, 16, 128]⟩
abbrev S4x2048x8x128 : Shape := ⟨4, ![4, 2048, 8, 128]⟩
abbrev S4x512x8x128 : Shape := ⟨4, ![4, 512, 8, 128]⟩
abbrev S4x512x1x8x128 : Shape := ⟨5, ![4, 512, 1, 8, 128]⟩
abbrev S4x512x2x8x128 : Shape := ⟨5, ![4, 512, 2, 8, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x8x128, .f32⟩
  | .hbm, ⟨8, _⟩ => ⟨S2048x23616, .f32⟩
  | .hbm, ⟨9, _⟩ => ⟨S2048x1024, .f32⟩
  | .hbm, ⟨10, _⟩ => ⟨S8192x2048, .f32⟩
  | .hbm, ⟨11, _⟩ => ⟨S8192x1024, .f32⟩
  | .hbm, ⟨12, _⟩ => ⟨S8192x8x128, .f32⟩
  | .hbm, ⟨13, _⟩ => ⟨S2048x23616, .f32⟩
  | .hbm, ⟨14, _⟩ => ⟨S2048x1024, .f32⟩
  | .hbm, ⟨15, _⟩ => ⟨S512x2048, .f32⟩
  | .hbm, ⟨16, _⟩ => ⟨S512x1024, .f32⟩
  | .hbm, ⟨17, _⟩ => ⟨S512x8x128, .f32⟩
  | .hbm, ⟨18, _⟩ => ⟨S2048x23616, .f32⟩
  | .hbm, ⟨19, _⟩ => ⟨S2048x1024, .f32⟩
  | .hbm, ⟨20, _⟩ => ⟨S512x2048, .f32⟩
  | .hbm, ⟨21, _⟩ => ⟨S512x1024, .f32⟩
  | .hbm, ⟨22, _⟩ => ⟨S512x8x128, .f32⟩
  | .hbm, ⟨23, _⟩ => ⟨S8192x16x128, .f32⟩
  | .hbm, ⟨24, _⟩ => ⟨S512x16x128, .f32⟩
  | .hbm, ⟨25, _⟩ => ⟨S4x2048x8x128, .f32⟩
  | .hbm, ⟨26, _⟩ => ⟨S4x512x8x128, .f32⟩
  | .hbm, ⟨27, _⟩ => ⟨S4x2048x8x128, .f32⟩
  | .hbm, ⟨28, _⟩ => ⟨S4x512x8x128, .f32⟩
  | .hbm, ⟨29, _⟩ => ⟨S4x512x1x8x128, .f32⟩
  | .hbm, ⟨30, _⟩ => ⟨S4x512x1x8x128, .f32⟩
  | .hbm, ⟨31, _⟩ => ⟨S4x512x2x8x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== KvC.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S23616x2048 : Shape := ⟨2, ![23616, 2048]⟩
abbrev S8192x16x128 : Shape := ⟨3, ![8192, 16, 128]⟩
abbrev S512x16x128 : Shape := ⟨3, ![512, 16, 128]⟩
abbrev S1024x2048 : Shape := ⟨2, ![1024, 2048]⟩
abbrev S1024x8x128 : Shape := ⟨3, ![1024, 8, 128]⟩
abbrev S512x8x128 : Shape := ⟨3, ![512, 8, 128]⟩
abbrev S1024x1024 : Shape := ⟨2, ![1024, 1024]⟩
abbrev S1024x128 : Shape := ⟨2, ![1024, 128]⟩
abbrev S8192x128 : Shape := ⟨2, ![8192, 128]⟩
abbrev S512x1024 : Shape := ⟨2, ![512, 1024]⟩
abbrev S512x128 : Shape := ⟨2, ![512, 128]⟩
abbrev S4096x128 : Shape := ⟨2, ![4096, 128]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S23616x2048, .f32⟩
  | .hbm, ⟨5, _⟩ => ⟨S8192x16x128, .f32⟩
  | .hbm, ⟨6, _⟩ => ⟨S512x16x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .bf16⟩
  | .local _ .vmem, ⟨5, _⟩ => ⟨S1024x8x128, .f32⟩
  | .local _ .vmem, ⟨6, _⟩ => ⟨S1024x8x128, .f32⟩
  | .local _ .vmem, ⟨7, _⟩ => ⟨S512x8x128, .f32⟩
  | .local _ .vmem, ⟨8, _⟩ => ⟨S512x8x128, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 9], ![false, false]⟩

def k0_mult1 (i : grid0.Coords) : BitVec 32 :=
  let c15424_i32 : BitVec 32 := 15424#32
  let arg0 : BitVec 32 := BitVec.ofNat 32 (i 0).val
  let c3072_i32 : BitVec 32 := 3072#32
  let v0 : BitVec 32 := Scalar.muli arg0 c3072_i32
  let v1 : BitVec 32 := Scalar.addi c15424_i32 v0
  v1
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c15424_i32 : BitVec 32 := 15424#32
  let v1 : BitVec 32 := Scalar.addi c15424_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KvCRefIdeal.lean ====
abbrev S8192x2048 : Shape := ⟨2, ![8192, 2048]⟩
abbrev S512x2048 : Shape := ⟨2, ![512, 2048]⟩
abbrev S1x2048x23616 : Shape := ⟨3, ![1, 2048, 23616]⟩
abbrev S2048x23616 : Shape := ⟨2, ![2048, 23616]⟩
abbrev S2048x1024 : Shape := ⟨2, ![2048, 1024]⟩
abbrev S8192x1024 : Shape := ⟨2, ![8192, 1024]⟩
abbrev S8192x8x128 : Shape := ⟨3, ![8192, 8, 128]⟩
abbrev S512x1024 : Shape := ⟨2, ![512, 1024]⟩
abbrev S512x8x128 : Shape := ⟨3, ![512, 8, 128]⟩
abbrev S8192x16x128 : Shape := ⟨3, ![8192, 16, 128]⟩
abbrev S512x16x128 : Shape := ⟨3, ![512, 16, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x23616, .f32⟩
  | .hbm, ⟨3, _⟩ => ⟨S2048x23616, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x8x128, .f32⟩
  | .hbm, ⟨8, _⟩ => ⟨S2048x23616, .f32⟩
  | .hbm, ⟨9, _⟩ => ⟨S2048x1024, .f32⟩
  | .hbm, ⟨10, _⟩ => ⟨S8192x2048, .f32⟩
  | .hbm, ⟨11, _⟩ => ⟨S8192x1024, .f32⟩
  | .hbm, ⟨12, _⟩ => ⟨S8192x8x128, .f32⟩
  | .hbm, ⟨13, _⟩ => ⟨S2048x23616, .f32⟩
  | .hbm, ⟨14, _⟩ => ⟨S2048x1024, .f32⟩
  | .hbm, ⟨15, _⟩ => ⟨S512x2048, .f32⟩
  | .hbm, ⟨16, _⟩ => ⟨S512x1024, .f32⟩
  | .hbm, ⟨17, _⟩ => ⟨S512x8x128, .f32⟩
  | .hbm, ⟨18, _⟩ => ⟨S2048x23616, .f32⟩
  | .hbm, ⟨19, _⟩ => ⟨S2048x1024, .f32⟩
  | .hbm, ⟨20, _⟩ => ⟨S512x2048, .f32⟩
  | .hbm, ⟨21, _⟩ => ⟨S512x1024, .f32⟩
  | .hbm, ⟨22, _⟩ => ⟨S512x8x128, .f32⟩
  | .hbm, ⟨23, _⟩ => ⟨S8192x16x128, .f32⟩
  | .hbm, ⟨24, _⟩ => ⟨S512x16x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Conv.lean ====
abbrev S8192x2048 : Shape := ⟨2, ![8192, 2048]⟩
abbrev S1x2048x23616 : Shape := ⟨3, ![1, 2048, 23616]⟩
abbrev S1x4x6144 : Shape := ⟨3, ![1, 4, 6144]⟩
abbrev S1x6144 : Shape := ⟨2, ![1, 6144]⟩
abbrev S2048x23616 : Shape := ⟨2, ![2048, 23616]⟩
abbrev S23616x2048 : Shape := ⟨2, ![23616, 2048]⟩
abbrev S4x6144 : Shape := ⟨2, ![4, 6144]⟩
abbrev S6144 : Shape := ⟨1, ![6144]⟩
abbrev S8192x6144 : Shape := ⟨2, ![8192, 6144]⟩
abbrev S4x8x6144 : Shape := ⟨3, ![4, 8, 6144]⟩
abbrev S1024x2048 : Shape := ⟨2, ![1024, 2048]⟩
abbrev S4x1024 : Shape := ⟨2, ![4, 1024]⟩
abbrev S1x1024 : Shape := ⟨2, ![1, 1024]⟩
abbrev S1024x1024 : Shape := ⟨2, ![1024, 1024]⟩
abbrev S1x8x1024 : Shape := ⟨3, ![1, 8, 1024]⟩
abbrev S1032x1024 : Shape := ⟨2, ![1032, 1024]⟩
abbrev S8x1024 : Shape := ⟨2, ![8, 1024]⟩
abbrev S256x2048 : Shape := ⟨2, ![256, 2048]⟩
abbrev S1024x256 : Shape := ⟨2, ![1024, 256]⟩
abbrev S1x256 : Shape := ⟨2, ![1, 256]⟩
abbrev S8x256 : Shape := ⟨2, ![8, 256]⟩
abbrev S1x8x256 : Shape := ⟨3, ![1, 8, 256]⟩
abbrev S4x3x6144 : Shape := ⟨3, ![4, 3, 6144]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S1x2048x23616, .f32⟩
  | .hbm, ⟨2, _⟩ => ⟨S1x4x6144, .f32⟩
  | .hbm, ⟨3, _⟩ => ⟨S1x6144, .f32⟩
  | .hbm, ⟨4, _⟩ => ⟨S2048x23616, .f32⟩
  | .hbm, ⟨5, _⟩ => ⟨S23616x2048, .f32⟩
  | .hbm, ⟨6, _⟩ => ⟨S4x6144, .f32⟩
  | .hbm, ⟨7, _⟩ => ⟨S6144, .f32⟩
  | .hbm, ⟨8, _⟩ => ⟨S1x6144, .f32⟩
  | .hbm, ⟨9, _⟩ => ⟨S8192x6144, .f32⟩
  | .hbm, ⟨10, _⟩ => ⟨S4x8x6144, .f32⟩
  | .hbm, ⟨11, _⟩ => ⟨S4x3x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x8x1024, .f32⟩
  | .local _ .vmem, ⟨11, _⟩ => ⟨S1x8x1024, .f32⟩
  | .local _ .vmem, ⟨12, _⟩ => ⟨S1024x2048, .bf16⟩
  | .local _ .vmem, ⟨13, _⟩ => ⟨S1032x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c4096_i32 : BitVec 32 := 4096#32
  let arg0 : BitVec 32 := BitVec.ofNat 32 (i 0).val
  let c1024_i32 : BitVec 32 := 1024#32
  let v0 : BitVec 32 := Scalar.muli arg0 c1024_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S8192x2048 : Shape := ⟨2, ![8192, 2048]⟩
abbrev S1x2048x23616 : Shape := ⟨3, ![1, 2048, 23616]⟩
abbrev S1x4x6144 : Shape := ⟨3, ![1, 4, 6144]⟩
abbrev S1x6144 : Shape := ⟨2, ![1, 6144]⟩
abbrev S2048x23616 : Shape := ⟨2, ![2048, 23616]⟩
abbrev S2048x6144 : Shape := ⟨2, ![2048, 6144]⟩
abbrev S8192x6144 : Shape := ⟨2, ![8192, 6144]⟩
abbrev S4x2048x6144 : Shape := ⟨3, ![4, 2048, 6144]⟩
abbrev S_ : Shape := ⟨0, ![]⟩
abbrev S4x3x6144 : Shape := ⟨3, ![4, 3, 6144]⟩
abbrev S4x2051x6144 : Shape := ⟨3, ![4, 2051, 6144]⟩
abbrev S6144 : Shape := ⟨1, ![6144]⟩
abbrev S4x6144 : Shape := ⟨2, ![4, 6144]⟩
abbrev S1x1x6144 : Shape := ⟨3, ![1, 1, 6144]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x23616, .f32⟩
  | .hbm, ⟨2, _⟩ => ⟨S1x4x6144, .f32⟩
  | .hbm, ⟨3, _⟩ => ⟨S1x6144, .f32⟩
  | .hbm, ⟨4, _⟩ => ⟨S8192x2048, .f32⟩
  | .hbm, ⟨5, _⟩ => ⟨S2048x23616, .f32⟩
  | .hbm, ⟨6, _⟩ => ⟨S2048x6144, .f32⟩
  | .hbm, ⟨7, _⟩ => ⟨S8192x6144, .f32⟩
  | .hbm, ⟨8, _⟩ => ⟨S4x2048x6144, .f32⟩
  | .hbm, ⟨9, _⟩ => ⟨S_, .f32⟩
  | .hbm, ⟨10, _⟩ => ⟨S4x3x6144, .f32⟩
  | .hbm, ⟨11, _⟩ => ⟨S4x2051x6144, .f32⟩
  | .hbm, ⟨12, _⟩ => ⟨S6144, .f32⟩
  | .hbm, ⟨13, _⟩ => ⟨S4x2048x6144, .f32⟩
  | .hbm, ⟨14, _⟩ => ⟨S4x6144, .f32⟩
  | .hbm, ⟨15, _⟩ => ⟨S1x6144, .f32⟩
  | .hbm, ⟨16, _⟩ => ⟨S6144, .f32⟩
  | .hbm, ⟨17, _⟩ => ⟨S1x1x6144, .f32⟩
  | .hbm, ⟨18, _⟩ => ⟨S4x2048x6144, .f32⟩
  | .hbm, ⟨19, _⟩ => ⟨S4x2048x6144, .f32⟩
  | .hbm, ⟨20, _⟩ => ⟨S1x1x6144, .f32⟩
  | .hbm, ⟨21, _⟩ => ⟨S4x2048x6144, .f32⟩
  | .hbm, ⟨22, _⟩ => ⟨S4x2048x6144, .f32⟩
  | .hbm, ⟨23, _⟩ => ⟨S4x2048x6144, .f32⟩
  | .hbm, ⟨24, _⟩ => ⟨S4x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S4x2048x6144, .f32⟩
  | .hbm, ⟨29, _⟩ => ⟨S4x2048x6144, .f32⟩
  | .hbm, ⟨30, _⟩ => ⟨S4x2048x6144, .f32⟩
  | .hbm, ⟨31, _⟩ => ⟨S4x2048x6144, .f32⟩
  | .hbm, ⟨32, _⟩ => ⟨S4x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S4x2048x6144, .f32⟩
  | .hbm, ⟨37, _⟩ => ⟨S4x2048x6144, .f32⟩
  | .hbm, ⟨38, _⟩ => ⟨S4x2048x6144, .f32⟩
  | .hbm, ⟨39, _⟩ => ⟨S4x2048x6144, .f32⟩
  | .hbm, ⟨40, _⟩ => ⟨S4x6144, .f32⟩
  | .hbm, ⟨41, _⟩ => ⟨S1x6144, .f32⟩
  | .hbm, ⟨42, _⟩ => ⟨S6144, .f32⟩
  | .hbm, ⟨43, _⟩ => ⟨S1x1x6144, .f32⟩
  | .hbm, ⟨44, _⟩ => ⟨S4x2048x6144, .f32⟩
  | .hbm, ⟨45, _⟩ => ⟨S4x2048x6144, .f32⟩
  | .hbm, ⟨46, _⟩ => ⟨S4x2048x6144, .f32⟩
  | .hbm, ⟨47, _⟩ => ⟨S4x2048x6144, .f32⟩
  | .hbm, ⟨48, _⟩ => ⟨S4x2048x6144, .f32⟩
  | .hbm, ⟨49, _⟩ => ⟨S_, .f32⟩
  | .hbm, ⟨50, _⟩ => ⟨S4x2048x6144, .f32⟩
  | .hbm, ⟨51, _⟩ => ⟨S4x2048x6144, .f32⟩
  | .hbm, ⟨52, _⟩ => ⟨S_, .f32⟩
  | .hbm, ⟨53, _⟩ => ⟨S4x2048x6144, .f32⟩
  | .hbm, ⟨54, _⟩ => ⟨S4x2048x6144, .f32⟩
  | .hbm, ⟨55, _⟩ => ⟨S4x2048x6144, .f32⟩
  | .hbm, ⟨56, _⟩ => ⟨S8192x6144, .f32⟩
  | .hbm, ⟨57, _⟩ => ⟨S4x3x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.AttC.RunIdeal.lean ====
module

public import proofs.«01_k».proof.Proof.Gen.AttCIdeal.Frame
public import proofs.«01_k».proof.Proof.Gen.AttCIdeal.Skeleton

@[expose] public section

set_option maxRecDepth 16384

noncomputable section

namespace Cert.AttCIdeal.Own

open Cert.AttCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A staging buffer [128,1,8,128] seen as its 1024 rows of 128 lanes: row `8 q + h` is head `h` of query `q`. -/
abbrev flat (a : Memref sig .tc .vmem S128x1x8x128 .f32) (ha : a.IsWhole) : Memref sig .tc .vmem S1024x128 .f32 :=
  a.reshape S1024x128 reshapes_S128x1x8x128_S1024x128.1 reshapes_S128x1x8x128_S1024x128.2 ha.contiguous

set_option maxHeartbeats 4000000 in
/-- The attention body run on whole staging buffers: what its stores leave in the two output buffers, as the pieces of
    their flat row view, with the proof that the body runs to the continuation holding the inputs as they were. -/
noncomputable def bodyRun (c : Dev nD) (i : grid0.Coords)
    (arg3 : Memref sig .tc .vmem S128x1x8x128 .f32) (harg3 : arg3.IsWhole) (arg4 : Memref sig .tc .vmem S128x1x8x128 .f32) (harg4 : arg4.IsWhole)
    (arg5 : Memref sig .tc .vmem S128x1x8x128 .f32) (harg5 : arg5.IsWhole) (arg6 : Memref sig .tc .vmem S8x128x256 .f32) (harg6 : arg6.IsWhole)
    (arg7 : Memref sig .tc .vmem S128x1x8x128 .f32) (harg7 : arg7.IsWhole) (arg8 : Memref sig .tc .vmem S128x1x8x128 .f32) (harg8 : arg8.IsWhole)
    (x0 x1 x2 : Vec F S128x1x8x128 .f32) (x3 : Vec F S8x128x256 .f32) :
    { L : List (View.Piece (Elt F) S1024x128 .f32) × List (View.Piece (Elt F) S1024x128 .f32) //
      ∀ (E : Set ℕ) (K : PUnit → sProp 𝕄) f4 f5,
        iprop(((flat arg3 harg3).view.loc (c : Thread nD τ) ↦[(flat arg3 harg3).view.set]{fullShare} harg3.unread x0)
            ∗ ((flat arg4 harg4).view.loc (c : Thread nD τ) ↦[(flat arg4 harg4).view.set]{fullShare} harg4.unread x1)
            ∗ ((flat arg5 harg5).view.loc (c : Thread nD τ) ↦[(flat arg5 harg5).view.set]{fullShare} harg5.unread x2)
            ∗ (arg6.view.loc (c : Thread nD τ) ↦[arg6.view.set]{fullShare} harg6.unread x3)
            ∗ ((flat arg7 harg7).view.loc (c : Thread nD τ) ↦[(flat arg7 harg7).view.set]{fullShare} f4)
            ∗ ((flat arg8 harg8).view.loc (c : Thread nD τ) ↦[(flat arg8 harg8).view.set]{fullShare} f5)
            ∗ (iprop(((flat arg3 harg3).view.loc (c : Thread nD τ) ↦[(flat arg3 harg3).view.set]{fullShare} harg3.unread x0)
            ∗ ((flat arg4 harg4).view.loc (c : Thread nD τ) ↦[(flat arg4 harg4).view.set]{fullShare} harg4.unread x1)
            ∗ ((flat arg5 harg5).view.loc (c : Thread nD τ) ↦[(flat arg5 harg5).view.set]{fullShare} harg5.unread x2)
            ∗ (arg6.view.loc (c : Thread nD τ) ↦[arg6.view.set]{fullShare} harg6.unread x3)
            ∗ ((flat arg7 harg7).view.loc (c : Thread nD τ) ↦[(flat arg7 harg7).view.set]{fullShare} (flat arg7 harg7).view.writes (Elt F) f4 L.1)
            ∗ ((flat arg8 harg8).view.loc (c : Thread nD τ) ↦[(flat arg8 harg8).view.set]{fullShare} (flat arg8 harg8).view.writes (Elt F) f5 L.2)) -∗ K ⟨⟩))
          ⊢ wp frame (wpE (defs₀ (F := F)) Variants.none c none) E (cc0_attn_prompt_g2 i arg3 harg3 arg4 harg4 arg5 harg5 arg6 harg6 arg7 harg7 arg8 harg8) K } := by
  refine ⟨⟨?_, ?_⟩, fun E K f4 f5 => ?run⟩
  case run =>
    rw [cc0_attn_prompt_g2_eq_skeleton]; unfold cc0_attn_prompt_g2_skel
    rw [k0_part1_eq_skeleton, k0_part2_eq_skeleton, k0_part3_eq_skeleton, k0_part4_eq_skeleton, k0_part5_eq_skeleton, k0_part6_eq_skeleton, k0_part7_eq_skeleton]
    iintro ⟨H0, H1, H2, H3, H4, H5, Hk⟩
    sl_exec
    sl_step
    iapply Hk
    isplitl [H0]
    · iexact H0
    isplitl [H1]
    · iexact H1
    isplitl [H2]
    · iexact H2
    isplitl [H3]
    · iexact H3
    isplitl [H4]
    · iexact H4
    iexact H5

end Cert.AttCIdeal.Own

end
-- ==== Proof.AttC.FrameIdeal.lean ====
module

public import proofs.«01_k».proof.Proof.AttC.RunIdeal
public import Idealize.ShloMosaic.Lib.Claim

@[expose] public section

set_option maxRecDepth 16384

noncomputable section

namespace Cert.AttCIdeal.Own

open Cert.AttCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes for one head -/

/-- The scores of one head: the scaled query rows against the key rows, plus the mask's block. -/
def scores (q k : Vec F S128x128 .f32) (b : Vec F S1x128x128 .f32) : FVec F S128x128 .f32 :=
  addf (matmul dot_S128x128_S128x128_S128x128_1_1_0_0_n_n none
      (truncf .bf16 (mulf (shapeCast S128x128 q shapeCasts_S128x128_S128x128) (broadcast S128x128 (Scalar.ofBits .f32 0x3DB504F3#32))) bitsLt_bf16_f32)
      (truncf .bf16 (shapeCast S128x128 k shapeCasts_S128x128_S128x128) bitsLt_bf16_f32) (constant S128x128 .f32 0x00000000#32))
    (shapeCast S128x128 b shapeCasts_S1x128x128_S128x128)

/-- The largest score of each query. -/
def rowMax (s : FVec F S128x128 .f32) : FVec F S128x1 .f32 :=
  shapeCast S128x1 (multiReduction .maximumf [1] S128 s 0xFF800000#32 reduces_S128x128_S128 (.inl rfl) rfl) shapeCasts_S128_S128x1

/-- The exponentials of the scores, shifted by the largest. -/
def weights (s : FVec F S128x128 .f32) : FVec F S128x128 .f32 :=
  exp (subf s (broadcastTo S128x128 (rowMax s) broadcasts_S128x1_S128x128))

/-- Their sum per query. -/
def denom (s : FVec F S128x128 .f32) : FVec F S128x1 .f32 :=
  shapeCast S128x1 (multiReduction .add [1] S128 (weights s) 0x00000000#32 reduces_S128x128_S128 (.inl rfl) rfl) shapeCasts_S128_S128x1

/-- One head's output: the weighted value rows over the sum of the weights. -/
def headOut (s : FVec F S128x128 .f32) (v : Vec F S128x128 .f32) : FVec F S128x128 .f32 :=
  divf (matmul dot_S128x128_S128x128_S128x128_1_0_0_1_n_n none (truncf .bf16 (weights s) bitsLt_bf16_f32)
      (truncf .bf16 (shapeCast S128x128 v shapeCasts_S128x128_S128x128) bitsLt_bf16_f32) (constant S128x128 .f32 0x00000000#32))
    (broadcastTo S128x128 (denom s) broadcasts_S128x1_S128x128)

/-- One head's log-sum-exp, in every lane. -/
def headLse (s : FVec F S128x128 .f32) : FVec F S128x128 .f32 :=
  broadcastTo S128x128 (shapeCast S128x1 (addf (rowMax s) (log (denom s))) shapeCasts_S128x1_S128x1) broadcasts_S128x1_S128x128

/-! ## The rows of one head -/

theorem rowInb (h : Fin 8) : ∀ a : Fin 2, S128x128.size a = 0 ∨ (![h.val, 0] : Fin 2 → Nat) a + (![8, 1] : Fin 2 → Nat) a * (S128x128.size a - 1) < S1024x128.size a := by
  revert h; decide

/-- The rows of head `h`: every eighth row from row `h` on. -/
abbrev rowsOf (h : Fin 8) : LoadRect S1024x128 := ⟨![h.val, 0], S128x128.size, ![8, 1], rowInb h⟩

theorem maskInb (h : Fin 8) : ∀ a : Fin 3, (![h.val, 0, 128] : Fin 3 → Nat) a + S1x128x128.size a ≤ S8x128x256.size a := by
  revert h; decide

/-- The mask's block of head `h` for the keys of the own block. -/
abbrev maskOf (h : Fin 8) : Rect S8x128x256 := Rect.unit (s := S8x128x256) ![h.val, 0, 128] S1x128x128.size (maskInb h)

/-- A staging block seen as its 1024 rows. -/
def flatten (x : Vec F S128x1x8x128 .f32) : Vec F S1024x128 .f32 :=
  fun z => x (Shape.reshapeEquiv reshapes_S128x1x8x128_S1024x128.1 z)

/-- Head `h`'s rows of a staging block. -/
def headRows (x : Vec F S128x1x8x128 .f32) (h : Fin 8) : Vec F S128x128 .f32 := fun y => flatten x ((rowsOf h).idx y)

/-- Head `h`'s mask block. -/
def headMask (x : Vec F S8x128x256 .f32) (h : Fin 8) : Vec F S1x128x128 .f32 := fun y => x ((maskOf h).toLoadRect.idx y)

/-- Head `h`'s scores, from the blocks. -/
def headScores (x0 x1 : Vec F S128x1x8x128 .f32) (x3 : Vec F S8x128x256 .f32) (h : Fin 8) : FVec F S128x128 .f32 :=
  scores (headRows x0 h) (headRows x1 h) (headMask x3 h)

/-- The heads in the order in which the stores are listed, the last store first. -/
abbrev heads : List (Fin 8) := [7, 6, 5, 4, 3, 2, 1, 0]

/-- One store per head, the head's rows filled with `w h`. -/
def pieces (w : Fin 8 → FVec F S128x128 .f32) : List (View.Piece (Elt F) S1024x128 .f32) :=
  heads.map fun h => ⟨⟨rowsOf h, spos_8_1⟩, w h⟩

theorem readAt_flat (a : Memref sig .tc .vmem S128x1x8x128 .f32) (ha : a.IsWhole) (x : Vec F S128x1x8x128 .f32) (h : Fin 8) :
    (flat a ha).view.readAt (Elt F) (rowsOf h) (ha.unread x) = headRows x h := by
  funext y
  rw [View.readAt_apply]
  exact congrFun (ha.read_unread x) _

theorem readAt_mask (a : Memref sig .tc .vmem S8x128x256 .f32) (ha : a.IsWhole) (x : Vec F S8x128x256 .f32) (h : Fin 8) :
    a.view.readAt (Elt F) (maskOf h).toLoadRect (ha.unread x) = headMask x h := by
  funext y
  rw [View.readAt_apply]
  exact congrFun (ha.read_unread x) _

set_option maxHeartbeats 4000000 in
/-- The run's pieces, head by head. -/
theorem bodyRun_pieces (c : Dev nD) (i : grid0.Coords)
    (arg3 : Memref sig .tc .vmem S128x1x8x128 .f32) (harg3 : arg3.IsWhole) (arg4 : Memref sig .tc .vmem S128x1x8x128 .f32) (harg4 : arg4.IsWhole)
    (arg5 : Memref sig .tc .vmem S128x1x8x128 .f32) (harg5 : arg5.IsWhole) (arg6 : Memref sig .tc .vmem S8x128x256 .f32) (harg6 : arg6.IsWhole)
    (arg7 : Memref sig .tc .vmem S128x1x8x128 .f32) (harg7 : arg7.IsWhole) (arg8 : Memref sig .tc .vmem S128x1x8x128 .f32) (harg8 : arg8.IsWhole)
    (x0 x1 x2 : Vec F S128x1x8x128 .f32) (x3 : Vec F S8x128x256 .f32) :
    (bodyRun c i arg3 harg3 arg4 harg4 arg5 harg5 arg6 harg6 arg7 harg7 arg8 harg8 x0 x1 x2 x3).1
      = (pieces (fun h => headOut (headScores x0 x1 x3 h) (headRows x2 h)), pieces (fun h => headLse (headScores x0 x1 x3 h))) := by
  have e : (bodyRun c i arg3 harg3 arg4 harg4 arg5 harg5 arg6 harg6 arg7 harg7 arg8 harg8 x0 x1 x2 x3).1
      = (pieces (fun h => headOut (scores ((flat arg3 harg3).view.readAt (Elt F) (rowsOf h) (harg3.unread x0)) ((flat arg4 harg4).view.readAt (Elt F) (rowsOf h) (harg4.unread x1))
            (arg6.view.readAt (Elt F) (maskOf h).toLoadRect (harg6.unread x3))) ((flat arg5 harg5).view.readAt (Elt F) (rowsOf h) (harg5.unread x2))),
          pieces (fun h => headLse (scores ((flat arg3 harg3).view.readAt (Elt F) (rowsOf h) (harg3.unread x0)) ((flat arg4 harg4).view.readAt (Elt F) (rowsOf h) (harg4.unread x1))
            (arg6.view.readAt (Elt F) (maskOf h).toLoadRect (harg6.unread x3))))) := rfl
  rw [e]
  unfold headScores
  refine congrArg₂ Prod.mk (congrArg pieces (funext fun h => ?_)) (congrArg pieces (funext fun h => ?_))
  · rw [readAt_flat, readAt_flat, readAt_flat, readAt_mask]
  · rw [readAt_flat, readAt_flat, readAt_mask]

/-- The heads' rows make up the buffer. -/
theorem pieces_cover (w : Fin 8 → FVec F S128x128 .f32) (y : S1024x128.Idx) : ∃ p ∈ pieces w, y ∈ p.1.set := by
  have h0 : (y 0).val < 1024 := (y 0).isLt
  have h1 : (y 1).val < 128 := (y 1).isLt
  refine ⟨⟨⟨rowsOf ⟨(y 0).val % 8, Nat.mod_lt _ (by decide)⟩, spos_8_1⟩, w _⟩, List.mem_map.mpr ⟨_, ?_, rfl⟩, ?_⟩
  · generalize (⟨(y 0).val % 8, Nat.mod_lt _ (by decide)⟩ : Fin 8) = h
    revert h; decide
  · rw [LoadRect.mem_set]
    intro a
    match a with
    | ⟨0, _⟩ => exact ⟨(y 0).val / 8, show (y 0).val / 8 < 128 by omega, show (y 0).val = (y 0).val % 8 + 8 * ((y 0).val / 8) by omega⟩
    | ⟨1, _⟩ => exact ⟨(y 1).val, h1, show (y 1).val = 0 + 1 * (y 1).val by omega⟩

/-- A staging block from its rows. -/
def fold (z : Vec F S1024x128 .f32) : Vec F S128x1x8x128 .f32 :=
  fun y => z (Shape.reshapeEquiv reshapes_S128x1x8x128_S1024x128.1.symm y)

/-- The block of the outputs and the block of the log-sum-exps, from the blocks of the queries, keys, values and the mask. -/
def out4 (x0 x1 x2 : Vec F S128x1x8x128 .f32) (x3 : Vec F S8x128x256 .f32) : Vec F S128x1x8x128 .f32 :=
  fold (View.canon (pieces (fun h => headOut (headScores x0 x1 x3 h) (headRows x2 h))))
def out5 (x0 x1 : Vec F S128x1x8x128 .f32) (x3 : Vec F S8x128x256 .f32) : Vec F S128x1x8x128 .f32 :=
  fold (View.canon (pieces (fun h => headLse (headScores x0 x1 x3 h))))

theorem read_fold (a : Memref sig .tc .vmem S128x1x8x128 .f32) (ha : a.IsWhole) (f) (w : Fin 8 → FVec F S128x128 .f32) :
    a.view.read (Elt F) ((flat a ha).view.writes (Elt F) f (pieces w)) = fold (View.canon (pieces w)) := by
  rw [← View.read_writes_eq_canon (flat a ha).view f (pieces w) (pieces_cover w)]
  funext y
  show _ = a.view.read (Elt F) _ (Shape.reshapeEquiv _ (Shape.reshapeEquiv _ y))
  rw [Shape.reshapeEquiv_reshapeEquiv, Shape.reshapeEquiv_self]

set_option maxHeartbeats 1000000 in
/-- The body's triple on whole staging buffers. -/
theorem sound_kernel (c : Dev nD) (E : Set ℕ) (i : grid0.Coords)
    (arg3 : Memref sig .tc .vmem S128x1x8x128 .f32) (harg3 : arg3.IsWhole) (arg4 : Memref sig .tc .vmem S128x1x8x128 .f32) (harg4 : arg4.IsWhole)
    (arg5 : Memref sig .tc .vmem S128x1x8x128 .f32) (harg5 : arg5.IsWhole) (arg6 : Memref sig .tc .vmem S8x128x256 .f32) (harg6 : arg6.IsWhole)
    (arg7 : Memref sig .tc .vmem S128x1x8x128 .f32) (harg7 : arg7.IsWhole) (arg8 : Memref sig .tc .vmem S128x1x8x128 .f32) (harg8 : arg8.IsWhole)
    (x0 x1 x2 : Vec F S128x1x8x128 .f32) (x3 : Vec F S8x128x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (out4 x0 x1 x2 x3) ∗ owns (c : Thread nD τ) arg8 fullShare (out5 x0 x1 x3)) -∗ K ⟨⟩))
      ⊢ wp frame (wpE (defs₀ (F := F)) Variants.none c none) E (cc0_attn_prompt_g2 i arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg3.eq_unread hf0; obtain rfl := harg4.eq_unread hf1; obtain rfl := harg5.eq_unread hf2; obtain rfl := harg6.eq_unread hf3
  have hr := (bodyRun c i arg3 harg3 arg4 harg4 arg5 harg5 arg6 harg6 arg7 harg7 arg8 harg8 x0 x1 x2 x3).2 E K f4 f5
  rw [bodyRun_pieces] at hr
  have s3 : (flat arg3 harg3).view.set = arg3.view.set := View.set_reshape _ _
  have s4 : (flat arg4 harg4).view.set = arg4.view.set := View.set_reshape _ _
  have s5 : (flat arg5 harg5).view.set = arg5.view.set := View.set_reshape _ _
  have s7 : (flat arg7 harg7).view.set = arg7.view.set := View.set_reshape _ _
  have s8 : (flat arg8 harg8).view.set = arg8.view.set := View.set_reshape _ _
  rw [s3, s4, s5, s7, s8] at hr
  iapply hr
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; exact read_fold arg7 harg7 f4 _
  iexists _; isplitr; swap; · iexact H5
  ipureintro; exact read_fold arg8 harg8 f5 _

/-! ## The pipeline's proof data -/

/-- The arrays as the region finds them; after the body each input's buffer at its block, the two outputs' at what the body
    computes of the input blocks; an input's share of its array as dealt among the windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]
theorem after0_5 (c : Dev nD) (t : Fin cfg0.N) : (dats m 0 c).after 5 t = out5 (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline ends at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.AttCIdeal.Own

end
-- ==== Proof.Att.Soft.lean ====
module

public import Idealize.ShloMosaic.Lib.Pointwise
public import Idealize.ShloMosaic.Lib.WordCmp

@[expose] public section

set_option maxRecDepth 16384

noncomputable section

/-! # The softmax average of one row, in the extended reals

A row of scores `L`, none of them `⊤` and not all `⊥`, and a row of values `V`. Whatever real number is subtracted from the
scores before they are exponentiated, the log-sum-exp is `lse L` and the weighted average of the values is `avg L V`. -/

namespace Cert.Soft

open Idealize.ShloMosaic

variable {n : ℕ}

/-- A score's exponential, as a real number: zero at `⊥`. -/
def ex (x : EReal) : ℝ := if x = ⊥ then 0 else Real.exp x.toReal

/-- The sum of a row's exponentials. -/
def total (L : Fin n → EReal) : ℝ := ∑ c, ex (L c)

/-- The log-sum-exp of a row. -/
def lse (L : Fin n → EReal) : EReal := (Real.log (total L) : EReal)

/-- The average of `V` with the softmax weights of `L`. -/
def avg (L V : Fin n → EReal) : EReal := ∑ c, V c * ((ex (L c) / total L : ℝ) : EReal)

/-- A row that has a softmax: no score `⊤`, some score above `⊥`. -/
def Proper (L : Fin n → EReal) : Prop := (∀ c, L c ≠ ⊤) ∧ ∃ c, L c ≠ ⊥

theorem ex_nonneg (x : EReal) : 0 ≤ ex x := by
  unfold ex; split
  · exact le_refl _
  · exact (Real.exp_pos _).le

theorem ex_bot : ex ⊥ = 0 := if_pos rfl

theorem ex_pos {x : EReal} (h : x ≠ ⊥) : 0 < ex x := by
  unfold ex; rw [if_neg h]; exact Real.exp_pos _

theorem total_pos {L : Fin n → EReal} (h : Proper L) : 0 < total L := by
  obtain ⟨c, hc⟩ := h.2
  exact Finset.sum_pos' (fun i _ => ex_nonneg _) ⟨c, Finset.mem_univ _, ex_pos hc⟩

/-- The exponential of a score shifted by a real number. -/
theorem exp_sub {x : EReal} (h : x ≠ ⊤) (σ : ℝ) : Ideal.exp (x - (σ : EReal)) = ((ex x * Real.exp (-σ) : ℝ) : EReal) := by
  induction x using EReal.rec with
  | bot => rw [EReal.bot_sub, Ideal.exp_bot, ex_bot, zero_mul, EReal.coe_zero]
  | top => exact absurd rfl h
  | coe r =>
    rw [← EReal.coe_sub, Ideal.exp_coe]
    unfold ex
    rw [if_neg (EReal.coe_ne_bot r), EReal.toReal_coe, ← Real.exp_add, sub_eq_add_neg]

theorem coe_sum (f : Fin n → ℝ) : ((∑ c, f c : ℝ) : EReal) = ∑ c, (f c : EReal) := by
  induction (Finset.univ : Finset (Fin n)) using Finset.induction_on with
  | empty => simp
  | insert a s ha ih => rw [Finset.sum_insert ha, Finset.sum_insert ha, EReal.coe_add, ih]

/-- The sum of the shifted exponentials. -/
theorem sum_exp {L : Fin n → EReal} (h : Proper L) (σ : ℝ) :
    ∑ c, Ideal.exp (L c - (σ : EReal)) = ((total L * Real.exp (-σ) : ℝ) : EReal) := by
  unfold total
  rw [Finset.sum_mul, coe_sum]
  exact Finset.sum_congr rfl fun c _ => exp_sub (h.1 c) σ

/-- The shift plus the logarithm of the shifted sum. -/
theorem log_sum {L : Fin n → EReal} (h : Proper L) (σ : ℝ) :
    Ideal.log ((total L * Real.exp (-σ) : ℝ) : EReal) + (σ : EReal) = lse L := by
  have hp := total_pos h
  have he := Real.exp_pos (-σ)
  rw [Ideal.log_coe, if_neg (not_le.mpr (mul_pos hp he)), ← EReal.coe_add, Real.log_mul hp.ne' he.ne', Real.log_exp]
  unfold lse
  congr 1; ring

/-- The log-sum-exp, with the sum's absolute value taken first. -/
theorem log_abs_sum {L : Fin n → EReal} (h : Proper L) (σ : ℝ) :
    Ideal.log (max (∑ c, Ideal.exp (L c - (σ : EReal))) (-∑ c, Ideal.exp (L c - (σ : EReal)))) + (σ : EReal) = lse L := by
  have hp : 0 < total L * Real.exp (-σ) := mul_pos (total_pos h) (Real.exp_pos _)
  rw [sum_exp h, max_eq_left, log_sum h]
  rw [← EReal.coe_neg]
  exact EReal.coe_le_coe_iff.mpr (by linarith)

/-- The score less the log-sum-exp, exponentiated. -/
theorem exp_sub_lse {L : Fin n → EReal} (h : Proper L) (c : Fin n) :
    Ideal.exp (L c - lse L) = ((ex (L c) / total L : ℝ) : EReal) := by
  unfold lse
  rw [exp_sub (h.1 c), Real.exp_neg, Real.exp_log (total_pos h), div_eq_mul_inv]

theorem sum_mul_coe (f : Fin n → EReal) {r : ℝ} (hr : 0 ≤ r) : (∑ c, f c) * (r : EReal) = ∑ c, f c * (r : EReal) := by
  induction (Finset.univ : Finset (Fin n)) using Finset.induction_on with
  | empty => simp
  | insert a s ha ih =>
    rw [Finset.sum_insert ha, Finset.sum_insert ha, EReal.right_distrib_of_nonneg_of_ne_top (EReal.coe_nonneg.mpr hr) (EReal.coe_ne_top r), ih]

/-- Weighting by the shifted exponentials and dividing by their sum is averaging. -/
theorem div_sum {L V : Fin n → EReal} (h : Proper L) (σ : ℝ) :
    Ideal.div (∑ c, Ideal.exp (L c - (σ : EReal)) * V c) ((total L * Real.exp (-σ) : ℝ) : EReal) = avg L V := by
  have hp := total_pos h
  have he := Real.exp_pos (-σ)
  have hne : total L * Real.exp (-σ) ≠ 0 := (mul_pos hp he).ne'
  rw [Ideal.div_coe hne, sum_mul_coe _ (by positivity)]
  unfold avg
  refine Finset.sum_congr rfl fun c _ => ?_
  rw [exp_sub (h.1 c), mul_comm _ (V c), mul_assoc, ← EReal.coe_mul]
  congr 2
  field_simp

/-- The largest score of a row, at least a given one, is a real number. -/
theorem max_real {L : Fin n → EReal} (h : Proper L) : ∃ σ : ℝ, Finset.univ.fold max ⊥ L = (σ : EReal) := by
  have h1 : Finset.univ.fold max ⊥ L < ⊤ :=
    (Finset.fold_max_lt _).mpr ⟨bot_lt_top, fun c _ => lt_top_iff_ne_top.mpr (h.1 c)⟩
  have h2 : ⊥ < Finset.univ.fold max ⊥ L := by
    obtain ⟨c, hc⟩ := h.2
    exact (Finset.lt_fold_max _).mpr (.inr ⟨c, Finset.mem_univ _, bot_lt_iff_ne_bot.mpr hc⟩)
  exact ⟨_, (EReal.coe_toReal h1.ne h2.ne').symm⟩

/-! ## Two halves -/

/-- A row's first and second half. -/
def lo (L : Fin 256 → EReal) : Fin 128 → EReal := fun c => L ⟨c.val, by omega⟩
def hi (L : Fin 256 → EReal) : Fin 128 → EReal := fun c => L ⟨128 + c.val, by omega⟩

theorem sum_halves {M : Type} [AddCommMonoid M] (f : Fin 256 → M) :
    ∑ c, f c = ∑ c : Fin 128, f ⟨c.val, by omega⟩ + ∑ c : Fin 128, f ⟨128 + c.val, by omega⟩ :=
  Fin.sum_univ_add (a := 128) (b := 128) f

theorem total_halves (L : Fin 256 → EReal) : total L = total (lo L) + total (hi L) := sum_halves _

/-- A row whose first half is all `⊥` is as good as its second half. -/
theorem total_of_lo_bot {L : Fin 256 → EReal} (h : ∀ c, lo L c = ⊥) : total L = total (hi L) := by
  rw [total_halves]
  have : total (lo L) = 0 := Finset.sum_eq_zero fun c _ => by rw [h, ex_bot]
  rw [this, zero_add]

theorem lse_of_lo_bot {L : Fin 256 → EReal} (h : ∀ c, lo L c = ⊥) : lse L = lse (hi L) := by
  unfold lse; rw [total_of_lo_bot h]

theorem avg_of_lo_bot {L V : Fin 256 → EReal} (h : ∀ c, lo L c = ⊥) : avg L V = avg (hi L) (hi V) := by
  unfold avg
  rw [sum_halves, total_of_lo_bot h]
  have : ∑ c : Fin 128, V ⟨c.val, by omega⟩ * ((ex (L ⟨c.val, by omega⟩) / total (hi L) : ℝ) : EReal) = 0 :=
    Finset.sum_eq_zero fun c _ => by
      have e : ex (L ⟨c.val, by omega⟩) = 0 := by rw [show L ⟨c.val, by omega⟩ = ⊥ from h c]; exact ex_bot
      rw [e, zero_div, EReal.coe_zero, mul_zero]
  rw [this, zero_add]; rfl

theorem proper_of_hi {L : Fin 256 → EReal} (hT : ∀ c, L c ≠ ⊤) (h : ∃ c, hi L c ≠ ⊥) : Proper L :=
  ⟨hT, by obtain ⟨c, hc⟩ := h; exact ⟨_, hc⟩⟩

/-! ## Scores of real rows -/

/-- Scaling the products' sum is scaling one factor first. -/
theorem sum_scale (q k : Fin n → ℝ) (s : ℝ) :
    (∑ e, (q e : EReal) * (k e : EReal)) * (s : EReal) = ∑ e, ((q e : EReal) * (s : EReal)) * (k e : EReal) := by
  simp only [← EReal.coe_mul, ← coe_sum]
  congr 1
  rw [Finset.sum_mul]
  exact Finset.sum_congr rfl fun e _ => by ring

/-- Such a sum is a real number. -/
theorem sum_real (q k : Fin n → ℝ) : ∃ r : ℝ, ∑ e, (q e : EReal) * (k e : EReal) = (r : EReal) :=
  ⟨∑ e, q e * k e, by simp only [coe_sum, EReal.coe_mul]⟩

/-- The scale, and minus infinity, as the numbers that their bit patterns denote. -/
theorem scale_real : ∃ s : ℝ, Ideal.ofBits .f32 0x3DB504F3#32 = (s : EReal) :=
  ⟨_, by simp only [Ideal.ofBits, Ideal.ieee]; norm_num; rfl⟩

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem sitofp_zero : (FloatOps.sitofp (F := Ideal) .f32 (0#32 : BitVec 32) : EReal) = 0 := by
  show ((((0#32 : BitVec 32).toInt : ℝ)) : EReal) = 0
  norm_num

/-! ## Reductions along the last of six axes -/

section Reduce
variable {a b c d e f : ℕ}

theorem lift6 (h : Shape.Reduces ⟨6, ![a, b, c, d, e, f]⟩ [5] ⟨5, ![a, b, c, d, e]⟩) (i0 : Fin a) (i1 : Fin b) (i2 : Fin c) (i3 : Fin d) (i4 : Fin e) (k : Fin f) :
    h.lift (ix5 i0 i1 i2 i3 i4) k = ix6 i0 i1 i2 i3 i4 k := by
  funext x
  match x with
  | ⟨0, _⟩ => rfl
  | ⟨1, _⟩ => rfl
  | ⟨2, _⟩ => rfl
  | ⟨3, _⟩ => rfl
  | ⟨4, _⟩ => rfl
  | ⟨5, _⟩ => rfl

theorem reduces6 : Shape.Reduces ⟨6, ![a, b, c, d, e, f]⟩ [5] ⟨5, ![a, b, c, d, e]⟩ := by
  refine ⟨rfl, by simp, fun x => ?_⟩
  match x with
  | ⟨0, _⟩ => rfl
  | ⟨1, _⟩ => rfl
  | ⟨2, _⟩ => rfl
  | ⟨3, _⟩ => rfl
  | ⟨4, _⟩ => rfl

theorem reduce_max6 {u : Shape} (x : FVec Ideal ⟨6, ![a, b, c, d, e, f]⟩ .f32)
    (h' : Shape.ReducesTo ⟨6, ![a, b, c, d, e, f]⟩ [5] ⟨5, ![a, b, c, d, e]⟩) (hu : 0 < u.numel)
    (i0 : Fin a) (i1 : Fin b) (i2 : Fin c) (i3 : Fin d) (i4 : Fin e) :
    Host.reduce FloatOps.maximumf x (constant (F := Ideal) u .f32 0xFF800000#32) h' hu (ix5 i0 i1 i2 i3 i4)
      = Finset.univ.fold max ⊥ fun k : Fin f => x (ix6 i0 i1 i2 i3 i4 k) := by
  refine (Host.reduce_eq_fold_single (max : EReal → EReal → EReal) x _ h' reduces6 hu _).trans ?_
  have e0 : (constant (F := Ideal) u .f32 0xFF800000#32) (Shape.Idx.first hu) = (⊥ : EReal) := ofBits_negInf
  rw [e0]
  exact congrArg (fun g : Fin f → EReal => Finset.univ.fold max ⊥ g) (funext fun k => congrArg x (lift6 reduces6 i0 i1 i2 i3 i4 k))

theorem reduce_add6 {u : Shape} (x : FVec Ideal ⟨6, ![a, b, c, d, e, f]⟩ .f32)
    (h' : Shape.ReducesTo ⟨6, ![a, b, c, d, e, f]⟩ [5] ⟨5, ![a, b, c, d, e]⟩) (hu : 0 < u.numel)
    (i0 : Fin a) (i1 : Fin b) (i2 : Fin c) (i3 : Fin d) (i4 : Fin e) :
    Host.reduceAdd (F := Ideal) x (constant (F := Ideal) u .f32 0x00000000#32) h' hu (ix5 i0 i1 i2 i3 i4)
      = ∑ k : Fin f, x (ix6 i0 i1 i2 i3 i4 k) := by
  show Ideal.hostReduceAdd h' x (Ideal.ofBits .f32 0x00000000#32) (ix5 i0 i1 i2 i3 i4) = _
  rw [Ideal.hostReduceAdd_single h' reduces6, Ideal.ofBits_zero_f32, zero_add]
  exact Finset.sum_congr rfl fun k _ => congrArg x (lift6 reduces6 i0 i1 i2 i3 i4 k)

end Reduce

/-! ## The window, in 32-bit words -/

theorem window_word : ∀ (i : Fin 128) (j : Fin 256),
    IntOp.andi (IntOp.cmpi .sge (IntOp.subi (IntOp.addi (BitVec.ofNat 32 i.val) 128#32) (BitVec.ofNat 32 j.val)) 0#32)
      (IntOp.cmpi .sle (IntOp.subi (IntOp.addi (BitVec.ofNat 32 i.val) 128#32) (BitVec.ofNat 32 j.val)) 128#32)
      = BitVec.ofBool (decide (i.val ≤ j.val ∧ j.val ≤ i.val + 128)) := by decide +kernel

theorem row_word : ∀ (n : Fin 16) (j : Fin 256),
    IntOp.cmpi .sge (IntOp.addi (IntOp.subi (IntOp.muli (BitVec.ofNat 32 n.val) 128#32) 128#32) (BitVec.ofNat 32 j.val)) 0#32
      = BitVec.ofBool (decide (128 ≤ n.val * 128 + j.val)) := by decide +kernel

theorem select_ofBool {α : Type} (p : Prop) [Decidable p] (x y : α) : Scalar.select (BitVec.ofBool (decide p)) x y = if p then x else y := by
  by_cases h : p <;> simp [Scalar.select, h]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [IntOp.andi, h, h']

/-- A select on the window's conditions, as an `if`. -/
theorem select_valid {α : Type} (i : Fin 128) (j : Fin 256) (n : Fin 16) (x y : α) :
    Scalar.select (IntOp.andi (IntOp.andi
        (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32))
        (IntOp.cmpi .sge (IntOp.addi (IntOp.subi (IntOp.muli (BitVec.ofNat 32 n.val) 128#32) 128#32) (BitVec.ofNat 32 j.val)) 0#32)) x y
      = if (i.val ≤ j.val ∧ j.val ≤ i.val + 128) ∧ 128 ≤ n.val * 128 + j.val then x else y := by
  rw [window_word, row_word, andi_ofBool, select_ofBool]

theorem select_window {α : Type} (i : Fin 128) (j : Fin 256) (x y : α) :
    Scalar.select (IntOp.andi
        (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32)) x y
      = if i.val ≤ j.val ∧ j.val ≤ i.val + 128 then x else y := by
  rw [window_word, select_ofBool]

end Cert.Soft

end
-- ==== Proof.Att.Rows.lean ====
module

public import proofs.«01_k».proof.Proof.Att.Soft
public import Idealize.ShloMosaic.Lib.Routing.Ops

@[expose] public section

set_option maxRecDepth 16384

noncomputable section

namespace Cert.Soft

open Idealize.ShloMosaic

/-- A select on the window's conditions in the first block. -/
theorem select_valid0 {α : Type} (i : Fin 128) (j : Fin 256) (x y : α) :
    Scalar.select (IntOp.andi (IntOp.andi
        (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32))
        (IntOp.cmpi .sge (IntOp.addi (IntOp.subi (IntOp.muli 0#32 128#32) 128#32) (BitVec.ofNat 32 j.val)) 0#32)) x y
      = if (i.val ≤ j.val ∧ j.val ≤ i.val + 128) ∧ 128 ≤ j.val then x else y := by
  have := select_valid i j (0 : Fin 16) x y
  simpa using this

/-- The clipped distance, in 32-bit words. -/
abbrev distWord (i : Fin 128) (j : Fin 256) : BitVec 32 :=
  IntOp.minsi 128#32 (IntOp.maxsi 0#32 (IntOp.subi (IntOp.addi (BitVec.ofNat 32 i.val) 128#32) (BitVec.ofNat 32 j.val)))

theorem dist_word : ∀ (i : Fin 128) (j : Fin 256), i.val ≤ j.val → j.val ≤ i.val + 128 →
    Scalar.select (IntOp.cmpi .slt (distWord i j) 0#32) (IntOp.addi (distWord i j) 129#32) (distWord i j) = BitVec.ofNat 32 (i.val + 128 - j.val) := by
  decide +kernel

/-- Rows of a table, one per pair of coordinates. -/
theorem gather_rows {α : Type} {N B R C : Nat} (d : GatherDims ⟨2, ![N, B]⟩ ⟨3, ![R, C, 1]⟩ ⟨3, ![R, C, B]⟩) (hoff : d.offsetDims = [2])
    (hcoll : d.collapsedSliceDims = [0]) (hob : d.operandBatchingDims = []) (hsb : d.startIndicesBatchingDims = [])
    (hsim : d.startIndexMap = [0]) (hivd : d.indexVectorDim = 2) (x : (⟨2, ![N, B]⟩ : Shape).Idx → α) (idx : IVec ⟨3, ![R, C, 1]⟩ 32)
    (i : Fin R) (j : Fin C) (y : Fin B) (b : Fin N) (hb : idx (ix3 i j (0 : Fin 1)) = BitVec.ofNat 32 b.val) (hN : N < 2 ^ 31) :
    Host.gather d x idx (ix3 i j y) = x (ix2 b y) := by
  cases d with
  | mk o c ob sb sm iv ss wf =>
  simp only at hoff hcoll hob hsb hsim hivd
  subst hoff hcoll hob hsb hsim hivd
  set d : GatherDims ⟨2, ![N, B]⟩ ⟨3, ![R, C, 1]⟩ ⟨3, ![R, C, B]⟩ := ⟨[2], [0], [], [], [0], 2, ss, wf⟩ with hd
  unfold Host.gather
  refine congrArg x (funext fun a => Fin.ext ?_)
  match a with
  | ⟨0, _⟩ =>
    have hsl : d.sliceSizes 0 = 1 := d.slice_collapsed 0 (List.mem_singleton.2 rfl)
    show d.start (ix3 i j y) idx 0 + d.batchCoord (ix3 i j y) 0 + d.offCoord (ix3 i j y) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 i j y) ⟨List.idxOf (0 : Fin 2) d.startIndexMap, List.idxOf_lt_length_iff.2 (List.mem_singleton.mpr rfl)⟩ = ix3 i j (0 : Fin 1) := by
      funext z; refine Fin.ext ?_
      match z with
      | ⟨0, _⟩ => rfl
      | ⟨1, _⟩ => rfl
      | ⟨2, _⟩ => rfl
    rw [hsi, hb, hsl]
    have hbl := b.isLt
    have : (BitVec.ofNat 32 b.val).toInt.toNat = b.val := by
      rw [BitVec.toInt_eq_toNat_of_lt (by rw [BitVec.toNat_ofNat]; omega), BitVec.toNat_ofNat]
      omega
    rw [this]
    show min b.val (N - 1) = b.val
    omega
  | ⟨1, _⟩ =>
    show d.start (ix3 i j y) idx 1 + d.batchCoord (ix3 i j y) 1 + d.offCoord (ix3 i j y) 1 = y.val
    rw [GatherDims.batchCoord_eq_zero _ _ _ List.not_mem_nil]
    have h1 : d.start (ix3 i j y) idx 1 = 0 := by
      unfold GatherDims.start
      rw [dif_neg (show (1 : Fin 2) ∉ d.startIndexMap from fun h => absurd (congrArg Fin.val (List.mem_singleton.1 h)) Nat.one_ne_zero)]
    rw [h1, Nat.add_zero, Nat.zero_add]
    unfold GatherDims.offCoord
    rw [dif_pos (show (1 : Fin 2) ∈ d.sKept from (d.mem_sKept 1).2 ⟨fun h => absurd (congrArg Fin.val (List.mem_singleton.1 h)) Nat.one_ne_zero, List.not_mem_nil⟩)]
    rfl

end Cert.Soft

end
-- ==== Proof.AttC.Block.lean ====
module

public import proofs.«01_k».proof.Proof.AttC.FrameIdeal
public import proofs.«01_k».proof.Proof.Att.Rows
public import Idealize.ShloMosaic.Lib.Pointwise
public import Idealize.ShloMosaic.Lib.Pipeline.Value

@[expose] public section

set_option maxRecDepth 16384

noncomputable section

namespace Cert.AttCIdeal.Own

open Cert.AttCIdeal Cert.AttCIdeal.Gen
open Idealize.ShloMosaic Idealize.ShloMosaic.TcCoe Idealize.ShloMosaic.Tactic Idealize.SL.Sem

/-! ## The body's numbers, entry by entry -/

/-- A score: a query's row against a key's row, scaled, plus the mask's entry. -/
theorem score_at (q k : FVec Ideal S128x128 .f32) (b : FVec Ideal S1x128x128 .f32) (i c : Fin 128) :
    scores q k b (ix2 i c) = (∑ e : Fin 128, q (ix2 i e) * Ideal.ofBits .f32 0x3DB504F3#32 * k (ix2 c e)) + b (ix3 0 i c) := by
  pointwise [scores]

/-- The largest score of a row. -/
theorem rowMax_at (s : FVec Ideal S128x128 .f32) (i : Fin 128) :
    rowMax s (ix2 i 0) = Finset.univ.fold max ⊥ fun c : Fin 128 => s (ix2 i c) := by
  pointwise [rowMax, Soft.ofBits_negInf]

theorem weights_at (s : FVec Ideal S128x128 .f32) (i c : Fin 128) :
    weights s (ix2 i c) = Ideal.exp (s (ix2 i c) - rowMax s (ix2 i 0)) := by
  pointwise [weights]

theorem denom_at (s : FVec Ideal S128x128 .f32) (i : Fin 128) :
    denom s (ix2 i 0) = ∑ c : Fin 128, weights s (ix2 i c) := by
  pointwise [denom]

theorem headOut_at (s v : FVec Ideal S128x128 .f32) (i e : Fin 128) :
    headOut s v (ix2 i e) = Ideal.div (∑ c : Fin 128, weights s (ix2 i c) * v (ix2 c e)) (denom s (ix2 i 0)) := by
  pointwise [headOut]

theorem headLse_at (s : FVec Ideal S128x128 .f32) (i e : Fin 128) :
    headLse s (ix2 i e) = rowMax s (ix2 i 0) + Ideal.log (denom s (ix2 i 0)) := by
  pointwise [headLse]

/-- Row `8 i + h` of a block seen as its rows is row `i` of head `h`. -/
theorem rows_reshape (i : Fin 128) (h : Fin 8) (e : Fin 128) :
    Shape.reshapeEquiv reshapes_S128x1x8x128_S1024x128.1 (ix2 ⟨i.val * 8 + h.val, by omega⟩ e : S1024x128.Idx) = (ix4 i 0 h e : S128x1x8x128.Idx) := by
  pointwise

/-- One head's row of a staging block. -/
theorem headRows_at (x : FVec Ideal S128x1x8x128 .f32) (h : Fin 8) (i e : Fin 128) : headRows (F := Ideal) x h (ix2 i e) = x (ix4 i 0 h e) := by
  have e1 : (rowsOf h).idx (ix2 i e : S128x128.Idx) = (ix2 ⟨i.val * 8 + h.val, by omega⟩ e : S1024x128.Idx) := by
    funext a
    refine Fin.ext ?_
    rw [LoadRect.idx_apply]
    match a with
    | ⟨0, _⟩ => show h.val + 8 * i.val = i.val * 8 + h.val; omega
    | ⟨1, _⟩ => show 0 + 1 * e.val = e.val; omega
  show x (Shape.reshapeEquiv _ ((rowsOf h).idx (ix2 i e))) = _
  rw [e1]
  refine congrArg x ?_
  exact rows_reshape i h e

/-- One head's entries of the mask. -/
theorem headMask_at (x : FVec Ideal S8x128x256 .f32) (h : Fin 8) (i c : Fin 128) : headMask (F := Ideal) x h (ix3 0 i c) = x (ix3 h i ⟨128 + c.val, by omega⟩) := by
  unfold headMask
  refine congrArg x (funext fun a => Fin.ext ?_)
  rw [LoadRect.idx_apply]
  match a with
  | ⟨0, _⟩ => show h.val + 1 * 0 = h.val; omega
  | ⟨1, _⟩ => show 0 + 1 * i.val = i.val; omega
  | ⟨2, _⟩ => show 128 + 1 * c.val = 128 + c.val; omega

/-- The heads' stores, read back: head `h`'s row `i` lies in row `8 i + h`. -/
theorem canon_at (w : Fin 8 → FVec Ideal S128x128 .f32) (h : Fin 8) (i e : Fin 128) :
    (View.canon (pieces w) : FVec Ideal S1024x128 .f32) (ix2 ⟨i.val * 8 + h.val, by omega⟩ e) = w h (ix2 i e) := by
  have key := View.canon_apply_of_pieces (Val := Elt Ideal) (S := S1024x128) (e := .f32)
    (fun y => w ⟨(y 0).val % 8, Nat.mod_lt _ (by decide)⟩ (ix2 ⟨(y 0).val / 8, Nat.div_lt_of_lt_mul (y 0).isLt⟩ (y 1)))
    (pieces w) ?_ (ix2 ⟨i.val * 8 + h.val, by omega⟩ e) (pieces_cover w _)
  · rw [key]
    have e1 : (⟨(i.val * 8 + h.val) % 8, Nat.mod_lt _ (by decide)⟩ : Fin 8) = h := Fin.ext (by show (i.val * 8 + h.val) % 8 = h.val; omega)
    have e2 : (⟨(i.val * 8 + h.val) / 8, by omega⟩ : Fin 128) = i := Fin.ext (by show (i.val * 8 + h.val) / 8 = i.val; omega)
    exact congrArg₂ (fun a b => w a (ix2 b e)) e1 e2
  · intro p hp x
    obtain ⟨h, -, rfl⟩ := List.mem_map.mp hp
    have hx0 : (x 0).val < 128 := (x 0).isLt
    have e1 : (⟨(h.val + 8 * (x 0).val) % 8, Nat.mod_lt _ (by decide)⟩ : Fin 8) = h := Fin.ext (by show (h.val + 8 * (x 0).val) % 8 = h.val; omega)
    have e2 : (⟨(h.val + 8 * (x 0).val) / 8, by omega⟩ : Fin 128) = x 0 := Fin.ext (by show (h.val + 8 * (x 0).val) / 8 = (x 0).val; omega)
    have e3 : (⟨0 + 1 * (x 1).val, by have : (x 1).val < 128 := (x 1).isLt; omega⟩ : Fin 128) = x 1 := Fin.ext (by show 0 + 1 * (x 1).val = (x 1).val; omega)
    have e4 : x = ix2 (x 0) (x 1) := by funext a; match a with | ⟨0, _⟩ => rfl | ⟨1, _⟩ => rfl
    show w h x = w ⟨(h.val + 8 * (x 0).val) % 8, _⟩ (ix2 ⟨(h.val + 8 * (x 0).val) / 8, _⟩ ⟨0 + 1 * (x 1).val, _⟩)
    rw [e1, e2, e3]
    exact congrArg (w h) e4

/-- A block of a result, entry by entry. -/
theorem fold_at (w : Fin 8 → FVec Ideal S128x128 .f32) (i : Fin 128) (h : Fin 8) (e : Fin 128) :
    (fold (F := Ideal) (View.canon (pieces w)) : FVec Ideal S128x1x8x128 .f32) (ix4 i 0 h e) = w h (ix2 i e) := by
  rw [← canon_at w h i e]
  unfold fold
  refine congrArg (View.canon (pieces w)) ?_
  exact ((Equiv.symm_apply_eq _).mpr (rows_reshape i h e).symm)

end Cert.AttCIdeal.Own

end
-- ==== Proof.AttC.Ref.lean ====
module

public import proofs.«01_k».proof.Proof.Gen.AttCRefIdeal.Run
public import proofs.«01_k».proof.Proof.Att.Rows
public import Idealize.ShloMosaic.Lib.WordCmp

@[expose] public section

set_option maxRecDepth 16384

noncomputable section

namespace Cert.AttCRefIdeal.Own

open Cert.AttCRefIdeal Cert.AttCRefIdeal.Gen Cert.AttCRefIdeal.Value
open Idealize.ShloMosaic Idealize.ShloMosaic.TcCoe Idealize.SL.Sem

/-! ## The reference's intermediate arrays, from its arguments -/

/-- The distance biases of the group's heads, by distance in rows. -/
def biases (rb : FVec Ideal S32x24 .f32) : FVec Ideal S129x8 .f32 :=
  extractStridedSlice S129x8 ![0, 16] (Host.gather gather_S32x24_S129x1_S129x24_1_0_n_n_0_1_124 rb
    (broadcastInDim S129x1 ![0] bcast_S129_S129x1_0 (select (constantI S129 1 0#1)
      (addi (fun i => lit0 (S129.rowMajor i)) (broadcastInDim S129 ![] bcast_S_S129 (constantI S_ 32 32#32))) (fun i => lit0 (S129.rowMajor i))))) slices_S129x24_S129x8_0_16

/-- The queries by block. -/
def queries (q : FVec Ideal S8192x24x128 .f32) : FVec Ideal S4x1x128x16x8x128 .f32 :=
  shapeCast _ (pad S4x128x16x8x128 ![0, 0, 0, 0, 0] ![0, 0, 0, 0, 0] ![0, 0, 0, 0, 0] (shapeCast S4x128x16x8x128 (shapeCast S4x2048x8x128 (extractStridedSlice S4x2048x1x8x128 ![0, 0, 2, 0, 0]
    (shapeCast S4x2048x3x8x128 q shapeCasts_S8192x24x128_S4x2048x3x8x128) slices_S4x2048x3x8x128_S4x2048x1x8x128_0_0_2_0_0) shapeCasts_S4x2048x1x8x128_S4x2048x8x128) shapeCasts_S4x2048x8x128_S4x128x16x8x128)
    (sitofp .f32 (constantI S_ 32 0#32)) pads_S4x128x16x8x128_S4x128x16x8x128_000_000_000_000_000 h_S_) shapeCasts_S4x128x16x8x128_S4x1x128x16x8x128

/-- Rows with a block of zero rows before them. -/
def padded (x : FVec Ideal S4x2048x8x128 .f32) : FVec Ideal S4x2x128x16x8x128 .f32 :=
  shapeCast _ (pad S4x256x16x8x128 ![0, 128, 0, 0, 0] ![0, 0, 0, 0, 0] ![0, 0, 0, 0, 0] (shapeCast S4x128x16x8x128 x shapeCasts_S4x2048x8x128_S4x128x16x8x128)
    (sitofp .f32 (constantI S_ 32 0#32)) pads_S4x128x16x8x128_S4x256x16x8x128_000_12800_000_000_000 h_S_) shapeCasts_S4x256x16x8x128_S4x2x128x16x8x128

/-- Each block after the block before it. -/
def banded (x : FVec Ideal S4x2048x8x128 .f32) : FVec Ideal S4x1x256x16x8x128 .f32 :=
  concatenate S4x1x256x16x8x128 2 [⟨S4x1x128x16x8x128, extractStridedSlice S4x1x128x16x8x128 ![0, 0, 0, 0, 0, 0] (padded x) slices_S4x2x128x16x8x128_S4x1x128x16x8x128_0_0_0_0_0_0⟩,
    ⟨S4x1x128x16x8x128, extractStridedSlice S4x1x128x16x8x128 ![0, 1, 0, 0, 0, 0] (padded x) slices_S4x2x128x16x8x128_S4x1x128x16x8x128_0_1_0_0_0_0⟩]
    concatenates_S4x1x128x16x8x128_S4x1x128x16x8x128_S4x1x256x16x8x128_d2

/-- The keys, -/
def keys (kv : FVec Ideal S8192x16x128 .f32) : FVec Ideal S4x2048x8x128 .f32 :=
  shapeCast _ (extractStridedSlice S4x2048x1x8x128 ![0, 0, 0, 0, 0] (shapeCast S4x2048x2x8x128 kv shapeCasts_S8192x16x128_S4x2048x2x8x128) slices_S4x2048x2x8x128_S4x2048x1x8x128_0_0_0_0_0) shapeCasts_S4x2048x1x8x128_S4x2048x8x128

/-- and the values. -/
def vals (kv : FVec Ideal S8192x16x128 .f32) : FVec Ideal S4x2048x8x128 .f32 :=
  shapeCast _ (extractStridedSlice S4x2048x1x8x128 ![0, 0, 1, 0, 0] (shapeCast S4x2048x2x8x128 kv shapeCasts_S8192x16x128_S4x2048x2x8x128) slices_S4x2048x2x8x128_S4x2048x1x8x128_0_0_1_0_0) shapeCasts_S4x2048x1x8x128_S4x2048x8x128

/-- Which keys a query sees. -/
def valid : IVec S4x1x16x8x128x256 1 :=
  andi (andi (cmpi .sge (subi (addi (iotaInDim S4x1x16x8x128x256 32 4) (broadcastInDim S4x1x16x8x128x256 ![] bcast_S_S4x1x16x8x128x256 (constantI S_ 32 128#32))) (iotaInDim S4x1x16x8x128x256 32 5))
      (broadcastInDim S4x1x16x8x128x256 ![] bcast_S_S4x1x16x8x128x256 (constantI S_ 32 0#32)))
    (cmpi .sle (subi (addi (iotaInDim S4x1x16x8x128x256 32 4) (broadcastInDim S4x1x16x8x128x256 ![] bcast_S_S4x1x16x8x128x256 (constantI S_ 32 128#32))) (iotaInDim S4x1x16x8x128x256 32 5))
      (broadcastInDim S4x1x16x8x128x256 ![] bcast_S_S4x1x16x8x128x256 (constantI S_ 32 128#32))))
    (cmpi .sge (addi (subi (muli (iotaInDim S4x1x16x8x128x256 32 1) (broadcastInDim S4x1x16x8x128x256 ![] bcast_S_S4x1x16x8x128x256 (constantI S_ 32 128#32)))
      (broadcastInDim S4x1x16x8x128x256 ![] bcast_S_S4x1x16x8x128x256 (constantI S_ 32 128#32))) (iotaInDim S4x1x16x8x128x256 32 5)) (broadcastInDim S4x1x16x8x128x256 ![] bcast_S_S4x1x16x8x128x256 (constantI S_ 32 0#32)))

/-- The distance between a query and a key, clipped to the window. -/
def dist : IVec S128x256 32 :=
  minsi (broadcastInDim S128x256 ![] bcast_S_S128x256 (id (constantI S_ 32 128#32))) (maxsi (broadcastInDim S128x256 ![] bcast_S_S128x256 (id (constantI S_ 32 0#32)))
    (subi (addi (iotaInDim S128x256 32 0) (broadcastInDim S128x256 ![] bcast_S_S128x256 (constantI S_ 32 128#32))) (iotaInDim S128x256 32 1)))

/-- The position bias of a query and a key. -/
def bias (rb : FVec Ideal S32x24 .f32) : FVec Ideal S8x128x256 .f32 :=
  transpose S8x128x256 [2, 0, 1] (Host.gather gather_S129x8_S128x256x1_S128x256x8_2_0_n_n_0_2_18 (biases rb)
    (broadcastInDim S128x256x1 ![0, 1] bcast_S128x256_S128x256x1_0_1 (select (cmpi .slt dist (broadcastInDim S128x256 ![] bcast_S_S128x256 (constantI S_ 32 0#32)))
      (addi dist (broadcastInDim S128x256 ![] bcast_S_S128x256 (constantI S_ 32 129#32))) dist))) transposes_S128x256x8_S8x128x256_2_0_1

/-- The scores. -/
def scores (q : FVec Ideal S8192x24x128 .f32) (kv : FVec Ideal S8192x16x128 .f32) (rb : FVec Ideal S32x24 .f32) : FVec Ideal S4x1x16x8x128x256 .f32 :=
  select valid (addf (mulf (Host.dotGeneral dot_S4x1x128x16x8x128_S4x1x256x16x8x128_S4x1x16x8x128x256_5_5_2_2_0134_0134 none (queries q) (banded (keys kv)))
      (broadcastInDim S4x1x16x8x128x256 ![] bcast_S_S4x1x16x8x128x256 (constant S_ .f32 0x3DB504F3#32)))
    (broadcastInDim S4x1x16x8x128x256 ![0, 1, 2, 3, 4, 5] bcast_S1x1x1x8x128x256_S4x1x16x8x128x256_0_1_2_3_4_5 (broadcastInDim S1x1x1x8x128x256 ![3, 4, 5] bcast_S8x128x256_S1x1x1x8x128x256_3_4_5 (bias rb))))
    (broadcastInDim S4x1x16x8x128x256 ![] bcast_S_S4x1x16x8x128x256 (constant S_ .f32 0xFF800000#32))

/-- A number per row, spread over the row. -/
def spread (x : FVec Ideal S4x1x16x8x128 .f32) : FVec Ideal S4x1x16x8x128x256 .f32 :=
  broadcastInDim S4x1x16x8x128x256 ![0, 1, 2, 3, 4, 5] bcast_S4x1x16x8x128x1_S4x1x16x8x128x256_0_1_2_3_4_5 (broadcastInDim S4x1x16x8x128x1 ![0, 1, 2, 3, 4] bcast_S4x1x16x8x128_S4x1x16x8x128x1_0_1_2_3_4 x)

/-- The largest score of each row, -/
def top (s : FVec Ideal S4x1x16x8x128x256 .f32) : FVec Ideal S4x1x16x8x128 .f32 :=
  Host.reduce FloatOps.maximumf s (constant S_ .f32 0xFF800000#32) reducesTo_S4x1x16x8x128x256_S4x1x16x8x128_d5 h_S_

/-- and the log-sum-exp. -/
def logSum (s : FVec Ideal S4x1x16x8x128x256 .f32) : FVec Ideal S4x1x16x8x128 .f32 :=
  addf (top s) (Host.log (Host.reduceAdd (Host.exp (subf s (spread (top s)))) (constant S_ .f32 0x00000000#32) reducesTo_S4x1x16x8x128x256_S4x1x16x8x128_d5 h_S_))

/-- The first result, from the scores and the values, -/
def result0 (s : FVec Ideal S4x1x16x8x128x256 .f32) (v : FVec Ideal S4x1x256x16x8x128 .f32) : FVec Ideal S512x16x8x128 .f32 :=
  shapeCast _ (shapeCast S4x2048x8x128 (shapeCast S4x128x16x8x128 (transpose S4x1x128x16x8x128 [0, 1, 5, 2, 3, 4]
    (Host.dotGeneral dot_S4x1x256x16x8x128_S4x1x16x8x128x256_S4x1x16x8x128x128_2_5_5_4_0134_0123 none v (Host.exp (subf s (spread (logSum s)))))
    transposes_S4x1x16x8x128x128_S4x1x128x16x8x128_0_1_5_2_3_4) shapeCasts_S4x1x128x16x8x128_S4x128x16x8x128) shapeCasts_S4x128x16x8x128_S4x2048x8x128) shapeCasts_S4x2048x8x128_S512x16x8x128

/-- and the second, from the log-sum-exps. -/
def result1 (l : FVec Ideal S4x1x16x8x128 .f32) : FVec Ideal S512x16x8x128 .f32 :=
  shapeCast _ (broadcastInDim S4x2048x8x128 ![0, 1, 2, 3] bcast_S4x2048x8x1_S4x2048x8x128_0_1_2_3 (broadcastInDim S4x2048x8x1 ![0, 1, 2] bcast_S4x2048x8_S4x2048x8x1_0_1_2
    (shapeCast S4x2048x8 (shapeCast S4x128x16x8 (transpose S4x1x128x16x8 [0, 1, 4, 2, 3] l transposes_S4x1x16x8x128_S4x1x128x16x8_0_1_4_2_3) shapeCasts_S4x1x128x16x8_S4x128x16x8) shapeCasts_S4x128x16x8_S4x2048x8))) shapeCasts_S4x2048x8x128_S512x16x8x128

set_option maxHeartbeats 800000 in
theorem res_out0_eq (m : (ℓ : Loc nD τ sig) → Buf (Elt Ideal) ℓ) (c : Dev nD) :
    res_out0 m c = result0 (scores (m ((c.tc : Thread nD τ).loc main_arg0)) (m ((c.tc : Thread nD τ).loc main_arg1)) (m ((c.tc : Thread nD τ).loc main_arg2)))
      (banded (vals (m ((c.tc : Thread nD τ).loc main_arg1)))) := rfl

set_option maxHeartbeats 800000 in
theorem res_out1_eq (m : (ℓ : Loc nD τ sig) → Buf (Elt Ideal) ℓ) (c : Dev nD) :
    res_out1 m c = result1 (logSum (scores (m ((c.tc : Thread nD τ).loc main_arg0)) (m ((c.tc : Thread nD τ).loc main_arg1)) (m ((c.tc : Thread nD τ).loc main_arg2)))) := rfl

end Cert.AttCRefIdeal.Own

end
-- ==== Proof.AttC.Entry.lean ====
module

public import proofs.«01_k».proof.Proof.AttC.FrameIdeal
public import proofs.«01_k».proof.Proof.AttC.Ref
public import Idealize.ShloMosaic.Lib.Pointwise
public import Idealize.ShloMosaic.Lib.Claim

@[expose] public section

set_option maxRecDepth 16384

noncomputable section

namespace Cert.AttCIdeal.Own

open Cert.AttCIdeal Cert.AttCIdeal.Gen
open Idealize.ShloMosaic Idealize.ShloMosaic.TcCoe Idealize.ShloMosaic.Tactic Idealize.SL.Sem

/-! ## The mask the kernel's host part builds -/

/-- The distance biases of the group's heads. -/
def table (rb : FVec Ideal S32x24 .f32) : FVec Ideal S129x8 .f32 :=
  extractStridedSlice S129x8 ![0, 16] (Host.gather gather_S32x24_S129x1_S129x24_1_0_n_n_0_1_124 rb
    (broadcastInDim S129x1 ![0] bcast_S129_S129x1_0 (select (constantI S129 1 0#1)
      (addi (fun i => lit0 (S129.rowMajor i)) (broadcastInDim S129 ![] bcast_S_S129 (constantI S_ 32 32#32))) (fun i => lit0 (S129.rowMajor i))))) slices_S129x24_S129x8_0_16

/-- The biases in falling order of the distance, read around. -/
def ring (x : FVec Ideal S129x8 .f32) : FVec Ideal S384x8 .f32 :=
  Host.gather gather_S129x8_S384x1_S384x8_1_0_n_n_0_1_18 x (broadcastInDim S384x1 ![0] bcast_S384_S384x1_0 (select (constantI S384 1 0#1)
    (addi (fun i => lit1 (S384.rowMajor i)) (broadcastInDim S384 ![] bcast_S_S384 (constantI S_ 32 129#32))) (fun i => lit1 (S384.rowMajor i))))

/-- Shifted by one from each row to the next. -/
def skew (x : FVec Ideal S384x8 .f32) : FVec Ideal S8x128x256 .f32 :=
  extractStridedSlice S8x128x256 ![0, 0, 0] (shapeCast S8x128x383 (extractStridedSlice S8x49024 ![0, 0]
    (shapeCast S8x49152 (broadcastInDim S1x8x128x384 ![0, 1, 2, 3] bcast_S1x8x1x384_S1x8x128x384_0_1_2_3
      (shapeCast S1x8x1x384 (transpose S8x384 [1, 0] x transposes_S384x8_S8x384_1_0) shapeCasts_S8x384_S1x8x1x384)) shapeCasts_S1x8x128x384_S8x49152)
    slices_S8x49152_S8x49024_0_0) shapeCasts_S8x49024_S8x128x383) slices_S8x128x383_S8x128x256_0_0_0

/-- Which keys lie within the window. -/
def window : IVec S8x128x256 1 :=
  andi (cmpi .sge (subi (addi (iotaInDim S8x128x256 32 1) (broadcastInDim S8x128x256 ![] bcast_S_S8x128x256 (constantI S_ 32 128#32))) (iotaInDim S8x128x256 32 2))
      (broadcastInDim S8x128x256 ![] bcast_S_S8x128x256 (constantI S_ 32 0#32)))
    (cmpi .sle (subi (addi (iotaInDim S8x128x256 32 1) (broadcastInDim S8x128x256 ![] bcast_S_S8x128x256 (constantI S_ 32 128#32))) (iotaInDim S8x128x256 32 2))
      (broadcastInDim S8x128x256 ![] bcast_S_S8x128x256 (constantI S_ 32 128#32)))

/-- The mask. -/
def mask (rb : FVec Ideal S32x24 .f32) : FVec Ideal S8x128x256 .f32 :=
  select window (skew (ring (table rb))) (broadcastInDim S8x128x256 ![] bcast_S_S8x128x256 (constant S_ .f32 0xFF800000#32))

set_option maxHeartbeats 1000000 in
theorem V_mask (m : (ℓ : Loc nD τ sig) → Buf (Elt Ideal) ℓ) (c : Dev nD) :
    V m c main_v29 = mask (m ((c : Thread nD τ).loc main_arg2)) := by
  entry_read
  rfl

theorem V_queries (m : (ℓ : Loc nD τ sig) → Buf (Elt Ideal) ℓ) (c : Dev nD) :
    V m c main_v30 = shapeCast S512x16x24x128 (m ((c : Thread nD τ).loc main_arg0)) shapeCasts_S8192x24x128_S512x16x24x128 := by
  entry_read
  try rfl

theorem V_keys (m : (ℓ : Loc nD τ sig) → Buf (Elt Ideal) ℓ) (c : Dev nD) :
    V m c main_v31 = shapeCast S512x16x16x128 (m ((c : Thread nD τ).loc main_arg1)) shapeCasts_S8192x16x128_S512x16x16x128 := by
  entry_read
  try rfl

theorem lit0_eq : ∀ p : Fin 129, (lit0 p : BitVec 32) = Cert.AttCRefIdeal.lit0 p := by decide +kernel

/-- The table is the reference's. -/
theorem table_eq (rb : FVec Ideal S32x24 .f32) : table rb = Cert.AttCRefIdeal.Own.biases rb := by
  have e : (lit0 : Fin 129 → BitVec 32) = Cert.AttCRefIdeal.lit0 := funext lit0_eq
  unfold table Cert.AttCRefIdeal.Own.biases
  rw [e]
  rfl

theorem ring_word : ∀ p : Fin 384, p.val ≤ 128 → (lit1 (S384.rowMajor (ix1 p)) : BitVec 32) = BitVec.ofNat 32 (128 - p.val) := by decide +kernel

theorem ring_at (x : FVec Ideal S129x8 .f32) (p : Fin 384) (hp : p.val ≤ 128) (h : Fin 8) :
    ring x (ix2 p h) = x (ix2 ⟨128 - p.val, by omega⟩ h) := by
  unfold ring
  refine Routing.gather_row gather_S129x8_S384x1_S384x8_1_0_n_n_0_1_18 rfl rfl rfl rfl rfl x _ p h ⟨128 - p.val, by omega⟩ ?_ (by decide)
  pointwise
  exact ring_word p hp

theorem skew_at (x : FVec Ideal S384x8 .f32) (h : Fin 8) (i : Fin 128) (c : Fin 256) :
    skew x (ix3 h i c) = x (ix2 ⟨(i.val * 383 + c.val) % 384, Nat.mod_lt _ (by decide)⟩ h) := by
  pointwise [skew]

/-- The mask, entry by entry. -/
theorem mask_at (rb : FVec Ideal S32x24 .f32) (h : Fin 8) (i : Fin 128) (c : Fin 256) :
    mask rb (ix3 h i c) = if hw : i.val ≤ c.val ∧ c.val ≤ i.val + 128 then Cert.AttCRefIdeal.Own.biases rb (ix2 ⟨i.val + 128 - c.val, by omega⟩ h) else ⊥ := by
  rw [← table_eq]
  unfold mask
  have e : select window (skew (ring (table rb))) (broadcastInDim S8x128x256 ![] bcast_S_S8x128x256 (constant S_ .f32 0xFF800000#32)) (ix3 h i c)
      = if i.val ≤ c.val ∧ c.val ≤ i.val + 128 then skew (ring (table rb)) (ix3 h i c) else ⊥ := by
    pointwise [window, Soft.ofBits_negInf]
    exact Soft.select_window i c _ _
  rw [e]
  by_cases hw : i.val ≤ c.val ∧ c.val ≤ i.val + 128
  · have hi := i.isLt
    have hv : (i.val * 383 + c.val) % 384 = c.val - i.val := by omega
    rw [if_pos hw, dif_pos hw, skew_at, ring_at _ _ (by show (i.val * 383 + c.val) % 384 ≤ 128; omega)]
    refine congrArg (fun p => table rb (ix2 p h)) (Fin.ext ?_)
    show 128 - (i.val * 383 + c.val) % 384 = i.val + 128 - c.val
    omega
  · rw [if_neg hw, dif_neg hw]

end Cert.AttCIdeal.Own

end
-- ==== Proof.AttC.Places.lean ====
module

public import proofs.«01_k».proof.Proof.AttC.Entry
public import Idealize.ShloMosaic.Lib.Pipeline.ValueKit

@[expose] public section

set_option maxRecDepth 16384

noncomputable section

namespace Cert.AttCIdeal.Own

open Cert.AttCIdeal Cert.AttCIdeal.Gen
open Idealize.ShloMosaic Idealize.ShloMosaic.TcCoe Idealize.ShloMosaic.Tactic Idealize.SL.Sem

variable (m : (ℓ : Loc nD τ sig) → Buf (Elt Ideal) ℓ) (c : Dev nD)

/-- Where the windows' blocks sit at each point. -/
theorem places : ∀ t : Fin cfg0.N, win0_0.index t = ![(grid0.coords t 0).val, (grid0.coords t 1).val, 2, 0]
    ∧ win0_1.index t = ![(grid0.coords t 0).val, (grid0.coords t 1).val, 0, 0]
    ∧ win0_2.index t = ![(grid0.coords t 0).val, (grid0.coords t 1).val, 1, 0]
    ∧ win0_3.index t = ![0, 0, 0]
    ∧ win0_4.index t = ![(grid0.coords t 0).val, (grid0.coords t 1).val, 0, 0]
    ∧ win0_5.index t = ![(grid0.coords t 0).val, (grid0.coords t 1).val, 0, 0] :=
  (by decide +kernel : ∀ t : Fin grid0.N, _)

/-- The arrays as the kernel sees them, split into blocks of rows. -/
theorem reshape_q (x : FVec Ideal S8192x24x128 .f32) (b : Fin 4) (i : Fin 128) (r : Fin 16) (h : Fin 24) (e : Fin 128) :
    shapeCast S512x16x24x128 x shapeCasts_S8192x24x128_S512x16x24x128 (ix4 ⟨b.val * 128 + i.val, by omega⟩ r h e)
      = x (ix3 ⟨b.val * 2048 + (i.val * 16 + r.val), by omega⟩ h e) := by
  pointwise
  refine congrArg x ?_
  refine congrArg (fun p => ix3 p h e) (Fin.ext ?_)
  show (b.val * 128 + i.val) * 16 + r.val = b.val * 2048 + (i.val * 16 + r.val)
  omega

theorem reshape_kv (x : FVec Ideal S8192x16x128 .f32) (b : Fin 4) (i : Fin 128) (r : Fin 16) (h : Fin 16) (e : Fin 128) :
    shapeCast S512x16x16x128 x shapeCasts_S8192x16x128_S512x16x16x128 (ix4 ⟨b.val * 128 + i.val, by omega⟩ r h e)
      = x (ix3 ⟨b.val * 2048 + (i.val * 16 + r.val), by omega⟩ h e) := by
  pointwise
  refine congrArg x ?_
  refine congrArg (fun p => ix3 p h e) (Fin.ext ?_)
  show (b.val * 128 + i.val) * 16 + r.val = b.val * 2048 + (i.val * 16 + r.val)
  omega

/-- The queries' block. -/
theorem block0_at (t : Fin cfg0.N) (b : Fin 4) (r : Fin 16) (hb : (grid0.coords t 0).val = b.val) (hr : (grid0.coords t 1).val = r.val) (i : Fin 128) (h : Fin 8) (e : Fin 128) :
    (iblk m c 0 t : FVec Ideal S128x1x8x128 .f32) (ix4 i 0 h e)
      = (m ((c : Thread nD τ).loc main_arg0) : FVec Ideal S8192x24x128 .f32) (ix3 ⟨b.val * 2048 + (i.val * 16 + r.val), by omega⟩ ⟨16 + h.val, by omega⟩ e) := by
  have e0 : (iblk m c 0 t : FVec Ideal S128x1x8x128 .f32) (ix4 i 0 h e)
      = (V m c main_v30 : FVec Ideal S512x16x24x128 .f32) (ix4 ⟨b.val * 128 + i.val, by omega⟩ r ⟨16 + h.val, by omega⟩ e) := by
    blk_ext [iblk, places t, hb, hr]
  rw [e0, V_queries]
  exact reshape_q _ b i r ⟨16 + h.val, by omega⟩ e

/-- The keys' block. -/
theorem block1_at (t : Fin cfg0.N) (b : Fin 4) (r : Fin 16) (hb : (grid0.coords t 0).val = b.val) (hr : (grid0.coords t 1).val = r.val) (i : Fin 128) (h : Fin 8) (e : Fin 128) :
    (iblk m c 1 t : FVec Ideal S128x1x8x128 .f32) (ix4 i 0 h e)
      = (m ((c : Thread nD τ).loc main_arg1) : FVec Ideal S8192x16x128 .f32) (ix3 ⟨b.val * 2048 + (i.val * 16 + r.val), by omega⟩ ⟨h.val, by omega⟩ e) := by
  have e0 : (iblk m c 1 t : FVec Ideal S128x1x8x128 .f32) (ix4 i 0 h e)
      = (V m c main_v31 : FVec Ideal S512x16x16x128 .f32) (ix4 ⟨b.val * 128 + i.val, by omega⟩ r ⟨h.val, by omega⟩ e) := by
    blk_ext [iblk, places t, hb, hr]
  rw [e0, V_keys]
  exact reshape_kv _ b i r ⟨h.val, by omega⟩ e

/-- The values' block. -/
theorem block2_at (t : Fin cfg0.N) (b : Fin 4) (r : Fin 16) (hb : (grid0.coords t 0).val = b.val) (hr : (grid0.coords t 1).val = r.val) (i : Fin 128) (h : Fin 8) (e : Fin 128) :
    (iblk m c 2 t : FVec Ideal S128x1x8x128 .f32) (ix4 i 0 h e)
      = (m ((c : Thread nD τ).loc main_arg1) : FVec Ideal S8192x16x128 .f32) (ix3 ⟨b.val * 2048 + (i.val * 16 + r.val), by omega⟩ ⟨8 + h.val, by omega⟩ e) := by
  have e0 : (iblk m c 2 t : FVec Ideal S128x1x8x128 .f32) (ix4 i 0 h e)
      = (V m c main_v31 : FVec Ideal S512x16x16x128 .f32) (ix4 ⟨b.val * 128 + i.val, by omega⟩ r ⟨8 + h.val, by omega⟩ e) := by
    blk_ext [iblk, places t, hb, hr]
  rw [e0, V_keys]
  exact reshape_kv _ b i r ⟨8 + h.val, by omega⟩ e

/-- The mask's block is the whole mask. -/
theorem block3_at (t : Fin cfg0.N) (h : Fin 8) (i : Fin 128) (j : Fin 256) :
    (iblk m c 3 t : FVec Ideal S8x128x256 .f32) (ix3 h i j) = mask (m ((c : Thread nD τ).loc main_arg2)) (ix3 h i j) := by
  have e0 : (iblk m c 3 t : FVec Ideal S8x128x256 .f32) (ix3 h i j) = (V m c main_v29 : FVec Ideal S8x128x256 .f32) (ix3 h i j) := by
    blk_ext [iblk, places t]
  rw [e0, V_mask]

/-- The same at any index. -/
theorem grid_mem : ∀ t : Fin cfg0.N, (grid0.coords t 0).val < 4 ∧ (grid0.coords t 1).val < 16 :=
  (by decide +kernel : ∀ t : Fin grid0.N, _)

end Cert.AttCIdeal.Own

end
-- ==== Proof.AttC.RefRead.lean ====
module

public import proofs.«01_k».proof.Proof.AttC.Ref
public import Idealize.ShloMosaic.Lib.Pointwise

@[expose] public section

set_option maxRecDepth 16384

noncomputable section

namespace Cert.AttCRefIdeal.Own

open Cert.AttCRefIdeal Cert.AttCRefIdeal.Gen Cert.AttCRefIdeal.Value
open Idealize.ShloMosaic Idealize.ShloMosaic.TcCoe Idealize.SL.Sem

theorem keys_at (kv : FVec Ideal S8192x16x128 .f32) (b : Fin 4) (p : Fin 2048) (h : Fin 8) (e : Fin 128) :
    keys kv (ix4 b p h e) = kv (ix3 ⟨b.val * 2048 + p.val, by omega⟩ ⟨h.val, by omega⟩ e) := by
  pointwise [keys]

theorem vals_at (kv : FVec Ideal S8192x16x128 .f32) (b : Fin 4) (p : Fin 2048) (h : Fin 8) (e : Fin 128) :
    vals kv (ix4 b p h e) = kv (ix3 ⟨b.val * 2048 + p.val, by omega⟩ ⟨8 + h.val, by omega⟩ e) := by
  pointwise [vals]

theorem queries_at (q : FVec Ideal S8192x24x128 .f32) (b : Fin 4) (i : Fin 128) (r : Fin 16) (h : Fin 8) (e : Fin 128) :
    queries q (ix6 b 0 i r h e) = q (ix3 ⟨b.val * 2048 + (i.val * 16 + r.val), by omega⟩ ⟨16 + h.val, by omega⟩ e) := by
  pointwise [queries]

theorem banded_at (x : FVec Ideal S4x2048x8x128 .f32) (b : Fin 4) (j : Fin 256) (r : Fin 16) (h : Fin 8) (e : Fin 128) :
    banded x (ix6 b 0 j r h e) = if hj : 128 ≤ j.val then x (ix4 b ⟨(j.val - 128) * 16 + r.val, by omega⟩ h e) else 0 := by
  pointwise [banded, padded]
  have z := Soft.sitofp_zero
  by_cases hj : 128 ≤ j.val
  · rw [dif_neg (by omega), dif_pos (by omega), dif_pos hj]
  · rw [dif_pos (by omega), dif_neg (by omega), dif_neg hj]; exact z

theorem result0_at (s : FVec Ideal S4x1x16x8x128x256 .f32) (v : FVec Ideal S4x1x256x16x8x128 .f32) (b : Fin 4) (i : Fin 128) (r : Fin 16) (h : Fin 8) (e : Fin 128) :
    result0 s v (ix4 ⟨b.val * 128 + i.val, by omega⟩ r h e) = ∑ j : Fin 256, v (ix6 b 0 j r h e) * Ideal.exp (s (ix6 b 0 r h i j) - logSum s (ix5 b 0 r h i)) := by
  pointwise [result0, spread]

theorem result1_at (l : FVec Ideal S4x1x16x8x128 .f32) (b : Fin 4) (i : Fin 128) (r : Fin 16) (h : Fin 8) (e : Fin 128) :
    result1 l (ix4 ⟨b.val * 128 + i.val, by omega⟩ r h e) = l (ix5 b 0 r h i) := by
  pointwise [result1]

/-- The largest score of a row. -/
theorem top_at (s : FVec Ideal S4x1x16x8x128x256 .f32) (b : Fin 4) (i : Fin 128) (r : Fin 16) (h : Fin 8) :
    top s (ix5 b 0 r h i) = Finset.univ.fold max ⊥ fun j : Fin 256 => s (ix6 b 0 r h i j) :=
  Soft.reduce_max6 s _ _ b 0 r h i

/-- The exponentials of a row's scores, shifted. -/
theorem shifted_at (s : FVec Ideal S4x1x16x8x128x256 .f32) (t : FVec Ideal S4x1x16x8x128 .f32) (b : Fin 4) (i : Fin 128) (r : Fin 16) (h : Fin 8) (j : Fin 256) :
    Host.exp (subf s (spread t)) (ix6 b 0 r h i j) = Ideal.exp (s (ix6 b 0 r h i j) - t (ix5 b 0 r h i)) := by
  pointwise [spread]

theorem add_log_at (x y : FVec Ideal S4x1x16x8x128 .f32) (j : S4x1x16x8x128.Idx) : addf x (Host.log y) j = x j + Ideal.log (y j) := rfl

/-- The log-sum-exp of a row. -/
theorem logSum_at (s : FVec Ideal S4x1x16x8x128x256 .f32) (b : Fin 4) (i : Fin 128) (r : Fin 16) (h : Fin 8) :
    logSum s (ix5 b 0 r h i) = (Finset.univ.fold max ⊥ fun j : Fin 256 => s (ix6 b 0 r h i j))
      + Ideal.log (∑ j : Fin 256, Ideal.exp (s (ix6 b 0 r h i j) - (Finset.univ.fold max ⊥ fun j : Fin 256 => s (ix6 b 0 r h i j)))) := by
  unfold logSum
  rw [add_log_at, Soft.reduce_add6, top_at]
  refine congrArg (fun z : EReal => _ + Ideal.log z) (Finset.sum_congr rfl fun j _ => ?_)
  rw [shifted_at, top_at]

/-- The scores, entry by entry. -/
theorem scores_at (q : FVec Ideal S8192x24x128 .f32) (kv : FVec Ideal S8192x16x128 .f32) (rb : FVec Ideal S32x24 .f32) (b : Fin 4) (i : Fin 128) (r : Fin 16) (h : Fin 8) (j : Fin 256) :
    scores q kv rb (ix6 b 0 r h i j) = if (i.val ≤ j.val ∧ j.val ≤ i.val + 128) ∧ 128 ≤ j.val
      then (∑ e : Fin 128, queries q (ix6 b 0 i r h e) * banded (keys kv) (ix6 b 0 j r h e)) * Ideal.ofBits .f32 0x3DB504F3#32 + bias rb (ix3 h i j) else ⊥ := by
  pointwise [scores, valid, Soft.ofBits_negInf]
  exact Soft.select_valid0 i j _ _

set_option maxHeartbeats 1000000 in
/-- The bias of a visible key is the one of its distance. -/
theorem bias_at (rb : FVec Ideal S32x24 .f32) (h : Fin 8) (i : Fin 128) (j : Fin 256) (h1 : i.val ≤ j.val) (h2 : j.val ≤ i.val + 128) :
    bias rb (ix3 h i j) = biases rb (ix2 ⟨i.val + 128 - j.val, by omega⟩ h) := by
  unfold bias
  generalize biases rb = x
  have e : ∀ g : FVec Ideal S128x256x8 .f32, transpose S8x128x256 [2, 0, 1] g transposes_S128x256x8_S8x128x256_2_0_1 (ix3 h i j) = g (ix3 i j h) := by
    intro g; pointwise
  rw [e]
  refine Soft.gather_rows gather_S129x8_S128x256x1_S128x256x8_2_0_n_n_0_2_18 rfl rfl rfl rfl rfl rfl x _ i j h ⟨i.val + 128 - j.val, by omega⟩ ?_ (by decide)
  pointwise [dist]
  exact Soft.dist_word i j h1 h2

/-- A bias is one of the table's numbers. -/
theorem biases_mem (rb : FVec Ideal S32x24 .f32) (y : S129x8.Idx) : ∃ z, biases rb y = rb z := ⟨_, rfl⟩

end Cert.AttCRefIdeal.Own

end
-- ==== Proof.Att.Match.lean ====
module

public import proofs.«01_k».proof.Proof.Att.Rows

@[expose] public section

set_option maxRecDepth 16384

noncomputable section

namespace Cert.Soft

open Idealize.ShloMosaic

/-- A number below `⊤` in absolute value is real. -/
theorem real_of_abs {s u : Shape} {d} (x : FVec Ideal s .f32) (hb : u.BroadcastsInDim s d) (i : s.Idx)
    (h : cmpf .olt (Host.absf x) (broadcastInDim s d hb (constant u .f32 0x7F800000#32)) i = 1#1) : ∃ r : ℝ, x i = (r : EReal) := by
  have h' : Ideal.cmp .olt (max (x i) (-(x i))) (Ideal.ofBits .f32 0x7F800000#32) = 1#1 := h
  rw [ofBits_posInf] at h'
  generalize x i = z at h'
  induction z using EReal.rec with
  | bot => exact absurd h' (by simp [Ideal.cmp])
  | top => exact absurd h' (by simp [Ideal.cmp])
  | coe r => exact ⟨r, rfl⟩

/-! ## The two ways of computing a row -/

section Row
variable {n : ℕ} {L V : Fin n → EReal}

/-- The largest score plus the logarithm of the shifted sum. -/
theorem max_log (h : Proper L) :
    (Finset.univ.fold max ⊥ L) + Ideal.log (∑ c, Ideal.exp (L c - Finset.univ.fold max ⊥ L)) = lse L := by
  obtain ⟨σ, hσ⟩ := max_real h
  rw [hσ, sum_exp h, add_comm, log_sum h]

/-- The weighted sum divided by the sum of the weights. -/
theorem max_div (h : Proper L) :
    Ideal.div (∑ c, Ideal.exp (L c - Finset.univ.fold max ⊥ L) * V c) (∑ c, Ideal.exp (L c - Finset.univ.fold max ⊥ L)) = avg L V := by
  obtain ⟨σ, hσ⟩ := max_real h
  rw [hσ, sum_exp h, div_sum h]

/-- The sum weighted by the exponentials of the scores less the log-sum-exp. -/
theorem sum_lse (h : Proper L) : ∑ c, V c * Ideal.exp (L c - lse L) = avg L V :=
  Finset.sum_congr rfl fun c _ => by rw [exp_sub_lse h]

end Row

/-! ## One row's scores -/

/-- The scores as the reference writes them: those of the keys within the window and not before the first row. -/
def refRow (i : Fin 128) (p : Fin 256 → Prop) [DecidablePred p] (q : Fin 128 → EReal) (k : Fin 256 → Fin 128 → EReal) (B : Fin 256 → EReal) (j : Fin 256) : EReal :=
  if (i.val ≤ j.val ∧ j.val ≤ i.val + 128) ∧ p j then (∑ e : Fin 128, q e * k j e) * Ideal.ofBits .f32 0x3DB504F3#32 + B j else ⊥

/-- The scores as the kernel writes them. -/
def kerRow (i : Fin 128) (q : Fin 128 → EReal) (k : Fin 256 → Fin 128 → EReal) (B : Fin 256 → EReal) (j : Fin 256) : EReal :=
  (∑ e : Fin 128, q e * Ideal.ofBits .f32 0x3DB504F3#32 * k j e) + (if i.val ≤ j.val ∧ j.val ≤ i.val + 128 then B j else ⊥)

section Scores
variable {i : Fin 128} {p : Fin 256 → Prop} [DecidablePred p] {q : Fin 128 → EReal} {k : Fin 256 → Fin 128 → EReal} {B : Fin 256 → EReal}

/-- A score within the window is real, -/
theorem refRow_real (hq : ∀ e, ∃ r : ℝ, q e = r) {j : Fin 256} (hk : ∀ e, ∃ r : ℝ, k j e = r) (hw : i.val ≤ j.val ∧ j.val ≤ i.val + 128) (hp : p j)
    (hB : ∃ r : ℝ, B j = r) : ∃ r : ℝ, refRow i p q k B j = r := by
  choose qr hqr using hq
  choose kr hkr using hk
  obtain ⟨b, hb⟩ := hB
  obtain ⟨s, hs⟩ := scale_real
  obtain ⟨t, ht⟩ := sum_real qr kr
  unfold refRow
  rw [if_pos ⟨hw, hp⟩, hs, hb]
  simp only [hqr, hkr]
  rw [ht]
  exact ⟨t * s + b, by push_cast; rfl⟩

/-- and the kernel's is the same. -/
theorem kerRow_eq (hq : ∀ e, ∃ r : ℝ, q e = r) {j : Fin 256} (hk : ∀ e, ∃ r : ℝ, k j e = r) (hp : p j) : kerRow i q k B j = refRow i p q k B j := by
  choose qr hqr using hq
  choose kr hkr using hk
  obtain ⟨s, hs⟩ := scale_real
  unfold kerRow refRow
  by_cases hw : i.val ≤ j.val ∧ j.val ≤ i.val + 128
  · rw [if_pos hw, if_pos ⟨hw, hp⟩, hs]
    simp only [hqr, hkr]
    rw [sum_scale]
  · rw [if_neg hw, if_neg (fun h => hw h.1), EReal.add_bot]

theorem refRow_bot {j : Fin 256} (hp : ¬p j) : refRow i p q k B j = ⊥ := if_neg fun h => hp h.2

/-- The row is proper: the query's own key is within the window. -/
theorem refRow_proper (hq : ∀ e, ∃ r : ℝ, q e = r) (hk : ∀ j, p j → ∀ e, ∃ r : ℝ, k j e = r) (hhi : ∀ j : Fin 256, 128 ≤ j.val → p j)
    (hB : ∀ j : Fin 256, i.val ≤ j.val ∧ j.val ≤ i.val + 128 → ∃ r : ℝ, B j = r) : Proper (refRow i p q k B) := by
  refine ⟨fun j => ?_, ⟨128 + i.val, by omega⟩, ?_⟩
  · by_cases h : (i.val ≤ j.val ∧ j.val ≤ i.val + 128) ∧ p j
    · obtain ⟨r, hr⟩ := refRow_real hq (hk j h.2) h.1 h.2 (hB j h.1)
      rw [hr]; exact EReal.coe_ne_top r
    · unfold refRow; rw [if_neg h]; exact bot_ne_top
  · have hp : p ⟨128 + i.val, by omega⟩ := hhi _ (by show 128 ≤ 128 + i.val; omega)
    have hw : i.val ≤ (⟨128 + i.val, by omega⟩ : Fin 256).val ∧ (⟨128 + i.val, by omega⟩ : Fin 256).val ≤ i.val + 128 := ⟨by show i.val ≤ 128 + i.val; omega, by show 128 + i.val ≤ i.val + 128; omega⟩
    obtain ⟨r, hr⟩ := refRow_real hq (hk _ hp) hw hp (hB _ hw)
    rw [hr]; exact EReal.coe_ne_bot r

end Scores

end Cert.Soft

end
-- ==== Proof.AttC.Algebraic.lean ====
module

public import proofs.«01_k».proof.Proof.AttC.Block
public import proofs.«01_k».proof.Proof.AttC.Places
public import proofs.«01_k».proof.Proof.AttC.RefRead
public import proofs.«01_k».proof.Proof.Att.Match
public import proofs.«01_k».proof.Defs
public import proofs.«01_k».proof.Proof.Gen.Pre_finite

@[expose] public section

set_option maxRecDepth 16384

noncomputable section

namespace Cert.AttCIdeal.Own

open Cert.AttCIdeal Cert.AttCIdeal.Gen
open Idealize.ShloMosaic Idealize.ShloMosaic.TcCoe Idealize.ShloMosaic.Tactic Idealize.SL.Sem
open Cert.AttCRefIdeal.Own (queries keys vals bias banded result0 result1 logSum)

/-! ## One row, from the arguments -/

section Row
variable (q : FVec Ideal S8192x24x128 .f32) (kv : FVec Ideal S8192x16x128 .f32) (rb : FVec Ideal S32x24 .f32)
variable (b : Fin 4) (r : Fin 16) (h : Fin 8) (i : Fin 128)

/-- The query's row, -/
abbrev qRow (e : Fin 128) : EReal := q (ix3 ⟨b.val * 2048 + (i.val * 16 + r.val), by omega⟩ ⟨16 + h.val, by omega⟩ e)
/-- the keys' rows, zero before the first, -/
abbrev kRow (j : Fin 256) (e : Fin 128) : EReal := banded (keys kv) (ix6 b 0 j r h e)
/-- the values, -/
abbrev vRow (e : Fin 128) (j : Fin 256) : EReal := banded (vals kv) (ix6 b 0 j r h e)
/-- the biases -/
abbrev bRow (j : Fin 256) : EReal := bias rb (ix3 h i j)
/-- and the scores of one query. -/
abbrev row : Fin 256 → EReal := Soft.refRow i (fun j => 128 ≤ j.val) (qRow q b r h i) (kRow kv b r h) (bRow rb h i)

theorem row_eq (j : Fin 256) : Cert.AttCRefIdeal.Own.scores q kv rb (ix6 b 0 r h i j) = row q kv rb b r h i j := by
  rw [Cert.AttCRefIdeal.Own.scores_at]
  unfold row Soft.refRow
  simp only [Cert.AttCRefIdeal.Own.queries_at]

/-- The arguments' entries the call reads are real. -/
structure Finite : Prop where
  q : ∀ j, ∃ x : ℝ, q j = x
  k : ∀ (n : Fin 8192) (h : Fin 8) (e : Fin 128), ∃ x : ℝ, kv (ix3 n ⟨h.val, by omega⟩ e) = x
  rb : ∀ j, ∃ x : ℝ, rb j = x

variable {q kv rb}
variable (hf : Finite q kv rb)
include hf

theorem qRow_real (e : Fin 128) : ∃ x : ℝ, qRow q b r h i e = x := hf.q _

theorem kRow_real (j : Fin 256) (hj : 128 ≤ j.val) (e : Fin 128) : ∃ x : ℝ, kRow kv b r h j e = x := by
  unfold kRow
  rw [Cert.AttCRefIdeal.Own.banded_at, dif_pos hj, Cert.AttCRefIdeal.Own.keys_at]
  exact hf.k _ h e

theorem bRow_real (j : Fin 256) (hw : i.val ≤ j.val ∧ j.val ≤ i.val + 128) : ∃ x : ℝ, bRow rb h i j = x := by
  unfold bRow
  rw [Cert.AttCRefIdeal.Own.bias_at rb h i j hw.1 hw.2]
  obtain ⟨z, hz⟩ := Cert.AttCRefIdeal.Own.biases_mem rb (ix2 ⟨i.val + 128 - j.val, by omega⟩ h)
  rw [hz]
  exact hf.rb z

theorem row_proper : Soft.Proper (row q kv rb b r h i) :=
  Soft.refRow_proper (qRow_real b r h i hf) (fun j hj e => kRow_real b r h hf j hj e) (fun _ hj => hj) (fun j hw => bRow_real h i hf j hw)

/-- The reference's log-sum-exp of the row, -/
theorem ref_lse : logSum (Cert.AttCRefIdeal.Own.scores q kv rb) (ix5 b 0 r h i) = Soft.lse (row q kv rb b r h i) := by
  rw [Cert.AttCRefIdeal.Own.logSum_at]
  simp only [row_eq]
  exact Soft.max_log (row_proper b r h i hf)

/-- and its average of the values. -/
theorem ref_avg (e : Fin 128) : result0 (Cert.AttCRefIdeal.Own.scores q kv rb) (banded (vals kv)) (ix4 ⟨b.val * 128 + i.val, by omega⟩ r h e)
    = Soft.avg (row q kv rb b r h i) (vRow kv b r h e) := by
  rw [Cert.AttCRefIdeal.Own.result0_at, ref_lse b r h i hf]
  simp only [row_eq]
  exact Soft.sum_lse (row_proper b r h i hf)

theorem lo_bot (j : Fin 128) : Soft.lo (row q kv rb b r h i) j = ⊥ :=
  Soft.refRow_bot (p := fun j => 128 ≤ j.val) (j := ⟨j.val, by omega⟩) (by show ¬(128 ≤ j.val); omega)

theorem hi_proper : Soft.Proper (Soft.hi (row q kv rb b r h i)) := by
  have hp := row_proper b r h i hf
  refine ⟨fun j => hp.1 _, ?_⟩
  obtain ⟨j, hj⟩ := hp.2
  have h128 : 128 ≤ j.val := by
    by_contra hn
    exact hj (Soft.refRow_bot hn)
  refine ⟨⟨j.val - 128, by omega⟩, ?_⟩
  have e : (⟨128 + (j.val - 128), by omega⟩ : Fin 256) = j := Fin.ext (by show 128 + (j.val - 128) = j.val; omega)
  show row q kv rb b r h i ⟨128 + (j.val - 128), _⟩ ≠ ⊥
  rw [e]; exact hj

end Row

/-! ## The kernel's row -/

section Kernel
variable (m : (ℓ : Loc nD τ sig) → Buf (Elt Ideal) ℓ) (c : Dev nD)

/-- The arguments at their types. -/
abbrev argQ : FVec Ideal S8192x24x128 .f32 := m ((c : Thread nD τ).loc main_arg0)
abbrev argKv : FVec Ideal S8192x16x128 .f32 := m ((c : Thread nD τ).loc main_arg1)
abbrev argRb : FVec Ideal S32x24 .f32 := m ((c : Thread nD τ).loc main_arg2)

variable (t : Fin cfg0.N) (b : Fin 4) (r : Fin 16) (hb : (grid0.coords t 0).val = b.val) (hr : (grid0.coords t 1).val = r.val)
variable (h : Fin 8) (i : Fin 128)
variable (hf : Finite (argQ m c) (argKv m c) (argRb m c))
include hb hr hf

theorem kernel_row (j : Fin 128) :
    headScores (F := Ideal) (iblk m c 0 t) (iblk m c 1 t) (iblk m c 3 t) h (ix2 i j) = Soft.hi (row (argQ m c) (argKv m c) (argRb m c) b r h i) j := by
  have key := Soft.kerRow_eq (i := i) (p := fun j => 128 ≤ j.val) (B := bRow (argRb m c) h i) (j := ⟨128 + j.val, by omega⟩) (qRow_real b r h i hf) (kRow_real b r h hf ⟨128 + j.val, by omega⟩ (by show 128 ≤ 128 + j.val; omega))
    (by show 128 ≤ 128 + j.val; omega)
  refine Eq.trans ?_ key
  unfold headScores
  rw [score_at]
  unfold Soft.kerRow
  refine congrArg₂ (fun x y : EReal => x + y) (Finset.sum_congr rfl fun e _ => ?_) ?_
  · rw [headRows_at, headRows_at, block0_at m c t b r hb hr i h e, block1_at m c t b r hb hr j h e]
    refine congrArg₂ (fun x y : EReal => x * y) rfl ?_
    unfold kRow
    rw [Cert.AttCRefIdeal.Own.banded_at, dif_pos (by show 128 ≤ 128 + j.val; omega), Cert.AttCRefIdeal.Own.keys_at]
    refine congrArg (fun p => argKv m c (ix3 p ⟨h.val, by omega⟩ e)) (Fin.ext ?_)
    show b.val * 2048 + (j.val * 16 + r.val) = b.val * 2048 + ((128 + j.val - 128) * 16 + r.val)
    omega
  · rw [headMask_at, block3_at, mask_at]
    by_cases hw : i.val ≤ 128 + j.val ∧ 128 + j.val ≤ i.val + 128
    · rw [dif_pos hw, if_pos hw]
      exact (Cert.AttCRefIdeal.Own.bias_at _ h i ⟨128 + j.val, by omega⟩ hw.1 hw.2).symm
    · rw [dif_neg hw, if_neg hw]

theorem kernel_max : rowMax (headScores (F := Ideal) (iblk m c 0 t) (iblk m c 1 t) (iblk m c 3 t) h) (ix2 i 0)
    = Finset.univ.fold max ⊥ (Soft.hi (row (argQ m c) (argKv m c) (argRb m c) b r h i)) := by
  rw [rowMax_at]
  exact congrArg (fun g : Fin 128 → EReal => Finset.univ.fold max ⊥ g) (funext fun j => kernel_row m c t b r hb hr h i hf j)

theorem kernel_weight (j : Fin 128) : weights (headScores (F := Ideal) (iblk m c 0 t) (iblk m c 1 t) (iblk m c 3 t) h) (ix2 i j)
    = Ideal.exp (Soft.hi (row (argQ m c) (argKv m c) (argRb m c) b r h i) j - Finset.univ.fold max ⊥ (Soft.hi (row (argQ m c) (argKv m c) (argRb m c) b r h i))) := by
  rw [weights_at, kernel_max m c t b r hb hr h i hf, kernel_row m c t b r hb hr h i hf j]

theorem kernel_denom : denom (headScores (F := Ideal) (iblk m c 0 t) (iblk m c 1 t) (iblk m c 3 t) h) (ix2 i 0)
    = ∑ j : Fin 128, Ideal.exp (Soft.hi (row (argQ m c) (argKv m c) (argRb m c) b r h i) j - Finset.univ.fold max ⊥ (Soft.hi (row (argQ m c) (argKv m c) (argRb m c) b r h i))) := by
  rw [denom_at]
  exact Finset.sum_congr rfl fun j _ => kernel_weight m c t b r hb hr h i hf j

/-- The kernel's output entry is the reference's. -/
theorem out4_at (e : Fin 128) : (out4 (F := Ideal) (iblk m c 0 t) (iblk m c 1 t) (iblk m c 2 t) (iblk m c 3 t)) (ix4 i 0 h e)
    = result0 (Cert.AttCRefIdeal.Own.scores (argQ m c) (argKv m c) (argRb m c)) (banded (vals (argKv m c))) (ix4 ⟨b.val * 128 + i.val, by omega⟩ r h e) := by
  rw [ref_avg b r h i hf, Soft.avg_of_lo_bot (lo_bot b r h i hf)]
  unfold out4
  refine (fold_at _ i h e).trans ?_
  rw [headOut_at, kernel_denom m c t b r hb hr h i hf]
  rw [← Soft.max_div (hi_proper b r h i hf)]
  refine congrArg (fun x : EReal => Ideal.div x _) (Finset.sum_congr rfl fun j _ => ?_)
  rw [kernel_weight m c t b r hb hr h i hf j, headRows_at, block2_at m c t b r hb hr j h e]
  refine congrArg₂ (fun x y : EReal => x * y) rfl ?_
  show _ = vRow (argKv m c) b r h e ⟨128 + j.val, _⟩
  unfold vRow
  rw [Cert.AttCRefIdeal.Own.banded_at, dif_pos (by show 128 ≤ 128 + j.val; omega), Cert.AttCRefIdeal.Own.vals_at]
  refine congrArg (fun p => argKv m c (ix3 p ⟨8 + h.val, by omega⟩ e)) (Fin.ext ?_)
  show b.val * 2048 + (j.val * 16 + r.val) = b.val * 2048 + ((128 + j.val - 128) * 16 + r.val)
  omega

/-- The kernel's log-sum-exp is the reference's. -/
theorem out5_at (e : Fin 128) : (out5 (F := Ideal) (iblk m c 0 t) (iblk m c 1 t) (iblk m c 3 t)) (ix4 i 0 h e)
    = result1 (logSum (Cert.AttCRefIdeal.Own.scores (argQ m c) (argKv m c) (argRb m c))) (ix4 ⟨b.val * 128 + i.val, by omega⟩ r h e) := by
  rw [Cert.AttCRefIdeal.Own.result1_at, ref_lse b r h i hf, Soft.lse_of_lo_bot (lo_bot b r h i hf)]
  unfold out5
  refine (fold_at _ i h e).trans ?_
  rw [headLse_at, kernel_denom m c t b r hb hr h i hf, kernel_max m c t b r hb hr h i hf]
  exact Soft.max_log (hi_proper b r h i hf)

end Kernel

/-! ## The result arrays and the claim -/

section Claim
variable (m : (ℓ : Loc nD τ sig) → Buf (Elt Ideal) ℓ) (c : Dev nD)

theorem emb4 (t : Fin cfg0.N) (b : Fin 4) (r : Fin 16) (hb : (grid0.coords t 0).val = b.val) (hr : (grid0.coords t 1).val = r.val) (y : S128x1x8x128.Idx) :
    (((cfg0.win 4).blk t).view.emb y : S512x16x8x128.Idx) = ix4 ⟨b.val * 128 + (y 0).val, by have : (y 0).val < 128 := (y 0).isLt; omega⟩ r (y 2) (y 3) := by
  blk_ext [places t, hb, hr]

theorem emb5 (t : Fin cfg0.N) (b : Fin 4) (r : Fin 16) (hb : (grid0.coords t 0).val = b.val) (hr : (grid0.coords t 1).val = r.val) (y : S128x1x8x128.Idx) :
    (((cfg0.win 5).blk t).view.emb y : S512x16x8x128.Idx) = ix4 ⟨b.val * 128 + (y 0).val, by have : (y 0).val < 128 := (y 0).isLt; omega⟩ r (y 2) (y 3) := by
  blk_ext [places t, hb, hr]

theorem idx_y (y : S128x1x8x128.Idx) : y = (ix4 (y 0) 0 (y 2) (y 3) : S128x1x8x128.Idx) := by
  funext a
  match a with
  | ⟨0, _⟩ => rfl
  | ⟨1, _⟩ => exact Fin.ext (by have : (y 1).val < 1 := (y 1).isLt; show (y 1).val = 0; omega)
  | ⟨2, _⟩ => rfl
  | ⟨3, _⟩ => rfl

/-- The first result after the run. -/
theorem final4 (hf : Finite (argQ m c) (argKv m c) (argRb m c)) : (dats m 0 c).arrAt 4 (cfgs 0).N
    = result0 (Cert.AttCRefIdeal.Own.scores (argQ m c) (argKv m c) (argRb m c)) (banded (vals (argKv m c))) := by
  refine (dats m 0 c).arrAt_eq_of_covers 4 _ (by decide +kernel) fun t _ y => ?_
  blk_simp
  rw [after0_4]
  have e := out4_at m c t ⟨_, (grid_mem t).1⟩ ⟨_, (grid_mem t).2⟩ rfl rfl (y 2) (y 0) hf (y 3)
  refine (congrArg (out4 (F := Ideal) (iblk m c 0 t) (iblk m c 1 t) (iblk m c 2 t) (iblk m c 3 t)) (idx_y y)).trans (e.trans ?_)
  exact congrArg _ (emb4 t ⟨_, (grid_mem t).1⟩ ⟨_, (grid_mem t).2⟩ rfl rfl y).symm

/-- The second result after the run. -/
theorem final5 (hf : Finite (argQ m c) (argKv m c) (argRb m c)) : (dats m 0 c).arrAt 5 (cfgs 0).N
    = result1 (logSum (Cert.AttCRefIdeal.Own.scores (argQ m c) (argKv m c) (argRb m c))) := by
  refine (dats m 0 c).arrAt_eq_of_covers 5 _ (by decide +kernel) fun t _ y => ?_
  blk_simp
  rw [after0_5]
  have e := out5_at m c t ⟨_, (grid_mem t).1⟩ ⟨_, (grid_mem t).2⟩ rfl rfl (y 2) (y 0) hf (y 3)
  refine (congrArg (out5 (F := Ideal) (iblk m c 0 t) (iblk m c 1 t) (iblk m c 3 t)) (idx_y y)).trans (e.trans ?_)
  exact congrArg _ (emb5 t ⟨_, (grid_mem t).1⟩ ⟨_, (grid_mem t).2⟩ rfl rfl y).symm

/-- The precondition says that the entries are real. -/
theorem finite_of_pre (h : Cert.Pre_AttCIdeal_finite m) : Finite (argQ m c) (argKv m c) (argRb m c) := by
  obtain ⟨h0, h1, h2⟩ := h c
  refine ⟨fun j => Soft.real_of_abs _ _ j (congrFun h0 j), fun n g e => ?_, fun j => Soft.real_of_abs _ _ j (congrFun h2 j)⟩
  obtain ⟨x, hx⟩ := Soft.real_of_abs _ _ (ix3 n g e) (congrFun h1 (ix3 n g e))
  refine ⟨x, Eq.trans ?_ hx⟩
  pointwise

end Claim

open Cert.AttCRefIdeal.Own in
/-- The claim: on finite arguments both programs end with the same results. -/
theorem algebraic : Cert.algebraic_AttCIdeal_AttCRefIdeal_pre_finite := by
  intro m g m' g' hpre hagree
  refine ⟨fun c => (dats m 0 c).arrAt 4 (cfgs 0).N, fun c => (dats m 0 c).arrAt 5 (cfgs 0).N, ?_, ?_⟩
  · refine (θ_run _ _ _).mono (fun r h c => ⟨?_, ?_, ?_⟩) (θ_run_and (run_main m g) (unchanged m g))
    · exact (h.1 c).1 4
    · exact (h.1 c).1 5
    · exact h.2 c
  · refine (θ_run _ _ _).mono (fun r h c => ⟨(h c).1.trans ?_, (h c).2.1.trans ?_, (h c).2.2⟩) (Cert.AttCRefIdeal.Value.run m' g')
    · refine Eq.trans ?_ (final4 m c (finite_of_pre m c hpre)).symm
      refine (res_out0_eq m' c).trans ?_
      rw [(hagree c).1, (hagree c).2.1, (hagree c).2.2]
    · refine Eq.trans ?_ (final5 m c (finite_of_pre m c hpre)).symm
      refine (res_out1_eq m' c).trans ?_
      rw [(hagree c).1, (hagree c).2.1, (hagree c).2.2]

end Cert.AttCIdeal.Own

end
-- ==== Proof.Down.Value.lean ====
module

public import proofs.«01_k».proof.Proof.Gen.DownIdeal.Value
public import proofs.«01_k».proof.Proof.Gen.DownRefIdeal.Read
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.DownIdeal.Own

open Idealize.ShloMosaic Idealize.ShloMosaic.TcCoe Idealize.SL.Sem
open Idealize.ShloMosaic.Pipeline (Dat)
open Cert.DownIdeal Cert.DownIdeal.Gen

variable (m : (ℓ : Loc nD τ sig) → Buf (Elt Ideal) ℓ)

/-- The matrix product plus the residual, as the reference writes it. -/
abbrev whole (a : FVec Ideal S8192x8192 .bf16) (w : FVec Ideal S8192x2048 .bf16) (r : FVec Ideal S8192x2048 .f32) : FVec Ideal S8192x2048 .f32 :=
  addf r (Host.dotGeneral Cert.DownRefIdeal.dot_S8192x8192_S8192x2048_S8192x2048_1_0_0_1_n_n none
    (extf .f32 a Cert.DownRefIdeal.Gen.bitsLt_bf16_f32) (extf .f32 w Cert.DownRefIdeal.Gen.bitsLt_bf16_f32))

/-- Where the windows' blocks sit at each point. -/
theorem places : ∀ t : Fin cfg0.N, win0_0.index t = ![(grid0.coords t 1).val, 0] ∧ win0_1.index t = ![0, (grid0.coords t 0).val]
    ∧ win0_2.index t = ![(grid0.coords t 1).val, (grid0.coords t 0).val] ∧ win0_3.index t = ![(grid0.coords t 1).val, (grid0.coords t 0).val] :=
  (by decide +kernel : ∀ t : Fin grid0.N, _)

/-- What a point stores is the product's entry at the place it stores it. -/
theorem point (c : Dev nD) (t : Fin cfg0.N) (y) : k0_pay1 (iblk m c 0 t) (iblk m c 1 t) (iblk m c 2 t) y
    = whole (m ((c : Thread nD τ).loc main_arg0)) (m ((c : Thread nD τ).loc main_arg1)) (m ((c : Thread nD τ).loc main_arg2)) (((cfg0.win 3).blk t).view.emb y) := by
  pointwise [k0_pay1, whole]
  blk_point [iblk, V, places t]

/-- The result array after the run. -/
theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The claim. -/
theorem algebraic : Cert.algebraic_DownIdeal_DownRefIdeal := by
  pair_intro
  · run_from Cert.DownIdeal.Gen.run_main m g
  · hlo_run
    exact (final m c).symm

end Cert.DownIdeal.Own

end
-- ==== Proof.Up.Value.lean ====
module

public import proofs.«01_k».proof.Proof.Gen.UpIdeal.Value
public import proofs.«01_k».proof.Proof.Gen.UpRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.UpIdeal.Own

open Idealize.ShloMosaic Idealize.ShloMosaic.TcCoe Idealize.ShloMosaic.Tactic Idealize.SL.Sem
open Idealize.ShloMosaic.Pipeline (Dat)
open Cert.UpIdeal Cert.UpIdeal.Gen

variable (m : (ℓ : Loc nD τ sig) → Buf (Elt Ideal) ℓ)

/-- What the call computes, as the reference writes it. -/
abbrev whole (x : FVec Ideal S8192x2048 .bf16) (w : FVec Ideal S2048x8192 .f32) : FVec Ideal S8192x8192 .bf16 :=
  let u := maximumf (Host.dotGeneral Cert.UpRefIdeal.dot_S8192x2048_S2048x8192_S8192x8192_1_0_0_1_n_n none (extf .f32 x bitsLt_bf16_f32) w)
    (broadcastInDim Cert.UpRefIdeal.S8192x8192 ![] Cert.UpRefIdeal.Gen.bcast_S_S8192x8192 (constant Cert.UpRefIdeal.S_ .f32 0x00000000#32))
  truncf .bf16 (mulf u u) bitsLt_bf16_f32

/-- Where the windows' blocks sit at each point. -/
theorem places : ∀ t : Fin cfg0.N, win0_0.index t = ![t.val % 8, 0] ∧ win0_1.index t = ![0, t.val / 8] ∧ win0_2.index t = ![t.val % 8, t.val / 8] :=
  (by decide +kernel : ∀ t : Fin grid0.N, _)

/-- A point that does not begin a column of blocks reads the weight block of the point before it. -/
theorem same (c : Dev nD) (n : ℕ) (h : n + 1 < cfg0.N) (h0 : ¬(n + 1) % 8 = 0) :
    iblk m c 1 ⟨n, Nat.lt_of_succ_lt h⟩ = iblk m c 1 ⟨n + 1, h⟩ := by
  funext y
  have e : n / 8 = (n + 1) / 8 := by omega
  blk_point [iblk, V, places ⟨n, Nat.lt_of_succ_lt h⟩, places ⟨n + 1, h⟩, e]

/-- A point that does not begin a column of blocks leaves the scratch as it found it. -/
theorem kept (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]; dsimp only; rw [sout0_B_0]

/-- After each point the scratch holds the point's weight block in the multiplication's format. -/
theorem scratch (c : Dev nD) : ∀ (n : ℕ) (h : n < cfg0.N), (outsAt0 m c n h).2 = k0_pay1 (iblk m c 1 ⟨n, h⟩)
  | 0, h => by
    rw [outsAt0_A m c ⟨0, h⟩ (Nat.zero_mod _)]; frame_out
  | n + 1, h => by
    by_cases h0 : (n + 1) % 8 = 0
    · rw [outsAt0_A m c ⟨n + 1, h⟩ h0]; frame_out
    · exact (kept m c ⟨n + 1, h⟩ h0).trans ((scratch c n (Nat.lt_of_succ_lt h)).trans (by rw [same m c n h h0]))

/-- What each point leaves in the output's block. -/
theorem stored (c : Dev nD) (t : Fin cfg0.N) : (outsAt0 m c t.val t.isLt).1 = k0_pay2 (iblk m c 0 t) (k0_pay1 (iblk m c 1 t)) := by
  have hs := scratch m c t.val t.isLt
  by_cases h0 : t.val % 8 = 0
  · rw [outsAt0_A m c t h0]; frame_out
  · rw [outsAt0_B m c t h0] at hs
    rw [outsAt0_B m c t h0]; frame_out
    exact congrArg (fun s => k0_pay2 (iblk m c 0 t) s) ((Memref.IsWhole.read_unread _ _).trans hs)

/-- What a point stores is the reference's entry at the place it stores it. -/
theorem point (c : Dev nD) (t : Fin cfg0.N) (y) : k0_pay2 (iblk m c 0 t) (k0_pay1 (iblk m c 1 t)) y
    = whole (m ((c : Thread nD τ).loc main_arg0)) (m ((c : Thread nD τ).loc main_arg1)) (((cfg0.win 2).blk t).view.emb y) := by
  pointwise [k0_pay1, k0_pay2, whole]
  blk_point [iblk, V, places t]

/-- The result array after the run. -/
theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

/-- The claim. -/
theorem algebraic : Cert.algebraic_UpIdeal_UpRefIdeal := by
  pair_intro
  · run_from Cert.UpIdeal.Gen.run_main m g
  · hlo_run
    simp only [StableHlo.TRef.toBuf, StableHlo.TRef.ofBuf, cast_eq]
    exact (final m c).symm

end Cert.UpIdeal.Own

end
-- ==== Proof.Out.Value.lean ====
module

public import proofs.«01_k».proof.Proof.Gen.OutIdeal.Value
public import proofs.«01_k».proof.Proof.Gen.OutRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.OutIdeal.Own

open Idealize.ShloMosaic Idealize.ShloMosaic.TcCoe Idealize.ShloMosaic.Tactic Idealize.SL.Sem
open Idealize.ShloMosaic.Pipeline (Dat)
open Cert.OutIdeal Cert.OutIdeal.Gen

variable (m : (ℓ : Loc nD τ sig) → Buf (Elt Ideal) ℓ)

/-- What the call computes, as the reference writes it. -/
abbrev whole (x : FVec Ideal S8192x2048 .bf16) (w : FVec Ideal S2048x2048 .f32) (r : FVec Ideal S8192x2048 .f32) : FVec Ideal S8192x2048 .f32 :=
  addf r (Host.dotGeneral Cert.OutRefIdeal.dot_S8192x2048_S2048x2048_S8192x2048_1_0_0_1_n_n none (extf .f32 x bitsLt_bf16_f32) w)

/-- Where the windows' blocks sit at each point. -/
theorem places : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

/-- A point that does not begin a column of blocks reads the weight block of the point before it. -/
theorem same (c : Dev nD) (n : ℕ) (h : n + 1 < cfg0.N) (h0 : ¬(n + 1) % 8 = 0) :
    iblk m c 1 ⟨n, Nat.lt_of_succ_lt h⟩ = iblk m c 1 ⟨n + 1, h⟩ := by
  funext y
  have e : n / 8 = (n + 1) / 8 := by omega
  blk_point [iblk, V, places ⟨n, Nat.lt_of_succ_lt h⟩, places ⟨n + 1, h⟩, e]

/-- A point that does not begin a column of blocks leaves the scratch as it found it. -/
theorem kept (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]; dsimp only; rw [sout0_B_0]

/-- After each point the scratch holds the point's weight block in the multiplication's format. -/
theorem scratch (c : Dev nD) : ∀ (n : ℕ) (h : n < cfg0.N), (outsAt0 m c n h).2 = k0_pay1 (iblk m c 1 ⟨n, h⟩)
  | 0, h => by
    rw [outsAt0_A m c ⟨0, h⟩ (Nat.zero_mod _)]; frame_out
  | n + 1, h => by
    by_cases h0 : (n + 1) % 8 = 0
    · rw [outsAt0_A m c ⟨n + 1, h⟩ h0]; frame_out
    · exact (kept m c ⟨n + 1, h⟩ h0).trans ((scratch c n (Nat.lt_of_succ_lt h)).trans (by rw [same m c n h h0]))

/-- What each point leaves in the output's block. -/
theorem stored (c : Dev nD) (t : Fin cfg0.N) : (outsAt0 m c t.val t.isLt).1 = k0_pay2 (iblk m c 0 t) (k0_pay1 (iblk m c 1 t)) (iblk m c 2 t) := by
  have hs := scratch m c t.val t.isLt
  by_cases h0 : t.val % 8 = 0
  · rw [outsAt0_A m c t h0]; frame_out
  · rw [outsAt0_B m c t h0] at hs
    rw [outsAt0_B m c t h0]; frame_out
    exact congrArg (fun s => k0_pay2 (iblk m c 0 t) s (iblk m c 2 t)) ((Memref.IsWhole.read_unread _ _).trans hs)

/-- What a point stores is the reference's entry at the place it stores it. -/
theorem point (c : Dev nD) (t : Fin cfg0.N) (y) : k0_pay2 (iblk m c 0 t) (k0_pay1 (iblk m c 1 t)) (iblk m c 2 t) y
    = whole (m ((c : Thread nD τ).loc main_arg0)) (m ((c : Thread nD τ).loc main_arg1)) (m ((c : Thread nD τ).loc main_arg2)) (((cfg0.win 3).blk t).view.emb y) := by
  pointwise [k0_pay1, k0_pay2, whole]
  blk_point [iblk, V, places t]

/-- The result array after the run. -/
theorem final (c : Dev nD) : (dats m 0 c).arrAt 3 (cfgs 0).N = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored]
  exact point m c t y

/-- The claim. -/
theorem algebraic : Cert.algebraic_OutIdeal_OutRefIdeal := by
  pair_intro
  · run_from Cert.OutIdeal.Gen.run_main m g
  · hlo_run
    exact (final m c).symm

end Cert.OutIdeal.Own

end
-- ==== Proof.Att.Sigmoid.lean ====
module

public import Idealize.ShloMosaic.PureOps.Ideal
public import Idealize.ShloMosaic.Lib.IdealHost
public import Mathlib.Analysis.SpecialFunctions.Trigonometric.DerivHyp

@[expose] public section

namespace Cert.Soft

open Idealize.ShloMosaic

theorem half_word : Ideal.ofBits .f32 0x3F000000#32 = ((1 / 2 : ℝ) : EReal) := by
  simp only [Ideal.ofBits, Ideal.ieee]
  rw [if_neg (by decide), if_neg (by decide), if_neg (by decide)]
  norm_num [Nat.shiftRight_eq_div_pow]

theorem half_tanh (r : ℝ) : 1 / 2 * Real.tanh (1 / 2 * r) + 1 / 2 = 1 / (1 + Real.exp (-r)) := by
  have hp := Real.exp_pos (1 / 2 * r)
  have hn := Real.exp_pos (-(1 / 2 * r))
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  rw [Real.tanh_eq_sinh_div_cosh, Real.sinh_eq, Real.cosh_eq, e]
  generalize Real.exp (1 / 2 * r) = p at *
  generalize Real.exp (-(1 / 2 * r)) = q at *
  have hpq : p + q ≠ 0 := (add_pos hp hn).ne'
  have hq : 1 + q * q ≠ 0 := by positivity
  field_simp
  linear_combination 2 * q * e1

/-- Half the hyperbolic tangent of half a number plus a half is the number's logistic, infinities included. -/
theorem sigmoid (x : EReal) : Ideal.ofBits .f32 0x3F000000#32 * Ideal.tanh (Ideal.ofBits .f32 0x3F000000#32 * x) + Ideal.ofBits .f32 0x3F000000#32
    = Ideal.div 1 (1 + Ideal.exp (-x)) := by
  rw [half_word]
  induction x with
  | bot =>
    rw [EReal.coe_mul_bot_of_pos (by norm_num)]
    show ((1 / 2 : ℝ) : EReal) * ((-1 : ℝ) : EReal) + ((1 / 2 : ℝ) : EReal) = Ideal.div 1 (1 + (⊤ : EReal))
    rw [EReal.add_top_of_ne_bot (by exact_mod_cast EReal.coe_ne_bot (1 : ℝ)), ← EReal.coe_mul, ← EReal.coe_add]
    unfold Ideal.div
    rw [if_neg EReal.top_ne_zero, EReal.inv_top, mul_zero]
    norm_num
  | top =>
    rw [EReal.coe_mul_top_of_pos (by norm_num)]
    show ((1 / 2 : ℝ) : EReal) * ((1 : ℝ) : EReal) + ((1 / 2 : ℝ) : EReal) = Ideal.div 1 (1 + (0 : EReal))
    rw [add_zero, ← EReal.coe_one, Ideal.div_coe one_ne_zero, ← EReal.coe_mul, ← EReal.coe_mul, ← EReal.coe_add]
    norm_num
  | coe r =>
    rw [← EReal.coe_mul]
    show ((1 / 2 : ℝ) : EReal) * ((Real.tanh (1 / 2 * r) : ℝ) : EReal) + ((1 / 2 : ℝ) : EReal) = Ideal.div 1 (1 + ((Real.exp (-r) : ℝ) : EReal))
    rw [← EReal.coe_one, ← EReal.coe_add, Ideal.div_coe (by positivity), ← EReal.coe_mul, ← EReal.coe_mul, ← EReal.coe_add, half_tanh, one_mul]

end Cert.Soft

end
-- ==== Proof.Merge.Value.lean ====
module

public import proofs.«01_k».proof.Proof.Gen.MergeIdeal.Value
public import proofs.«01_k».proof.Proof.Gen.MergeRefIdeal
public import proofs.«01_k».proof.Defs
public import proofs.«01_k».proof.Proof.Att.Sigmoid
public import Idealize.ShloMosaic.Lib.Pointwise
public import Idealize.ShloMosaic.Lib.Claim
public import Idealize.ShloMosaic.Lib.Pipeline.ValueKit

@[expose] public section

set_option maxRecDepth 16384

noncomputable section

namespace Cert.MergeIdeal.Own

open Idealize.ShloMosaic Idealize.ShloMosaic.TcCoe Idealize.ShloMosaic.Tactic Idealize.SL.Sem
open Idealize.ShloMosaic.Pipeline (Dat)
open Cert.MergeIdeal Cert.MergeIdeal.Gen

variable (m : (ℓ : Loc nD τ sig) → Buf (Elt Ideal) ℓ)

/-- The gated sum of the two products, as the reference writes it. -/
abbrev whole (y : FVec Ideal S8192x4096 .bf16) (o : FVec Ideal S8192x1024 .bf16) (g : FVec Ideal S8192x4096 .f32) (ws : FVec Ideal S4096x2048 .bf16) (wa : FVec Ideal S1024x2048 .bf16) : FVec Ideal S8192x2048 .bf16 :=
  truncf .bf16 (addf
    (mulf (Host.divf (broadcastInDim Cert.MergeRefIdeal.S8192x2048 ![] Cert.MergeRefIdeal.Gen.bcast_S_S8192x2048 (constant Cert.MergeRefIdeal.S_ .f32 0x3F800000#32))
        (addf (broadcastInDim Cert.MergeRefIdeal.S8192x2048 ![] Cert.MergeRefIdeal.Gen.bcast_S_S8192x2048 (constant Cert.MergeRefIdeal.S_ .f32 0x3F800000#32))
          (Host.exp (Host.negf (extractStridedSlice Cert.MergeRefIdeal.S8192x2048 ![0, 0] g Cert.MergeRefIdeal.Gen.slices_S8192x4096_S8192x2048_0_0)))))
      (Host.dotGeneral Cert.MergeRefIdeal.dot_S8192x4096_S4096x2048_S8192x2048_1_0_0_1_n_n none (extf .f32 y Cert.MergeRefIdeal.Gen.bitsLt_bf16_f32) (extf .f32 ws Cert.MergeRefIdeal.Gen.bitsLt_bf16_f32)))
    (mulf (Host.divf (broadcastInDim Cert.MergeRefIdeal.S8192x2048 ![] Cert.MergeRefIdeal.Gen.bcast_S_S8192x2048 (constant Cert.MergeRefIdeal.S_ .f32 0x3F800000#32))
        (addf (broadcastInDim Cert.MergeRefIdeal.S8192x2048 ![] Cert.MergeRefIdeal.Gen.bcast_S_S8192x2048 (constant Cert.MergeRefIdeal.S_ .f32 0x3F800000#32))
          (Host.exp (Host.negf (extractStridedSlice Cert.MergeRefIdeal.S8192x2048 ![0, 2048] g Cert.MergeRefIdeal.Gen.slices_S8192x4096_S8192x2048_0_2048)))))
      (Host.dotGeneral Cert.MergeRefIdeal.dot_S8192x1024_S1024x2048_S8192x2048_1_0_0_1_n_n none (extf .f32 o Cert.MergeRefIdeal.Gen.bitsLt_bf16_f32) (extf .f32 wa Cert.MergeRefIdeal.Gen.bitsLt_bf16_f32))))
    Cert.MergeRefIdeal.Gen.bitsLt_bf16_f32

/-- Where the windows' blocks sit at each point. -/
theorem places : ∀ t : Fin cfg0.N, win0_0.index t = ![(grid0.coords t 1).val, 0] ∧ win0_1.index t = ![(grid0.coords t 1).val, 0]
    ∧ win0_2.index t = ![(grid0.coords t 1).val, (grid0.coords t 0).val] ∧ win0_3.index t = ![(grid0.coords t 1).val, (grid0.coords t 0).val + 4]
    ∧ win0_4.index t = ![0, (grid0.coords t 0).val] ∧ win0_5.index t = ![0, (grid0.coords t 0).val] ∧ win0_6.index t = ![(grid0.coords t 1).val, (grid0.coords t 0).val] :=
  (by decide +kernel : ∀ t : Fin grid0.N, _)

/-- What a point stores is the gated sum's entry at the place it stores it. -/
theorem point (c : Dev nD) (t : Fin cfg0.N) (y) : k0_pay1 (iblk m c 0 t) (iblk m c 4 t) (iblk m c 1 t) (iblk m c 5 t) (iblk m c 2 t) (iblk m c 3 t) y
    = whole (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, whole]
  rw [Soft.sigmoid, Soft.sigmoid]
  blk_point [iblk, V, places t]

/-- The result array after the run. -/
theorem final (c : Dev nD) : (dats m 0 c).arrAt 6 (cfgs 0).N
    = whole (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

/-- The claim. -/
theorem algebraic : Cert.algebraic_MergeIdeal_MergeRefIdeal := by
  pair_intro
  · run_from Cert.MergeIdeal.Gen.run_main m g
  · hlo_run
    exact (final m c).symm

end Cert.MergeIdeal.Own

end
-- ==== Proof.Final.Value.lean ====
module

public import proofs.«01_k».proof.Proof.Gen.FinalIdeal.Value
public import proofs.«01_k».proof.Proof.Gen.FinalRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.FinalIdeal.Own

open Idealize.ShloMosaic Idealize.ShloMosaic.TcCoe Idealize.ShloMosaic.Tactic Idealize.SL.Sem
open Idealize.ShloMosaic.Pipeline (Dat)
open Cert.FinalIdeal Cert.FinalIdeal.Gen

variable (m : (ℓ : Loc nD τ sig) → Buf (Elt Ideal) ℓ)

/-- The root-mean-square norm, as the reference writes it. -/
abbrev whole (x : FVec Ideal S8192x2048 .f32) (g : FVec Ideal S2048 .f32) : FVec Ideal S8192x2048 .f32 :=
  mulf (mulf x (broadcastInDim Cert.FinalRefIdeal.S8192x2048 ![0, 1] Cert.FinalRefIdeal.Gen.bcast_S8192x1_S8192x2048_0_1
      (Host.rsqrt (addf
        (Host.divf (broadcastInDim Cert.FinalRefIdeal.S8192x1 ![0] Cert.FinalRefIdeal.Gen.bcast_S8192_S8192x1_0
            (Host.reduceAdd (mulf x x) (constant Cert.FinalRefIdeal.S_ .f32 0x00000000#32) Cert.FinalRefIdeal.Gen.reducesTo_S8192x2048_S8192_d1 Cert.FinalRefIdeal.Gen.h_S_))
          (broadcastInDim Cert.FinalRefIdeal.S8192x1 ![] Cert.FinalRefIdeal.Gen.bcast_S_S8192x1 (constant Cert.FinalRefIdeal.S_ .f32 0x45000000#32)))
        (broadcastInDim Cert.FinalRefIdeal.S8192x1 ![] Cert.FinalRefIdeal.Gen.bcast_S_S8192x1 (constant Cert.FinalRefIdeal.S_ .f32 0x358637BD#32))))))
    (broadcastInDim Cert.FinalRefIdeal.S8192x2048 ![0, 1] Cert.FinalRefIdeal.Gen.bcast_S1x2048_S8192x2048_0_1
      (broadcastInDim Cert.FinalRefIdeal.S1x2048 ![1] Cert.FinalRefIdeal.Gen.bcast_S2048_S1x2048_1 g))

/-- Where the windows' blocks sit at each point. -/
theorem places : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The gain's row as the call takes it. -/
theorem gain (c : Dev nD) (i : Fin 1) (j : Fin 2048) : (V m c main_v0 : FVec Ideal S1x2048 .f32) (ix2 i j) = (m ((c : Thread nD τ).loc main_arg1) : FVec Ideal S2048 .f32) (ix1 j) := by
  entry_read
  pointwise

/-- What a point stores is the norm's entry at the place it stores it. -/
theorem point (c : Dev nD) (t : Fin cfg0.N) (y) : k0_pay1 (iblk m c 0 t) (iblk m c 1 t) y
    = whole (m ((c : Thread nD τ).loc main_arg0)) (m ((c : Thread nD τ).loc main_arg1)) (((cfg0.win 2).blk t).view.emb y) := by
  pointwise [k0_pay1, whole]
  blk_point [iblk, V, places t]

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim. -/
theorem algebraic : Cert.algebraic_FinalIdeal_FinalRefIdeal := by
  pair_intro
  · run_from Cert.FinalIdeal.Gen.run_main m g
  · hlo_run
    exact (final m c).symm

end Cert.FinalIdeal.Own

end
-- ==== Proof.FinalS.Value.lean ====
module

public import proofs.«01_k».proof.Proof.Gen.FinalSIdeal.Value
public import proofs.«01_k».proof.Proof.Gen.FinalSRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.FinalSIdeal.Own

open Idealize.ShloMosaic Idealize.ShloMosaic.TcCoe Idealize.ShloMosaic.Tactic Idealize.SL.Sem
open Idealize.ShloMosaic.Pipeline (Dat)
open Cert.FinalSIdeal Cert.FinalSIdeal.Gen

variable (m : (ℓ : Loc nD τ sig) → Buf (Elt Ideal) ℓ)

/-- The root-mean-square norm, as the reference writes it. -/
abbrev whole (x : FVec Ideal S512x2048 .f32) (g : FVec Ideal S2048 .f32) : FVec Ideal S512x2048 .f32 :=
  mulf (mulf x (broadcastInDim Cert.FinalSRefIdeal.S512x2048 ![0, 1] Cert.FinalSRefIdeal.Gen.bcast_S512x1_S512x2048_0_1
      (Host.rsqrt (addf
        (Host.divf (broadcastInDim Cert.FinalSRefIdeal.S512x1 ![0] Cert.FinalSRefIdeal.Gen.bcast_S512_S512x1_0
            (Host.reduceAdd (mulf x x) (constant Cert.FinalSRefIdeal.S_ .f32 0x00000000#32) Cert.FinalSRefIdeal.Gen.reducesTo_S512x2048_S512_d1 Cert.FinalSRefIdeal.Gen.h_S_))
          (broadcastInDim Cert.FinalSRefIdeal.S512x1 ![] Cert.FinalSRefIdeal.Gen.bcast_S_S512x1 (constant Cert.FinalSRefIdeal.S_ .f32 0x45000000#32)))
        (broadcastInDim Cert.FinalSRefIdeal.S512x1 ![] Cert.FinalSRefIdeal.Gen.bcast_S_S512x1 (constant Cert.FinalSRefIdeal.S_ .f32 0x358637BD#32))))))
    (broadcastInDim Cert.FinalSRefIdeal.S512x2048 ![0, 1] Cert.FinalSRefIdeal.Gen.bcast_S1x2048_S512x2048_0_1
      (broadcastInDim Cert.FinalSRefIdeal.S1x2048 ![1] Cert.FinalSRefIdeal.Gen.bcast_S2048_S1x2048_1 g))

/-- Where the windows' blocks sit at each point. -/
theorem places : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- The gain's row as the call takes it. -/
theorem gain (c : Dev nD) (i : Fin 1) (j : Fin 2048) : (V m c main_v0 : FVec Ideal S1x2048 .f32) (ix2 i j) = (m ((c : Thread nD τ).loc main_arg1) : FVec Ideal S2048 .f32) (ix1 j) := by
  entry_read
  pointwise

/-- What a point stores is the norm's entry at the place it stores it. -/
theorem point (c : Dev nD) (t : Fin cfg0.N) (y) : k0_pay1 (iblk m c 0 t) (iblk m c 1 t) y
    = whole (m ((c : Thread nD τ).loc main_arg0)) (m ((c : Thread nD τ).loc main_arg1)) (((cfg0.win 2).blk t).view.emb y) := by
  pointwise [k0_pay1, whole]
  blk_point [iblk, V, places t]

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The claim. -/
theorem algebraic : Cert.algebraic_FinalSIdeal_FinalSRefIdeal := by
  pair_intro
  · run_from Cert.FinalSIdeal.Gen.run_main m g
  · hlo_run
    exact (final m c).symm

end Cert.FinalSIdeal.Own

end
-- ==== Proof.InZ.RunIdeal.lean ====
module

public import proofs.«01_k».proof.Proof.Gen.InZIdeal.Frame
public import proofs.«01_k».proof.Proof.Gen.InZIdeal.Skeleton
public import Idealize.ShloMosaic.Lib.VecWindow

@[expose] public section

set_option maxRecDepth 16384

noncomputable section

namespace Cert.InZIdeal.Own

open Cert.InZIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body -/

/-- A column of blocks begins: the weights are cast. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 9 = 0 :=
  (by decide +kernel : ∀ t : Fin grid0.N, first (grid0.coords t) ↔ t.val % 9 = 0)

/-- The point is one of the prompt's rows. -/
theorem prompt_iff : ∀ t : Fin cfg0.N, k0_cond2 (grid0.coords t) = 1#1 ↔ t.val % 9 < 8 :=
  (by decide +kernel : ∀ t : Fin grid0.N, k0_cond2 (grid0.coords t) = 1#1 ↔ t.val % 9 < 8)

/-- The point is the sample's. -/
theorem sample_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-! ## The body in its three cases -/

section
variable (c : Dev nD) (i : grid0.Coords)
  (arg2 : Memref sig .tc .vmem S1024x2048 .bf16) (harg2 : arg2.IsWhole) (arg3 : Memref sig .tc .vmem S1024x2048 .f32) (harg3 : arg3.IsWhole)
  (arg4 : Memref sig .tc .vmem S512x2048 .bf16) (harg4 : arg4.IsWhole) (arg5 : Memref sig .tc .vmem S1024x1024 .f32) (harg5 : arg5.IsWhole)
  (arg6 : Memref sig .tc .vmem S512x1024 .f32) (harg6 : arg6.IsWhole) (arg7 : Memref sig .tc .vmem S1024x2048 .bf16) (harg7 : arg7.IsWhole)

set_option maxHeartbeats 1000000 in
/-- At the first rows of a column the body casts the weights into the scratch and multiplies by them. -/
theorem run_first (h0 : first i) (h1 : k0_cond2 i = 1#1) (h2 : ¬k0_cond3 i = 1#1)
    (x0 : Vec F S1024x2048 .bf16) (x1 : Vec F S1024x2048 .f32) (x2 : Vec F S512x2048 .bf16) (x4 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (k0_pay2 x0 (k0_pay1 x1)) ∗ owns (c : Thread nD τ) arg6 fullShare x4
          ∗ owns (c : Thread nD τ) arg7 fullShare (k0_pay1 x1)) -∗ K ⟨⟩))
      ⊢ wp frame (wpE (defs₀ (F := F)) Variants.none c none) E (cc0_in_z i arg2 harg2 arg3 harg3 arg4 harg4 arg5 harg5 arg6 harg6 arg7 harg7) K := by
  simp only [cc0_in_z_eq_skeleton]; unfold cc0_in_z_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v10 run_first.sl.HS_1
    rw [View.read_writes_full, View.readCov_full, View.readAt_full, View.readAt_full, harg2.read_unread, harg3.read_unread]
  isplitl [H4]
  · iexists _; isplitr; · ipureintro; exact harg6.read_unread _
    iexact H4
  iexists _; isplitr; swap; · iexact HS
  ipureintro
  unfold run_first.sl.HS_1
  rw [View.read_writes_full, View.readAt_full, harg3.read_unread]

set_option maxHeartbeats 1000000 in
/-- At the prompt's other rows the body multiplies by the weights in the scratch. -/
theorem run_prompt (h0 : ¬first i) (h1 : k0_cond2 i = 1#1) (h2 : ¬k0_cond3 i = 1#1)
    (x0 : Vec F S1024x2048 .bf16) (x1 : Vec F S1024x2048 .f32) (x2 : Vec F S512x2048 .bf16) (xs : Vec F S1024x2048 .bf16) (x4 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (k0_pay2 x0 xs) ∗ owns (c : Thread nD τ) arg6 fullShare x4
          ∗ owns (c : Thread nD τ) arg7 fullShare xs) -∗ K ⟨⟩))
      ⊢ wp frame (wpE (defs₀ (F := F)) Variants.none c none) E (cc0_in_z i arg2 harg2 arg3 harg3 arg4 harg4 arg5 harg5 arg6 harg6 arg7 harg7) K := by
  simp only [cc0_in_z_eq_skeleton]; unfold cc0_in_z_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full, View.readAt_full, View.readAt_full, harg2.read_unread, harg7.read_unread]
  isplitl [H4]
  · iexists _; isplitr; · ipureintro; exact harg6.read_unread _
    iexact H4
  iexists _; isplitr; · ipureintro; exact harg7.read_unread _
  iexact HS

set_option maxHeartbeats 1000000 in
/-- At the sample's rows the body multiplies the sample's block by the weights in the scratch. -/
theorem run_sample (h0 : ¬first i) (h1 : ¬k0_cond2 i = 1#1) (h2 : k0_cond3 i = 1#1)
    (x0 : Vec F S1024x2048 .bf16) (x1 : Vec F S1024x2048 .f32) (x2 : Vec F S512x2048 .bf16) (xs : Vec F S1024x2048 .bf16) (x3 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (k0_pay3 x2 xs)
          ∗ owns (c : Thread nD τ) arg7 fullShare xs) -∗ K ⟨⟩))
      ⊢ wp frame (wpE (defs₀ (F := F)) Variants.none c none) E (cc0_in_z i arg2 harg2 arg3 harg3 arg4 harg4 arg5 harg5 arg6 harg6 arg7 harg7) K := by
  simp only [cc0_in_z_eq_skeleton]; unfold cc0_in_z_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, View.readAt_full, harg4.read_unread, harg7.read_unread]
  iexists _; isplitr; · ipureintro; exact harg7.read_unread _
  iexact HS

end

end Cert.InZIdeal.Own

end
-- ==== Proof.InZ.FrameIdeal.lean ====
module

public import proofs.«01_k».proof.Proof.InZ.RunIdeal
public import Idealize.ShloMosaic.Lib.Claim
public import Idealize.ShloMosaic.Lib.Pipeline.ValueKit

@[expose] public section

set_option maxRecDepth 16384

noncomputable section

namespace Cert.InZIdeal.Own

open Cert.InZIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which windows' blocks the points share -/

/-- Inside a column of blocks the weights' block stays. -/
theorem index1 : ∀ t u : Fin cfg0.N, t.val / 9 = u.val / 9 → win0_1.index t = win0_1.index u :=
  (by decide +kernel : ∀ t u : Fin grid0.N, t.val / 9 = u.val / 9 → win0_1.index t = win0_1.index u)

/-- The sample's point has the prompt block of the point before it. -/
theorem index0 : ∀ t u : Fin cfg0.N, t.val % 9 = 8 → u.val + 1 = t.val → win0_0.index t = win0_0.index u :=
  (by decide +kernel : ∀ t u : Fin grid0.N, t.val % 9 = 8 → u.val + 1 = t.val → win0_0.index t = win0_0.index u)

theorem iblk1 (c : Dev nD) (t u : Fin cfg0.N) (h : t.val / 9 = u.val / 9) : iblk m c 1 t = iblk m c 1 u := by
  funext y
  unfold iblk
  refine congrArg (V m c main_v1) (funext fun a => Fin.ext ?_)
  refine (win0_1.rect_emb_val_off t y a).trans (Eq.trans ?_ (win0_1.rect_emb_val_off u y a).symm)
  rw [index1 t u h]

theorem iblk0 (c : Dev nD) (t u : Fin cfg0.N) (h : t.val % 9 = 8) (hu : u.val + 1 = t.val) : iblk m c 0 t = iblk m c 0 u := by
  funext y
  unfold iblk
  refine congrArg (V m c main_arg0) (funext fun a => Fin.ext ?_)
  refine (win0_0.rect_emb_val_off t y a).trans (Eq.trans ?_ (win0_0.rect_emb_val_off u y a).symm)
  rw [index0 t u h hu]

/-! ## Where the outputs are stored and written back -/

theorem live3 : ∀ t : Fin cfg0.N, t.val % 9 < 8 → cfg0.idle 3 (grid0.coords t) = false :=
  (by decide +kernel : ∀ t : Fin grid0.N, t.val % 9 < 8 → idle0 3 (grid0.coords t) = false)
theorem idle3 : ∀ t : Fin cfg0.N, t.val % 9 = 8 → cfg0.idle 3 (grid0.coords t) = true :=
  (by decide +kernel : ∀ t : Fin grid0.N, t.val % 9 = 8 → idle0 3 (grid0.coords t) = true)
theorem live4 : ∀ t : Fin cfg0.N, t.val % 9 = 8 → cfg0.idle 4 (grid0.coords t) = false :=
  (by decide +kernel : ∀ t : Fin grid0.N, t.val % 9 = 8 → idle0 4 (grid0.coords t) = false)
theorem idle4 : ∀ t : Fin cfg0.N, t.val % 9 < 8 → cfg0.idle 4 (grid0.coords t) = true :=
  (by decide +kernel : ∀ t : Fin grid0.N, t.val % 9 < 8 → idle0 4 (grid0.coords t) = true)
theorem flush3 : ∀ t : Fin cfg0.N, (cfg0.win 3).flush t = true ↔ ¬t.val % 9 = 7 :=
  (by decide +kernel : ∀ t : Fin grid0.N, win0_3.flush t = true ↔ ¬t.val % 9 = 7)

/-! ## The pipeline's proof data -/

/-- The scratch between the points: what the last point left in it. -/
def Phi (c : Dev nD) : (n : ℕ) → n ≤ cfg0.N → sProp 𝕄
  | 0, _ => Pipeline.ΦA spec0 c
  | n + 1, hn => iprop(owns (c : Thread nD τ) (Memref.whole cc0_scratch0) fullShare (k0_pay1 (iblk m c 1 ⟨n, hn⟩)) ∗ (∃ r, prngReg c r))

theorem Phi_start (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (k0_pay1 (iblk m c 1 ⟨n - 1, by omega⟩)) ∗ (∃ r, prngReg c r)) := by
  cases n with
  | zero => exact absurd rfl hz
  | succ n => rfl

/-- What the prompt's output block holds after each point, -/
def rows (c : Dev nD) (t : Fin cfg0.N) : Vec F S1024x1024 .f32 := k0_pay2 (iblk m c 0 t) (k0_pay1 (iblk m c 1 t))

/-- and what the sample's holds after the points that store it. -/
def tail (c : Dev nD) (t : Fin cfg0.N) : Vec F S512x1024 .f32 := k0_pay3 (iblk m c 2 t) (k0_pay1 (iblk m c 1 t))

/-- The proof data: the inputs' blocks stay, the outputs' are the products, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => tail m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the sample's point the prompt's output block is still the one the point before stored. -/
theorem before3 (c : Dev nD) (t : Fin cfg0.N) (h : t.val % 9 = 8) (d) : (dats m 0 c).before 3 t d = rows m c t := by
  rw [(dats m 0 c).before_of_pos 3 t (by omega) rfl d,
    if_neg (fun hf => (flush3 ⟨t.val - 1, Nat.lt_of_le_of_lt (Nat.sub_le _ _) t.isLt⟩).mp hf (by show (t.val - 1) % 9 = 7; omega))]
  unfold Dat.left
  rw [live3 ⟨t.val - 1, Nat.lt_of_le_of_lt (Nat.sub_le _ _) t.isLt⟩ (by show (t.val - 1) % 9 < 8; omega)]
  show (dats m 0 c).kept 3 _ d = _
  unfold Dat.kept
  rw [Pipeline.fill_of_clip_none 3 _ (fun _ => rfl) d _, (cfg0.win 3).fill_cut, after3]
  unfold rows
  rw [iblk0 m c t ⟨t.val - 1, Nat.lt_of_le_of_lt (Nat.sub_le _ _) t.isLt⟩ h (by show t.val - 1 + 1 = t.val; omega),
    iblk1 m c t ⟨t.val - 1, Nat.lt_of_le_of_lt (Nat.sub_le _ _) t.isLt⟩ (by show t.val / 9 = (t.val - 1) / 9; omega)]

/-! ## What the body hands back of the outputs -/

theorem leaves3 (c : Dev nD) (t : Fin cfg0.N) :
    (dats m 0 c).leavesExact 3 t = owns (c : Thread nD τ) (st0_3 t) fullShare (rows m c t) := by
  by_cases h : t.val % 9 = 8
  · unfold Dat.leavesExact; rw [idle3 t h, (flush3 t).mpr (by omega), after3]
  · unfold Dat.leavesExact; rw [live3 t (by omega), after3]

theorem leaves4_live (c : Dev nD) (t : Fin cfg0.N) (h : t.val % 9 = 8) :
    (dats m 0 c).leavesExact 4 t = owns (c : Thread nD τ) (st0_4 t) fullShare (tail m c t) := by
  unfold Dat.leavesExact; rw [live4 t h, after4]

theorem leaves4_idle (c : Dev nD) (t : Fin cfg0.N) (h : t.val % 9 < 8) :
    (dats m 0 c).leavesExact 4 t = iprop(∃ d, owns (c : Thread nD τ) (st0_4 t) fullShare ((dats m 0 c).before 4 t d)) :=
  (dats m 0 c).leavesExact_idle 4 t (idle4 t h) (Bool.eq_false_iff.mpr fun hf => by have := (flush0_4 t).mp hf; omega)

/-! ## The body at every point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The scratch before a point that does not begin a column: the point's own weights, cast. -/
theorem Phi_rest (c : Dev nD) (t : Fin cfg0.N) (h : ¬t.val % 9 = 0) :
    Phi m c t.val (Nat.le_of_lt t.isLt) = iprop(owns (c : Thread nD τ) (Memref.whole cc0_scratch0) fullShare (k0_pay1 (iblk m c 1 t)) ∗ (∃ r, prngReg c r)) := by
  rw [Phi_pos m c _ _ (by omega), iblk1 m c ⟨t.val - 1, Nat.lt_of_le_of_lt (Nat.sub_le _ _) t.isLt⟩ t (by show (t.val - 1) / 9 = t.val / 9; omega)]

/-- The scratch before any point, its contents forgotten. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz; show Pipeline.ΦA spec0 c ⊢ _; rw [Phi_start]
  · rw [Phi_pos m c n h hz]
    iintro ⟨HS, Hg⟩
    isplitl [HS]
    · iexists _; iexact HS
    iexact Hg

set_option maxHeartbeats 3200000 in
/-- The body's triple: the first, the other prompt rows, the sample's rows. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, leaves3]
  rw [show (dats m 0 c).Φ t.succ = iprop(owns (c : Thread nD τ) (Memref.whole cc0_scratch0) fullShare (k0_pay1 (iblk m c 1 t)) ∗ (∃ r, prngReg c r)) from rfl]
  rw [Phi_castSucc m c t]
  unfold rows
  by_cases h8 : t.val % 9 = 8
  · rw [leaves4_live m c t h8, Phi_rest m c t (by omega)]
    simp only [before3 m c t h8]
    unfold rows tail
    iintro ⟨⟨HS, Hg⟩, Ho, ⟨%d0, H0⟩, ⟨%d1, H1⟩, ⟨%d2, H2⟩, ⟨%d3, H3⟩, ⟨%d4, H4⟩⟩
    iapply (run_sample c (grid0.coords t) _ _ _ _ _ _ _ _ _ _ _ _ (fun h => by have := (first_iff t).mp h; omega)
      (fun h => by have := (prompt_iff t).mp h; omega) ((sample_iff t).mpr h8) (iblk m c 0 t) (iblk m c 1 t) (iblk m c 2 t) (k0_pay1 (iblk m c 1 t))
      (k0_pay2 (iblk m c 0 t) (k0_pay1 (iblk m c 1 t))) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have h7 : t.val % 9 < 8 := by omega
    rw [leaves4_idle m c t h7]
    by_cases h0 : t.val % 9 = 0
    · refine (sep_mono (Phi_any m c _ _) .rfl).trans ?_
      iintro ⟨⟨HS, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((first_iff t).mpr h0)
        ((prompt_iff t).mpr h7) (fun h => h8 ((sample_iff t).mp h)) (iblk m c 0 t) (iblk m c 1 t) (iblk m c 2 t)
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi_rest m c t h0]
      iintro ⟨⟨HS, Hg⟩, Ho, ⟨%d0, H0⟩, ⟨%d1, H1⟩, ⟨%d2, H2⟩, ⟨%d3, H3⟩, ⟨%d4, H4⟩⟩
      iapply (run_prompt c (grid0.coords t) _ _ _ _ _ _ _ _ _ _ _ _ (fun h => h0 ((first_iff t).mp h))
        ((prompt_iff t).mpr h7) (fun h => h8 ((sample_iff t).mp h)) (iblk m c 0 t) (iblk m c 1 t) (iblk m c 2 t) (k0_pay1 (iblk m c 1 t))
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body at that point. -/
theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [Phi_start, show (dats m 0 c).Φ (Fin.last cfg0.N) = Phi m c cfg0.N (Nat.le_refl _) from rfl]
  exact Phi_any m c _ _

/-! ## The run -/

set_option backward.isDefEq.respectTransparency.types false in
/-- Every run ends with the arrays the proof data give and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.InZIdeal.Own

end
-- ==== Proof.InZ.Frame.lean ====
module

public import proofs.«01_k».proof.Proof.InZ.FrameIdeal
public import proofs.«01_k».proof.Proof.Gen.InZ

@[expose] public section

set_option maxRecDepth 16384

noncomputable section

namespace Cert.InZ.Own

open Cert.InZ Cert.InZ.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The body table is the one of the program read at the ideal numbers. -/
theorem bodies : defs₀ (F := F) = Cert.InZIdeal.defs₀ (F := F) := by
  unfold defs₀ Cert.InZIdeal.defs₀
  refine congrArg (Defs.onTc (nD := nD) (τ := τ) (sig := sig) (Val := Elt F) (Λ := Λ₀)) (funext fun l => funext fun a => ?_)
  match l, a with
  | 0, (t, s) => rfl
  | ⟨_ + 1, h⟩, _ => exact absurd h (Nat.not_lt.2 (Nat.le_add_left _ _))

/-- The frame: the program is operation for operation the one read at the ideal numbers, whose frame is proved at every
    reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  unfold defs
  rw [bodies]
  exact Cert.InZIdeal.Own.frame (F := F) m ρ

end Cert.InZ.Own

end
-- ==== Proof.InZ.Value.lean ====
module

public import proofs.«01_k».proof.Proof.InZ.FrameIdeal
public import proofs.«01_k».proof.Proof.Gen.InZRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.InZIdeal.Own

open Idealize.ShloMosaic Idealize.ShloMosaic.TcCoe Idealize.ShloMosaic.Tactic Idealize.SL.Sem
open Idealize.ShloMosaic.Pipeline (Dat)
open Cert.InZIdeal Cert.InZIdeal.Gen

variable (m : (ℓ : Loc nD τ sig) → Buf (Elt Ideal) ℓ)

/-- The projection's columns of the weights, as the reference takes them. -/
abbrev part (w : FVec Ideal S1x2048x23616 .f32) : FVec Ideal Cert.InZRefIdeal.S2048x4096 .f32 :=
  extractStridedSlice Cert.InZRefIdeal.S2048x4096 ![0, 0] (shapeCast Cert.InZRefIdeal.S2048x23616 w Cert.InZRefIdeal.Gen.shapeCasts_S1x2048x23616_S2048x23616)
    Cert.InZRefIdeal.Gen.slices_S2048x23616_S2048x4096_0_0

/-- The projection of the prompt's rows, as the reference writes it. -/
abbrev whole (x : FVec Ideal S8192x2048 .bf16) (w : FVec Ideal S1x2048x23616 .f32) : FVec Ideal S8192x4096 .f32 :=
  Host.dotGeneral Cert.InZRefIdeal.dot_S8192x2048_S2048x4096_S8192x4096_1_0_0_1_n_n none (extf .f32 x bitsLt_bf16_f32) (part w)

/-- The projection of the sample's rows. -/
abbrev wholeS (x : FVec Ideal S512x2048 .bf16) (w : FVec Ideal S1x2048x23616 .f32) : FVec Ideal S512x4096 .f32 :=
  Host.dotGeneral Cert.InZRefIdeal.dot_S512x2048_S2048x4096_S512x4096_1_0_0_1_n_n none (extf .f32 x bitsLt_bf16_f32) (part w)

/-- Where the windows' blocks sit at each point. -/
theorem places : ∀ t : Fin cfg0.N, win0_0.index t = ![min (t.val % 9) 7, 0] ∧ win0_1.index t = ![0 + 1024 * (t.val / 9), 0]
    ∧ win0_2.index t = ![0, 0] ∧ win0_3.index t = ![min (t.val % 9) 7, t.val / 9] ∧ win0_4.index t = ![0, t.val / 9] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg2) : FVec Ideal S1x2048x23616 .f32) (ix3 (0 : Fin 1) j i) := by
  entry_read
  pointwise

/-- Where an entry of a weights' block sits in the array. -/
theorem off (t : Fin cfg0.N) (z) (a) : ((win0_1.rect t).emb z a : Nat) = win0_1.index t a + z a := win0_1.rect_emb_val_off t z a

/-- What a point stores of the prompt is the reference's entry at the place it stores it. -/
theorem point (c : Dev nD) (t : Fin cfg0.N) (y) : rows m c t y
    = whole (m ((c : Thread nD τ).loc main_arg0)) (m ((c : Thread nD τ).loc main_arg2)) (((cfg0.win 3).blk t).view.emb y) := by
  unfold rows
  pointwise [k0_pay1, k0_pay2, whole, part]
  blk_point [iblk, V, places t]
  · refine (off t _ _).trans ?_
    rw [(places t).2.1]; simp
  · refine (off t _ _).trans ?_
    rw [(places t).2.1]; simp; omega

/-- What a point stores of the sample is the reference's entry at the place it stores it. -/
theorem pointS (c : Dev nD) (t : Fin cfg0.N) (y) : tail m c t y
    = wholeS (m ((c : Thread nD τ).loc main_arg1)) (m ((c : Thread nD τ).loc main_arg2)) (((cfg0.win 4).blk t).view.emb y) := by
  unfold tail
  pointwise [k0_pay1, k0_pay3, wholeS, part]
  blk_point [iblk, V, places t]
  · refine (off t _ _).trans ?_
    rw [(places t).2.1]; simp
  · refine (off t _ _).trans ?_
    rw [(places t).2.1]; simp; omega

/-- The prompt's result array after the run. -/
theorem final (c : Dev nD) : (dats m 0 c).arrAt 3 (cfgs 0).N = whole (m ((c : Thread nD τ).loc main_arg0)) (m ((c : Thread nD τ).loc main_arg2)) := by
  refine (dats m 0 c).arrAt_eq_of_covers 3 _ (by decide +kernel) fun t _ y => ?_
  blk_simp
  rw [after3]
  exact point m c t y

/-- The sample's result array after the run. -/
theorem finalS (c : Dev nD) : (dats m 0 c).arrAt 4 (cfgs 0).N = wholeS (m ((c : Thread nD τ).loc main_arg1)) (m ((c : Thread nD τ).loc main_arg2)) := by
  refine (dats m 0 c).arrAt_eq_of_covers 4 _ (by decide +kernel) fun t _ y => ?_
  blk_simp
  rw [after4]
  exact pointS m c t y

/-- The claim. -/
theorem algebraic : Cert.algebraic_InZIdeal_InZRefIdeal := by
  pair_intro
  · run_from Cert.InZIdeal.Own.run_main m g
  · hlo_run
    · exact (final m c).symm
    · exact (finalS m c).symm

end Cert.InZIdeal.Own

end
-- ==== Proof.Gates.RunIdeal.lean ====
module

public import proofs.«01_k».proof.Proof.Gen.GatesIdeal.Frame
public import proofs.«01_k».proof.Proof.Gen.GatesIdeal.Skeleton
public import Idealize.ShloMosaic.Lib.VecWindow

@[expose] public section

set_option maxRecDepth 16384

noncomputable section

namespace Cert.GatesIdeal.Own

open Cert.GatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body -/

/-- A column of blocks begins: the weights are cast. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 9 = 0 :=
  (by decide +kernel : ∀ t : Fin grid0.N, first (grid0.coords t) ↔ t.val % 9 = 0)

/-- The point is one of the prompt's rows. -/
theorem prompt_iff : ∀ t : Fin cfg0.N, k0_cond2 (grid0.coords t) = 1#1 ↔ t.val % 9 < 8 :=
  (by decide +kernel : ∀ t : Fin grid0.N, k0_cond2 (grid0.coords t) = 1#1 ↔ t.val % 9 < 8)

/-- The point is the sample's. -/
theorem sample_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-! ## The body in its three cases -/

section
variable (c : Dev nD) (i : grid0.Coords)
  (arg2 : Memref sig .tc .vmem S1024x2048 .bf16) (harg2 : arg2.IsWhole) (arg3 : Memref sig .tc .vmem S1024x2048 .f32) (harg3 : arg3.IsWhole)
  (arg4 : Memref sig .tc .vmem S512x2048 .bf16) (harg4 : arg4.IsWhole) (arg5 : Memref sig .tc .vmem S1024x1024 .f32) (harg5 : arg5.IsWhole)
  (arg6 : Memref sig .tc .vmem S512x1024 .f32) (harg6 : arg6.IsWhole) (arg7 : Memref sig .tc .vmem S1024x2048 .bf16) (harg7 : arg7.IsWhole)

set_option maxHeartbeats 1000000 in
/-- At the first rows of a column the body casts the weights into the scratch and multiplies by them. -/
theorem run_first (h0 : first i) (h1 : k0_cond2 i = 1#1) (h2 : ¬k0_cond3 i = 1#1)
    (x0 : Vec F S1024x2048 .bf16) (x1 : Vec F S1024x2048 .f32) (x2 : Vec F S512x2048 .bf16) (x4 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (k0_pay2 x0 (k0_pay1 x1)) ∗ owns (c : Thread nD τ) arg6 fullShare x4
          ∗ owns (c : Thread nD τ) arg7 fullShare (k0_pay1 x1)) -∗ K ⟨⟩))
      ⊢ wp frame (wpE (defs₀ (F := F)) Variants.none c none) E (cc0_in_gates i arg2 harg2 arg3 harg3 arg4 harg4 arg5 harg5 arg6 harg6 arg7 harg7) K := by
  simp only [cc0_in_gates_eq_skeleton]; unfold cc0_in_gates_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v10 run_first.sl.HS_1
    rw [View.read_writes_full, View.readCov_full, View.readAt_full, View.readAt_full, harg2.read_unread, harg3.read_unread]
  isplitl [H4]
  · iexists _; isplitr; · ipureintro; exact harg6.read_unread _
    iexact H4
  iexists _; isplitr; swap; · iexact HS
  ipureintro
  unfold run_first.sl.HS_1
  rw [View.read_writes_full, View.readAt_full, harg3.read_unread]

set_option maxHeartbeats 1000000 in
/-- At the prompt's other rows the body multiplies by the weights in the scratch. -/
theorem run_prompt (h0 : ¬first i) (h1 : k0_cond2 i = 1#1) (h2 : ¬k0_cond3 i = 1#1)
    (x0 : Vec F S1024x2048 .bf16) (x1 : Vec F S1024x2048 .f32) (x2 : Vec F S512x2048 .bf16) (xs : Vec F S1024x2048 .bf16) (x4 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (k0_pay2 x0 xs) ∗ owns (c : Thread nD τ) arg6 fullShare x4
          ∗ owns (c : Thread nD τ) arg7 fullShare xs) -∗ K ⟨⟩))
      ⊢ wp frame (wpE (defs₀ (F := F)) Variants.none c none) E (cc0_in_gates i arg2 harg2 arg3 harg3 arg4 harg4 arg5 harg5 arg6 harg6 arg7 harg7) K := by
  simp only [cc0_in_gates_eq_skeleton]; unfold cc0_in_gates_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full, View.readAt_full, View.readAt_full, harg2.read_unread, harg7.read_unread]
  isplitl [H4]
  · iexists _; isplitr; · ipureintro; exact harg6.read_unread _
    iexact H4
  iexists _; isplitr; · ipureintro; exact harg7.read_unread _
  iexact HS

set_option maxHeartbeats 1000000 in
/-- At the sample's rows the body multiplies the sample's block by the weights in the scratch. -/
theorem run_sample (h0 : ¬first i) (h1 : ¬k0_cond2 i = 1#1) (h2 : k0_cond3 i = 1#1)
    (x0 : Vec F S1024x2048 .bf16) (x1 : Vec F S1024x2048 .f32) (x2 : Vec F S512x2048 .bf16) (xs : Vec F S1024x2048 .bf16) (x3 : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (k0_pay3 x2 xs)
          ∗ owns (c : Thread nD τ) arg7 fullShare xs) -∗ K ⟨⟩))
      ⊢ wp frame (wpE (defs₀ (F := F)) Variants.none c none) E (cc0_in_gates i arg2 harg2 arg3 harg3 arg4 harg4 arg5 harg5 arg6 harg6 arg7 harg7) K := by
  simp only [cc0_in_gates_eq_skeleton]; unfold cc0_in_gates_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.read_writes_full, View.readAt_full, View.readAt_full, harg4.read_unread, harg7.read_unread]
  iexists _; isplitr; · ipureintro; exact harg7.read_unread _
  iexact HS

end

end Cert.GatesIdeal.Own

end
-- ==== Proof.Gates.FrameIdeal.lean ====
module

public import proofs.«01_k».proof.Proof.Gates.RunIdeal
public import Idealize.ShloMosaic.Lib.Claim
public import Idealize.ShloMosaic.Lib.Pipeline.ValueKit

@[expose] public section

set_option maxRecDepth 16384

noncomputable section

namespace Cert.GatesIdeal.Own

open Cert.GatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which windows' blocks the points share -/

/-- Inside a column of blocks the weights' block stays. -/
theorem index1 : ∀ t u : Fin cfg0.N, t.val / 9 = u.val / 9 → win0_1.index t = win0_1.index u :=
  (by decide +kernel : ∀ t u : Fin grid0.N, t.val / 9 = u.val / 9 → win0_1.index t = win0_1.index u)

/-- The sample's point has the prompt block of the point before it. -/
theorem index0 : ∀ t u : Fin cfg0.N, t.val % 9 = 8 → u.val + 1 = t.val → win0_0.index t = win0_0.index u :=
  (by decide +kernel : ∀ t u : Fin grid0.N, t.val % 9 = 8 → u.val + 1 = t.val → win0_0.index t = win0_0.index u)

theorem iblk1 (c : Dev nD) (t u : Fin cfg0.N) (h : t.val / 9 = u.val / 9) : iblk m c 1 t = iblk m c 1 u := by
  funext y
  unfold iblk
  refine congrArg (V m c main_v1) (funext fun a => Fin.ext ?_)
  refine (win0_1.rect_emb_val_off t y a).trans (Eq.trans ?_ (win0_1.rect_emb_val_off u y a).symm)
  rw [index1 t u h]

theorem iblk0 (c : Dev nD) (t u : Fin cfg0.N) (h : t.val % 9 = 8) (hu : u.val + 1 = t.val) : iblk m c 0 t = iblk m c 0 u := by
  funext y
  unfold iblk
  refine congrArg (V m c main_arg0) (funext fun a => Fin.ext ?_)
  refine (win0_0.rect_emb_val_off t y a).trans (Eq.trans ?_ (win0_0.rect_emb_val_off u y a).symm)
  rw [index0 t u h hu]

/-! ## Where the outputs are stored and written back -/

theorem live3 : ∀ t : Fin cfg0.N, t.val % 9 < 8 → cfg0.idle 3 (grid0.coords t) = false :=
  (by decide +kernel : ∀ t : Fin grid0.N, t.val % 9 < 8 → idle0 3 (grid0.coords t) = false)
theorem idle3 : ∀ t : Fin cfg0.N, t.val % 9 = 8 → cfg0.idle 3 (grid0.coords t) = true :=
  (by decide +kernel : ∀ t : Fin grid0.N, t.val % 9 = 8 → idle0 3 (grid0.coords t) = true)
theorem live4 : ∀ t : Fin cfg0.N, t.val % 9 = 8 → cfg0.idle 4 (grid0.coords t) = false :=
  (by decide +kernel : ∀ t : Fin grid0.N, t.val % 9 = 8 → idle0 4 (grid0.coords t) = false)
theorem idle4 : ∀ t : Fin cfg0.N, t.val % 9 < 8 → cfg0.idle 4 (grid0.coords t) = true :=
  (by decide +kernel : ∀ t : Fin grid0.N, t.val % 9 < 8 → idle0 4 (grid0.coords t) = true)
theorem flush3 : ∀ t : Fin cfg0.N, (cfg0.win 3).flush t = true ↔ ¬t.val % 9 = 7 :=
  (by decide +kernel : ∀ t : Fin grid0.N, win0_3.flush t = true ↔ ¬t.val % 9 = 7)

/-! ## The pipeline's proof data -/

/-- The scratch between the points: what the last point left in it. -/
def Phi (c : Dev nD) : (n : ℕ) → n ≤ cfg0.N → sProp 𝕄
  | 0, _ => Pipeline.ΦA spec0 c
  | n + 1, hn => iprop(owns (c : Thread nD τ) (Memref.whole cc0_scratch0) fullShare (k0_pay1 (iblk m c 1 ⟨n, hn⟩)) ∗ (∃ r, prngReg c r))

theorem Phi_start (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (k0_pay1 (iblk m c 1 ⟨n - 1, by omega⟩)) ∗ (∃ r, prngReg c r)) := by
  cases n with
  | zero => exact absurd rfl hz
  | succ n => rfl

/-- What the prompt's output block holds after each point, -/
def rows (c : Dev nD) (t : Fin cfg0.N) : Vec F S1024x1024 .f32 := k0_pay2 (iblk m c 0 t) (k0_pay1 (iblk m c 1 t))

/-- and what the sample's holds after the points that store it. -/
def tail (c : Dev nD) (t : Fin cfg0.N) : Vec F S512x1024 .f32 := k0_pay3 (iblk m c 2 t) (k0_pay1 (iblk m c 1 t))

/-- The proof data: the inputs' blocks stay, the outputs' are the products, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => tail m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the sample's point the prompt's output block is still the one the point before stored. -/
theorem before3 (c : Dev nD) (t : Fin cfg0.N) (h : t.val % 9 = 8) (d) : (dats m 0 c).before 3 t d = rows m c t := by
  rw [(dats m 0 c).before_of_pos 3 t (by omega) rfl d,
    if_neg (fun hf => (flush3 ⟨t.val - 1, Nat.lt_of_le_of_lt (Nat.sub_le _ _) t.isLt⟩).mp hf (by show (t.val - 1) % 9 = 7; omega))]
  unfold Dat.left
  rw [live3 ⟨t.val - 1, Nat.lt_of_le_of_lt (Nat.sub_le _ _) t.isLt⟩ (by show (t.val - 1) % 9 < 8; omega)]
  show (dats m 0 c).kept 3 _ d = _
  unfold Dat.kept
  rw [Pipeline.fill_of_clip_none 3 _ (fun _ => rfl) d _, (cfg0.win 3).fill_cut, after3]
  unfold rows
  rw [iblk0 m c t ⟨t.val - 1, Nat.lt_of_le_of_lt (Nat.sub_le _ _) t.isLt⟩ h (by show t.val - 1 + 1 = t.val; omega),
    iblk1 m c t ⟨t.val - 1, Nat.lt_of_le_of_lt (Nat.sub_le _ _) t.isLt⟩ (by show t.val / 9 = (t.val - 1) / 9; omega)]

/-! ## What the body hands back of the outputs -/

theorem leaves3 (c : Dev nD) (t : Fin cfg0.N) :
    (dats m 0 c).leavesExact 3 t = owns (c : Thread nD τ) (st0_3 t) fullShare (rows m c t) := by
  by_cases h : t.val % 9 = 8
  · unfold Dat.leavesExact; rw [idle3 t h, (flush3 t).mpr (by omega), after3]
  · unfold Dat.leavesExact; rw [live3 t (by omega), after3]

theorem leaves4_live (c : Dev nD) (t : Fin cfg0.N) (h : t.val % 9 = 8) :
    (dats m 0 c).leavesExact 4 t = owns (c : Thread nD τ) (st0_4 t) fullShare (tail m c t) := by
  unfold Dat.leavesExact; rw [live4 t h, after4]

theorem leaves4_idle (c : Dev nD) (t : Fin cfg0.N) (h : t.val % 9 < 8) :
    (dats m 0 c).leavesExact 4 t = iprop(∃ d, owns (c : Thread nD τ) (st0_4 t) fullShare ((dats m 0 c).before 4 t d)) :=
  (dats m 0 c).leavesExact_idle 4 t (idle4 t h) (Bool.eq_false_iff.mpr fun hf => by have := (flush0_4 t).mp hf; omega)

/-! ## The body at every point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The scratch before a point that does not begin a column: the point's own weights, cast. -/
theorem Phi_rest (c : Dev nD) (t : Fin cfg0.N) (h : ¬t.val % 9 = 0) :
    Phi m c t.val (Nat.le_of_lt t.isLt) = iprop(owns (c : Thread nD τ) (Memref.whole cc0_scratch0) fullShare (k0_pay1 (iblk m c 1 t)) ∗ (∃ r, prngReg c r)) := by
  rw [Phi_pos m c _ _ (by omega), iblk1 m c ⟨t.val - 1, Nat.lt_of_le_of_lt (Nat.sub_le _ _) t.isLt⟩ t (by show (t.val - 1) / 9 = t.val / 9; omega)]

/-- The scratch before any point, its contents forgotten. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz; show Pipeline.ΦA spec0 c ⊢ _; rw [Phi_start]
  · rw [Phi_pos m c n h hz]
    iintro ⟨HS, Hg⟩
    isplitl [HS]
    · iexists _; iexact HS
    iexact Hg

set_option maxHeartbeats 3200000 in
/-- The body's triple: the first, the other prompt rows, the sample's rows. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, leaves3]
  rw [show (dats m 0 c).Φ t.succ = iprop(owns (c : Thread nD τ) (Memref.whole cc0_scratch0) fullShare (k0_pay1 (iblk m c 1 t)) ∗ (∃ r, prngReg c r)) from rfl]
  rw [Phi_castSucc m c t]
  unfold rows
  by_cases h8 : t.val % 9 = 8
  · rw [leaves4_live m c t h8, Phi_rest m c t (by omega)]
    simp only [before3 m c t h8]
    unfold rows tail
    iintro ⟨⟨HS, Hg⟩, Ho, ⟨%d0, H0⟩, ⟨%d1, H1⟩, ⟨%d2, H2⟩, ⟨%d3, H3⟩, ⟨%d4, H4⟩⟩
    iapply (run_sample c (grid0.coords t) _ _ _ _ _ _ _ _ _ _ _ _ (fun h => by have := (first_iff t).mp h; omega)
      (fun h => by have := (prompt_iff t).mp h; omega) ((sample_iff t).mpr h8) (iblk m c 0 t) (iblk m c 1 t) (iblk m c 2 t) (k0_pay1 (iblk m c 1 t))
      (k0_pay2 (iblk m c 0 t) (k0_pay1 (iblk m c 1 t))) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have h7 : t.val % 9 < 8 := by omega
    rw [leaves4_idle m c t h7]
    by_cases h0 : t.val % 9 = 0
    · refine (sep_mono (Phi_any m c _ _) .rfl).trans ?_
      iintro ⟨⟨HS, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((first_iff t).mpr h0)
        ((prompt_iff t).mpr h7) (fun h => h8 ((sample_iff t).mp h)) (iblk m c 0 t) (iblk m c 1 t) (iblk m c 2 t)
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi_rest m c t h0]
      iintro ⟨⟨HS, Hg⟩, Ho, ⟨%d0, H0⟩, ⟨%d1, H1⟩, ⟨%d2, H2⟩, ⟨%d3, H3⟩, ⟨%d4, H4⟩⟩
      iapply (run_prompt c (grid0.coords t) _ _ _ _ _ _ _ _ _ _ _ _ (fun h => h0 ((first_iff t).mp h))
        ((prompt_iff t).mpr h7) (fun h => h8 ((sample_iff t).mp h)) (iblk m c 0 t) (iblk m c 1 t) (iblk m c 2 t) (k0_pay1 (iblk m c 1 t))
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body at that point. -/
theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [Phi_start, show (dats m 0 c).Φ (Fin.last cfg0.N) = Phi m c cfg0.N (Nat.le_refl _) from rfl]
  exact Phi_any m c _ _

/-! ## The run -/

set_option backward.isDefEq.respectTransparency.types false in
/-- Every run ends with the arrays the proof data give and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.GatesIdeal.Own

end
-- ==== Proof.Gates.Frame.lean ====
module

public import proofs.«01_k».proof.Proof.Gates.FrameIdeal
public import proofs.«01_k».proof.Proof.Gen.Gates

@[expose] public section

set_option maxRecDepth 16384

noncomputable section

namespace Cert.Gates.Own

open Cert.Gates Cert.Gates.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The body table is the one of the program read at the ideal numbers. -/
theorem bodies : defs₀ (F := F) = Cert.GatesIdeal.defs₀ (F := F) := by
  unfold defs₀ Cert.GatesIdeal.defs₀
  refine congrArg (Defs.onTc (nD := nD) (τ := τ) (sig := sig) (Val := Elt F) (Λ := Λ₀)) (funext fun l => funext fun a => ?_)
  match l, a with
  | 0, (t, s) => rfl
  | ⟨_ + 1, h⟩, _ => exact absurd h (Nat.not_lt.2 (Nat.le_add_left _ _))

/-- The frame: the program is operation for operation the one read at the ideal numbers, whose frame is proved at every
    reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  unfold defs
  rw [bodies]
  exact Cert.GatesIdeal.Own.frame (F := F) m ρ

end Cert.Gates.Own

end
-- ==== Proof.Gates.Value.lean ====
module

public import proofs.«01_k».proof.Proof.Gates.FrameIdeal
public import proofs.«01_k».proof.Proof.Gen.GatesRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.GatesIdeal.Own

open Idealize.ShloMosaic Idealize.ShloMosaic.TcCoe Idealize.ShloMosaic.Tactic Idealize.SL.Sem
open Idealize.ShloMosaic.Pipeline (Dat)
open Cert.GatesIdeal Cert.GatesIdeal.Gen

variable (m : (ℓ : Loc nD τ sig) → Buf (Elt Ideal) ℓ)

/-- The projection's columns of the weights, as the reference takes them. -/
abbrev part (w : FVec Ideal S1x2048x23616 .f32) : FVec Ideal Cert.GatesRefIdeal.S2048x4096 .f32 :=
  extractStridedSlice Cert.GatesRefIdeal.S2048x4096 ![0, 19520] (shapeCast Cert.GatesRefIdeal.S2048x23616 w Cert.GatesRefIdeal.Gen.shapeCasts_S1x2048x23616_S2048x23616)
    Cert.GatesRefIdeal.Gen.slices_S2048x23616_S2048x4096_0_19520

/-- The projection of the prompt's rows, as the reference writes it. -/
abbrev whole (x : FVec Ideal S8192x2048 .bf16) (w : FVec Ideal S1x2048x23616 .f32) : FVec Ideal S8192x4096 .f32 :=
  Host.dotGeneral Cert.GatesRefIdeal.dot_S8192x2048_S2048x4096_S8192x4096_1_0_0_1_n_n none (extf .f32 x bitsLt_bf16_f32) (part w)

/-- The projection of the sample's rows. -/
abbrev wholeS (x : FVec Ideal S512x2048 .bf16) (w : FVec Ideal S1x2048x23616 .f32) : FVec Ideal S512x4096 .f32 :=
  Host.dotGeneral Cert.GatesRefIdeal.dot_S512x2048_S2048x4096_S512x4096_1_0_0_1_n_n none (extf .f32 x bitsLt_bf16_f32) (part w)

/-- Where the windows' blocks sit at each point. -/
theorem places : ∀ t : Fin cfg0.N, win0_0.index t = ![min (t.val % 9) 7, 0] ∧ win0_1.index t = ![19520 + 1024 * (t.val / 9), 0]
    ∧ win0_2.index t = ![0, 0] ∧ win0_3.index t = ![min (t.val % 9) 7, t.val / 9] ∧ win0_4.index t = ![0, t.val / 9] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg2) : FVec Ideal S1x2048x23616 .f32) (ix3 (0 : Fin 1) j i) := by
  entry_read
  pointwise

/-- Where an entry of a weights' block sits in the array. -/
theorem off (t : Fin cfg0.N) (z) (a) : ((win0_1.rect t).emb z a : Nat) = win0_1.index t a + z a := win0_1.rect_emb_val_off t z a

/-- What a point stores of the prompt is the reference's entry at the place it stores it. -/
theorem point (c : Dev nD) (t : Fin cfg0.N) (y) : rows m c t y
    = whole (m ((c : Thread nD τ).loc main_arg0)) (m ((c : Thread nD τ).loc main_arg2)) (((cfg0.win 3).blk t).view.emb y) := by
  unfold rows
  pointwise [k0_pay1, k0_pay2, whole, part]
  blk_point [iblk, V, places t]
  · refine (off t _ _).trans ?_
    rw [(places t).2.1]; simp
  · refine (off t _ _).trans ?_
    rw [(places t).2.1]; simp; omega

/-- What a point stores of the sample is the reference's entry at the place it stores it. -/
theorem pointS (c : Dev nD) (t : Fin cfg0.N) (y) : tail m c t y
    = wholeS (m ((c : Thread nD τ).loc main_arg1)) (m ((c : Thread nD τ).loc main_arg2)) (((cfg0.win 4).blk t).view.emb y) := by
  unfold tail
  pointwise [k0_pay1, k0_pay3, wholeS, part]
  blk_point [iblk, V, places t]
  · refine (off t _ _).trans ?_
    rw [(places t).2.1]; simp
  · refine (off t _ _).trans ?_
    rw [(places t).2.1]; simp; omega

/-- The prompt's result array after the run. -/
theorem final (c : Dev nD) : (dats m 0 c).arrAt 3 (cfgs 0).N = whole (m ((c : Thread nD τ).loc main_arg0)) (m ((c : Thread nD τ).loc main_arg2)) := by
  refine (dats m 0 c).arrAt_eq_of_covers 3 _ (by decide +kernel) fun t _ y => ?_
  blk_simp
  rw [after3]
  exact point m c t y

/-- The sample's result array after the run. -/
theorem finalS (c : Dev nD) : (dats m 0 c).arrAt 4 (cfgs 0).N = wholeS (m ((c : Thread nD τ).loc main_arg1)) (m ((c : Thread nD τ).loc main_arg2)) := by
  refine (dats m 0 c).arrAt_eq_of_covers 4 _ (by decide +kernel) fun t _ y => ?_
  blk_simp
  rw [after4]
  exact pointS m c t y

/-- The claim. -/
theorem algebraic : Cert.algebraic_GatesIdeal_GatesRefIdeal := by
  pair_intro
  · run_from Cert.GatesIdeal.Own.run_main m g
  · hlo_run
    · exact (final m c).symm
    · exact (finalS m c).symm

end Cert.GatesIdeal.Own

end
-- ==== Proof.Xbc.Value.lean ====
module

public import proofs.«01_k».proof.Proof.Gen.XbcIdeal.Frame
public import proofs.«01_k».proof.Proof.Gen.XbcRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.XbcIdeal.Own

open Idealize.ShloMosaic Idealize.ShloMosaic.TcCoe Idealize.ShloMosaic.Tactic Idealize.SL.Sem
open Idealize.ShloMosaic.Pipeline (Dat)
open Cert.XbcIdeal Cert.XbcIdeal.Gen

variable (m : (ℓ : Loc nD τ sig) → Buf (Elt Ideal) ℓ)

/-- The projection's columns of the sample rows, as the reference writes them. -/
abbrev whole (x : FVec Ideal S512x2048 .bf16) (w : FVec Ideal S1x2048x23616 .f32) : FVec Ideal S512x6144 .f32 :=
  Host.dotGeneral Cert.XbcRefIdeal.dot_S512x2048_S2048x6144_S512x6144_1_0_0_1_n_n none (extf .f32 x bitsLt_bf16_f32)
    (extractStridedSlice Cert.XbcRefIdeal.S2048x6144 ![0, 4096] (shapeCast Cert.XbcRefIdeal.S2048x23616 w Cert.XbcRefIdeal.Gen.shapeCasts_S1x2048x23616_S2048x23616)
      Cert.XbcRefIdeal.Gen.slices_S2048x23616_S2048x6144_0_4096)

/-- Where the windows' blocks sit at each point. -/
theorem places : ∀ t : Fin cfg0.N, win0_0.index t = ![0, 0] ∧ win0_1.index t = ![4096 + 1024 * t.val, 0] ∧ win0_2.index t = ![0, t.val] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg1) : FVec Ideal S1x2048x23616 .f32) (ix3 (0 : Fin 1) j i) := by
  show (StableHlo.after hostOps0 (fun b => m (c, b)) (Proc.tc.devRef main_v1) : FVec Ideal S23616x2048 .f32) (ix2 i j) = _
  after_results_simp
  pointwise

/-- A weights' block, entry by entry. -/
theorem wblk (c : Dev nD) (t : Fin cfg0.N) (i : Fin 1024) (j : Fin 2048) : iblk m c 1 t (ix2 i j)
    = (m ((c : Thread nD τ).loc main_arg1) : FVec Ideal S1x2048x23616 .f32) (ix3 (0 : Fin 1) j ⟨4096 + 1024 * t.val + i.val, by
      have := t.isLt
      have e : cfg0.N = 6 := rfl
      omega⟩) := by
  rw [← weight m c]
  refine congrArg (V m c main_v1) (funext fun a => Fin.ext ((win0_1.rect_emb_val_off t _ a).trans ?_))
  rw [(places t).2.1]
  match a with
  | ⟨0, _⟩ => rfl
  | ⟨1, _⟩ => exact Nat.zero_add _

/-- What a point stores is the reference's entry at the place it stores it. -/
theorem point (c : Dev nD) (t : Fin cfg0.N) (y) : k0_pay2 (iblk m c 0 t) (k0_pay1 (iblk m c 1 t)) y
    = whole (m ((c : Thread nD τ).loc main_arg0)) (m ((c : Thread nD τ).loc main_arg1)) (((cfg0.win 2).blk t).view.emb y) := by
  pointwise [k0_pay1, k0_pay2, whole, wblk m c t]
  blk_point [iblk, V, places t]

/-- The result array after the run. -/
theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

/-- Each sequence's old state and new rows in one row, as the call's host code joins them, -/
abbrev joined (a : FVec Ideal S128x18432 .f32) (b : FVec Ideal S128x24576 .f32) : FVec Ideal S128x43008 .f32 :=
  concatenate S128x43008 1 [⟨S128x18432, a⟩, ⟨S128x24576, b⟩] concatenates_S128x18432_S128x24576_S128x43008_d1

/-- and the rows kept of it. -/
abbrev kept (a : FVec Ideal S128x43008 .f32) : FVec Ideal S128x3x6144 .f32 :=
  extractStridedSlice S128x3x6144 ![0, 4, 0] (shapeCast S128x7x6144 a shapeCasts_S128x43008_S128x7x6144) slices_S128x7x6144_S128x3x6144_0_4_0

/-- Old state and new rows one below the other, as the reference joins them, -/
abbrev below (a : FVec Ideal Cert.XbcRefIdeal.S128x3x6144 .f32) (b : FVec Ideal Cert.XbcRefIdeal.S128x4x6144 .f32) : FVec Ideal Cert.XbcRefIdeal.S128x7x6144 .f32 :=
  concatenate Cert.XbcRefIdeal.S128x7x6144 1 [⟨Cert.XbcRefIdeal.S128x3x6144, a⟩, ⟨Cert.XbcRefIdeal.S128x4x6144, b⟩] Cert.XbcRefIdeal.Gen.concatenates_S128x3x6144_S128x4x6144_S128x7x6144_d1

/-- and the rows kept of them. -/
abbrev last (a : FVec Ideal Cert.XbcRefIdeal.S128x7x6144 .f32) : FVec Ideal Cert.XbcRefIdeal.S128x3x6144 .f32 :=
  extractStridedSlice Cert.XbcRefIdeal.S128x3x6144 ![0, 4, 0] a Cert.XbcRefIdeal.Gen.slices_S128x7x6144_S128x3x6144_0_4_0

/-- A kept entry's place in the joined row. -/
theorem kept_at (a : FVec Ideal S128x43008 .f32) (s : Fin 128) (i : Fin 3) (j : Fin 6144) :
    kept a (ix3 s i j) = a (ix2 s ⟨(4 + i.val) * 6144 + j.val, by omega⟩) := by
  pointwise

/-- Past the old state the joined row holds the new rows. -/
theorem joined_at (a : FVec Ideal S128x18432 .f32) (b : FVec Ideal S128x24576 .f32) (s : Fin 128) (k : Fin 43008) (h : ¬k.val < 18432) :
    joined a b (ix2 s k) = b (ix2 s ⟨k.val - 18432, by omega⟩) := by
  pointwise
  exact dif_neg h

/-- The new rows laid in one row, entry by entry. -/
theorem flat_at (y : FVec Ideal S512x6144 .f32) (s : Fin 128) (k : Fin 24576) :
    shapeCast S128x24576 y shapeCasts_S512x6144_S128x24576 (ix2 s k) = y (ix2 ⟨s.val * 4 + k.val / 6144, by omega⟩ ⟨k.val % 6144, by omega⟩) := by
  pointwise

/-- A kept entry of the reference. -/
theorem last_at (a : FVec Ideal Cert.XbcRefIdeal.S128x3x6144 .f32) (b : FVec Ideal Cert.XbcRefIdeal.S128x4x6144 .f32) (s : Fin 128) (i : Fin 3) (j : Fin 6144) :
    last (below a b) (ix3 s i j) = b (ix3 s ⟨1 + i.val, by omega⟩ j) := by
  have e : last (below a b) (ix3 s i j) = below a b (ix3 s ⟨4 + i.val, by omega⟩ j) := by
    generalize below a b = d
    pointwise
  rw [e]
  pointwise [below]
  refine (dif_neg (show ¬4 + i.val < 3 by omega)).trans (congrArg (fun k => b (ix3 s k j)) (Fin.ext ?_))
  show 4 + i.val - 3 = 1 + i.val
  omega

/-- The new rows by sequences, entry by entry. -/
theorem seq_at (y : FVec Ideal Cert.XbcRefIdeal.S512x6144 .f32) (s : Fin 128) (i : Fin 4) (j : Fin 6144) :
    shapeCast Cert.XbcRefIdeal.S128x4x6144 y Cert.XbcRefIdeal.Gen.shapeCasts_S512x6144_S128x4x6144 (ix3 s i j) = y (ix2 ⟨s.val * 4 + i.val, by omega⟩ j) := by
  pointwise

/-- Both keep the same rows. -/
theorem kept_last (a : FVec Ideal S128x18432 .f32) (a' : FVec Ideal Cert.XbcRefIdeal.S128x3x6144 .f32) (y : FVec Ideal S512x6144 .f32) :
    kept (joined a (shapeCast S128x24576 y shapeCasts_S512x6144_S128x24576)) = last (below a' (shapeCast Cert.XbcRefIdeal.S128x4x6144 y Cert.XbcRefIdeal.Gen.shapeCasts_S512x6144_S128x4x6144)) := by
  funext z
  obtain ⟨s, i, j, rfl⟩ : ∃ (s : Fin 128) (i : Fin 3) (j : Fin 6144), z = ix3 s i j := ⟨z 0, z 1, z 2, eq_ix3 z⟩
  rw [kept_at, joined_at _ _ _ _ (show ¬(4 + i.val) * 6144 + j.val < 18432 by omega), flat_at, last_at, seq_at]
  refine congrArg₂ (fun p q => y (ix2 p q)) (Fin.ext ?_) (Fin.ext ?_)
  · show s.val * 4 + ((4 + i.val) * 6144 + j.val - 18432) / 6144 = s.val * 4 + (1 + i.val)
    omega
  · show ((4 + i.val) * 6144 + j.val - 18432) % 6144 = j.val
    omega

/-- The new convolution state after the operations that follow the region. -/
theorem state (c : Dev nD) (a' : FVec Ideal Cert.XbcRefIdeal.S128x3x6144 .f32) : Pipeline.afterTail₀ cfgs (dats m) 0 (V0 m) [hostOps1] c main_v8
    = last (below a' (shapeCast Cert.XbcRefIdeal.S128x4x6144 (whole (m ((c : Thread nD τ).loc main_arg0)) (m ((c : Thread nD τ).loc main_arg1))) Cert.XbcRefIdeal.Gen.shapeCasts_S512x6144_S128x4x6144)) := by
  have e : Pipeline.withArrays spec0 c (V0 m c) (fun w => (dats m 0 c).arrAt w (cfgs 0).N) (Proc.tc.devRef main_v2)
      = whole (m ((c : Thread nD τ).loc main_arg0)) (m ((c : Thread nD τ).loc main_arg1)) :=
    (Pipeline.withArrays_arr spec0 (by decide) c (V0 m c) (fun w => (dats m 0 c).arrAt w (cfgs 0).N) 2).trans (final m c)
  rw [← e]
  refine Eq.trans ?_ (kept_last (shapeCast S128x18432 (shapeCast S128x3x6144
    (Pipeline.withArrays spec0 c (V0 m c) (fun w => (dats m 0 c).arrAt w (cfgs 0).N) (Proc.tc.devRef main_arg2) : FVec Ideal S1x128x3x6144 .f32)
    shapeCasts_S1x128x3x6144_S128x3x6144) shapeCasts_S128x3x6144_S128x18432) a' _)
  show StableHlo.after hostOps1 _ _ = _
  after_results_simp
  rfl

/-- The claim. -/
theorem algebraic : Cert.algebraic_XbcIdeal_XbcRefIdeal := by
  pair_intro
  · run_from Cert.XbcIdeal.Gen.run_main m g
    · exact W_main_arg1 m (dats m) c
    · exact W_main_arg2 m (dats m) c
  · hlo_run
    · exact (final m c).symm
    · exact (state m c _).symm

end Cert.XbcIdeal.Own

end
-- ==== Proof.Conv.Block.lean ====
module

public import proofs.«01_k».proof.Proof.Gen.ConvIdeal.Frame
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

/-! # What one point of the convolution computes

A point multiplies 1024 rows by 1024 columns of the weights, in four column groups; it keeps the product below the last eight rows
of the rows before, and each output row is the activation of four of the kept rows' weighted sum. -/

namespace Cert.ConvIdeal.Own

open Idealize.ShloMosaic Idealize.ShloMosaic.TcCoe Idealize.ShloMosaic.Tactic Idealize.SL.Sem
open Cert.ConvIdeal Cert.ConvIdeal.Gen

/-- The product of a block of rows with a block of the transposed weights. -/
def prod (x w : Vec Ideal S1024x2048 .bf16) : Vec Ideal S1024x1024 .f32 :=
  fun y => ∑ k : Fin 2048, x (ix2 (y 0) k) * w (ix2 (y 1) k)

/-- Eight rows of `p` above the rows of `a`. -/
def padded (p : Vec Ideal S1032x1024 .f32) (a : Vec Ideal S1024x1024 .f32) : Vec Ideal S1032x1024 .f32 :=
  fun z => if h : (z 0).val < 8 then p z else a (ix2 ⟨(z 0).val - 8, by have : (z 0).val < 1032 := (z 0).isLt; omega⟩ (z 1))

/-- The activation of the weighted sum of four values. -/
def act (b p0 w0 p1 w1 p2 w2 p3 w3 : EReal) : EReal :=
  (b + p0 * w0 + p1 * w1 + p2 * w2 + p3 * w3) *
    (Ideal.ofBits FTy.f32 0x3F000000#32 * Ideal.tanh (Ideal.ofBits FTy.f32 0x3F000000#32 * (b + p0 * w0 + p1 * w1 + p2 * w2 + p3 * w3))
      + Ideal.ofBits FTy.f32 0x3F000000#32)

/-- Row `k + r` of the kept rows. -/
abbrev tap (q : Vec Ideal S1032x1024 .f32) (k : Fin 9) (y : S1024x1024.Idx) : EReal :=
  q (ix2 ⟨k.val + (y 0).val, by have : (y 0).val < 1024 := (y 0).isLt; omega⟩ (y 1))

/-- The point's output over the kept rows. -/
def mixed (q : Vec Ideal S1032x1024 .f32) (cw : Vec Ideal S4x1024 .f32) (cb : Vec Ideal S1x1024 .f32) : Vec Ideal S1024x1024 .f32 :=
  fun y => act (cb (ix2 0 (y 1))) (tap q 5 y) (cw (ix2 0 (y 1))) (tap q 6 y) (cw (ix2 1 (y 1))) (tap q 7 y) (cw (ix2 2 (y 1))) (tap q 8 y) (cw (ix2 3 (y 1)))

section group

variable (b : Vec Ideal S1x256 .f32) (p0 p1 p2 p3 : Vec Ideal S1024x256 .f32) (w0 w1 w2 w3 : Vec Ideal S1x256 .f32) (x : S1024x256.Idx)

/-- A column group's output at an entry. -/
theorem group0 : k0_pay8 (F := Ideal) (k0_pay7 b p0 w0) p1 w1 p2 w2 p3 w3 x
    = act (b (ix2 0 (x 1))) (p0 x) (w0 (ix2 0 (x 1))) (p1 x) (w1 (ix2 0 (x 1))) (p2 x) (w2 (ix2 0 (x 1))) (p3 x) (w3 (ix2 0 (x 1))) := by
  pointwise [k0_pay8, k0_pay7, act]

/-- The second group's. -/
theorem group1 : k0_pay17 (F := Ideal) (k0_pay14 b p0 w0 p1 w1 p2 w2 p3 w3) (k0_pay15 b p0 w0 p1 w1 p2 w2 p3 w3) k0_pay16 x
    = act (b (ix2 0 (x 1))) (p0 x) (w0 (ix2 0 (x 1))) (p1 x) (w1 (ix2 0 (x 1))) (p2 x) (w2 (ix2 0 (x 1))) (p3 x) (w3 (ix2 0 (x 1))) := by
  pointwise [k0_pay17, k0_pay14, k0_pay15, k0_pay16, act]

/-- The third group's. -/
theorem group2 : k0_pay24 (F := Ideal) (k0_pay23 b p0 w0 p1 w1) p2 w2 p3 w3 x
    = act (b (ix2 0 (x 1))) (p0 x) (w0 (ix2 0 (x 1))) (p1 x) (w1 (ix2 0 (x 1))) (p2 x) (w2 (ix2 0 (x 1))) (p3 x) (w3 (ix2 0 (x 1))) := by
  pointwise [k0_pay23, k0_pay24, act]

/-- The fourth group's. -/
theorem group3 : k0_pay30 (F := Ideal) b p0 w0 p1 w1 p2 w2 p3 w3 x
    = act (b (ix2 0 (x 1))) (p0 x) (w0 (ix2 0 (x 1))) (p1 x) (w1 (ix2 0 (x 1))) (p2 x) (w2 (ix2 0 (x 1))) (p3 x) (w3 (ix2 0 (x 1))) := by
  pointwise [k0_pay30, act]

end group

/-- Equal arguments, equal activations. -/
theorem act_congr {b p0 w0 p1 w1 p2 w2 p3 w3 b' p0' w0' p1' w1' p2' w2' p3' w3' : EReal} (hb : b = b') (h0 : p0 = p0') (g0 : w0 = w0') (h1 : p1 = p1')
    (g1 : w1 = w1') (h2 : p2 = p2') (g2 : w2 = w2') (h3 : p3 = p3') (g3 : w3 = w3') : act b p0 w0 p1 w1 p2 w2 p3 w3 = act b' p0' w0' p1' w1' p2' w2' p3' w3' := by
  subst hb h0 g0 h1 g1 h2 g2 h3 g3; rfl

/-- A rectangle read at a position. -/
theorem ld_at {S : Shape} {e : EltTy} (X : Vec Ideal S e) {off size : Fin S.rank → ℕ} (inb : ∀ a, off a + size a ≤ S.size a)
    (x : (Rect.unit off size inb).shape.Idx) (z : S.Idx) (h : ∀ a, (z a).val = off a + (x a).val) : View.ld X (Rect.unit off size inb) x = X z :=
  congrArg X (funext fun a => Fin.ext (by rw [h a]; show off a + 1 * (x a).val = _; rw [Nat.one_mul]))

/-- A column group of the product. -/
theorem part_prod (x w : Vec Ideal S1024x2048 .bf16) (o : ℕ) (inb) (i : S1024x256.Idx) (y : S1024x1024.Idx)
    (h0 : (y 0).val = (i 0).val) (h1 : (y 1).val = o + (i 1).val) :
    k0_pay5 x (View.ld w (Rect.unit (s := S1024x2048) ![o, 0] ![256, 2048] inb)) i = prod x w y := by
  refine Eq.trans (b := ∑ k : Fin 2048, x (ix2 (i 0) k) * View.ld w (Rect.unit (s := S1024x2048) ![o, 0] ![256, 2048] inb) (ix2 (i 1) k)) ?_ ?_
  · pointwise [k0_pay5]
  · refine Finset.sum_congr rfl fun k _ => congrArg₂ (· * ·) (congrArg x ?_) (ld_at w inb _ _ fun a => ?_)
    · exact congrArg (fun r : Fin 1024 => ix2 r k) (Fin.ext h0.symm)
    · match a with
      | ⟨0, _⟩ => exact h1
      | ⟨1, _⟩ => exact (Nat.zero_add _).symm

/-- The group as it is stored. -/
theorem pay6_eq (x : Vec Ideal S1024x2048 .bf16) (w : Vec Ideal S256x2048 .bf16) : k0_pay6 x w = k0_pay5 x w := by
  funext i; pointwise [k0_pay6]
/-- The second group as it is stored. -/
theorem pay13_eq (x : Vec Ideal S1024x2048 .bf16) (w : Vec Ideal S256x2048 .bf16) : k0_pay13 x w = k0_pay5 x w := by
  funext i; pointwise [k0_pay13, k0_pay12, k0_pay5]
/-- The third group as it is stored. -/
theorem pay22_eq (x : Vec Ideal S1024x2048 .bf16) (w : Vec Ideal S256x2048 .bf16) : k0_pay22 x w = k0_pay5 x w := by
  funext i; pointwise [k0_pay22, k0_pay21, k0_pay5]
/-- The fourth group as it is stored. -/
theorem pay29_eq (x : Vec Ideal S1024x2048 .bf16) (w : Vec Ideal S256x2048 .bf16) : k0_pay29 x w = k0_pay5 x w := by
  funext i; pointwise [k0_pay29, k0_pay28, k0_pay5]

/-- Group 0 as stored, at a position. -/
theorem stored0 (x w : Vec Ideal S1024x2048 .bf16) (inb) (i : S1024x256.Idx) (y : S1024x1024.Idx) (h0 : (y 0).val = (i 0).val) (h1 : (y 1).val = 0 + (i 1).val) :
    k0_pay6 (F := Ideal) x (View.ld w (Rect.unit (s := S1024x2048) ![0, 0] ![256, 2048] inb)) i = prod x w y :=
  (congrFun (pay6_eq x _) i).trans (part_prod x w 0 _ i y h0 h1)

/-- Group 1 as stored, at a position. -/
theorem stored1 (x w : Vec Ideal S1024x2048 .bf16) (inb) (i : S1024x256.Idx) (y : S1024x1024.Idx) (h0 : (y 0).val = (i 0).val) (h1 : (y 1).val = 256 + (i 1).val) :
    k0_pay13 (F := Ideal) x (View.ld w (Rect.unit (s := S1024x2048) ![256, 0] ![256, 2048] inb)) i = prod x w y :=
  (congrFun (pay13_eq x _) i).trans (part_prod x w 256 _ i y h0 h1)

/-- Group 2 as stored, at a position. -/
theorem stored2 (x w : Vec Ideal S1024x2048 .bf16) (inb) (i : S1024x256.Idx) (y : S1024x1024.Idx) (h0 : (y 0).val = (i 0).val) (h1 : (y 1).val = 512 + (i 1).val) :
    k0_pay22 (F := Ideal) x (View.ld w (Rect.unit (s := S1024x2048) ![512, 0] ![256, 2048] inb)) i = prod x w y :=
  (congrFun (pay22_eq x _) i).trans (part_prod x w 512 _ i y h0 h1)

/-- Group 3 as stored, at a position. -/
theorem stored3 (x w : Vec Ideal S1024x2048 .bf16) (inb) (i : S1024x256.Idx) (y : S1024x1024.Idx) (h0 : (y 0).val = (i 0).val) (h1 : (y 1).val = 768 + (i 1).val) :
    k0_pay29 (F := Ideal) x (View.ld w (Rect.unit (s := S1024x2048) ![768, 0] ![256, 2048] inb)) i = prod x w y :=
  (congrFun (pay29_eq x _) i).trans (part_prod x w 768 _ i y h0 h1)

/-- The last eight rows of a group, as they are kept for the rows after. -/
theorem pay10_eq (a : Vec Ideal S1024x256 .f32) (i : S8x256.Idx) : k0_pay10 (F := Ideal) a i = a (ix2 ⟨1016 + (i 0).val, by have : (i 0).val < 8 := (i 0).isLt; omega⟩ (i 1)) := by
  pointwise [k0_pay10, k0_pay9]
/-- The second group's last eight rows, kept. -/
theorem pay19_eq (a : Vec Ideal S1024x256 .f32) (i : S8x256.Idx) : k0_pay19 (F := Ideal) a i = a (ix2 ⟨1016 + (i 0).val, by have : (i 0).val < 8 := (i 0).isLt; omega⟩ (i 1)) := by
  pointwise [k0_pay19, k0_pay18]
/-- The third group's last eight rows, kept. -/
theorem pay26_eq (a : Vec Ideal S1024x256 .f32) (i : S8x256.Idx) : k0_pay26 (F := Ideal) a i = a (ix2 ⟨1016 + (i 0).val, by have : (i 0).val < 8 := (i 0).isLt; omega⟩ (i 1)) := by
  pointwise [k0_pay26, k0_pay25]
/-- The fourth group's last eight rows, kept. -/
theorem pay1_eq (a : Vec Ideal S1024x256 .f32) (i : S8x256.Idx) : k0_pay1 (F := Ideal) (k0_pay31 a) i = a (ix2 ⟨1016 + (i 0).val, by have : (i 0).val < 8 := (i 0).isLt; omega⟩ (i 1)) := by
  pointwise [k0_pay1, k0_pay31]

/-- The last eight rows of a group, as they are stored to the result. -/
theorem pay11_eq (a : Vec Ideal S1024x256 .f32) (i : S1x8x256.Idx) : k0_pay11 (F := Ideal) a i = a (ix2 ⟨1016 + (i 1).val, by have : (i 1).val < 8 := (i 1).isLt; omega⟩ (i 2)) := by
  pointwise [k0_pay11, k0_pay9]
/-- The second group's last eight rows, stored. -/
theorem pay20_eq (a : Vec Ideal S1024x256 .f32) (i : S1x8x256.Idx) : k0_pay20 (F := Ideal) a i = a (ix2 ⟨1016 + (i 1).val, by have : (i 1).val < 8 := (i 1).isLt; omega⟩ (i 2)) := by
  pointwise [k0_pay20, k0_pay18]
/-- The third group's last eight rows, stored. -/
theorem pay27_eq (a : Vec Ideal S1024x256 .f32) (i : S1x8x256.Idx) : k0_pay27 (F := Ideal) a i = a (ix2 ⟨1016 + (i 1).val, by have : (i 1).val < 8 := (i 1).isLt; omega⟩ (i 2)) := by
  pointwise [k0_pay27, k0_pay25]
/-- The fourth group's last eight rows, stored. -/
theorem pay2_eq (a : Vec Ideal S1024x256 .f32) (i : S1x8x256.Idx) : k0_pay2 (F := Ideal) (k0_pay31 a) i = a (ix2 ⟨1016 + (i 1).val, by have : (i 1).val < 8 := (i 1).isLt; omega⟩ (i 2)) := by
  pointwise [k0_pay2, k0_pay31]

section pieces

variable {e : EltTy} {S : Shape}

/-- A load after stores, at a position. -/
theorem readCov_at {sig : RefSig} {κ : Kind} {sp : Space} (v : View sig κ sp S e) (L : List (View.Piece (Elt Ideal) S e)) {off size : Fin S.rank → ℕ}
    (inb : ∀ a, off a + size a ≤ S.size a) (x : (Rect.unit off size inb).shape.Idx) (z : S.Idx) (h : ∀ a, (z a).val = off a + (x a).val) :
    v.readCov L (Rect.unit off size inb).toLoadRect x = View.canon L z := by
  rw [View.readCov_eq_canon']
  exact congrArg (View.canon L) (funext fun a => Fin.ext (by rw [h a]; show off a + 1 * (x a).val = _; rw [Nat.one_mul]))

/-- A store takes its payload at the position it is stored. -/
theorem canon_at {off size : Fin S.rank → ℕ} (inb : ∀ a, off a + size a ≤ S.size a) (w) (L : List (View.Piece (Elt Ideal) S e)) (z : S.Idx)
    (x : (Rect.unit off size inb).shape.Idx) (h : ∀ a, (z a).val = off a + (x a).val) :
    View.canon (⟨Rect.unit off size inb, w⟩ :: L) z = w x := by
  have hx : (Rect.unit off size inb).emb x = z := funext fun a => Fin.ext (by rw [h a]; show off a + 1 * (x a).val = _; rw [Nat.one_mul])
  exact (congrArg _ hx.symm).trans (View.canon_cons_emb _ _ L _)

/-- A store of other columns than the position's leaves it as it was. -/
theorem canon_skip {r o n : ℕ} (inb) (w) (L : List (View.Piece (Elt Ideal) S1032x1024 .f32)) (z : S1032x1024.Idx) (h : (z 1).val < o ∨ o + 256 ≤ (z 1).val) :
    View.canon (⟨Rect.unit (s := S1032x1024) ![r, o] ![n, 256] inb, w⟩ :: L) z = View.canon L z :=
  View.canon_cons_of_not_mem _ L (by
    rw [Rect.mem_set_unit]
    intro hall
    have h1 : o ≤ (z 1).val := (hall 1).1
    have h2 : (z 1).val < o + 256 := (hall 1).2
    omega)

/-- A store of a group's product: below the first eight rows its entries, above what was there. -/
theorem canon_group {o : ℕ} (inb) (w : S1024x256.Idx → EReal) (L : List (View.Piece (Elt Ideal) S1032x1024 .f32)) (p : Vec Ideal S1032x1024 .f32) (a : Vec Ideal S1024x1024 .f32)
    (z : S1032x1024.Idx) (hz : o ≤ (z 1).val ∧ (z 1).val < o + 256)
    (hw : ∀ (i : S1024x256.Idx) (y : S1024x1024.Idx), (y 0).val = (i 0).val → (y 1).val = o + (i 1).val → w i = a y)
    (hp : (z 0).val < 8 → View.canon L z = p z) :
    View.canon (Val := Elt Ideal) (⟨Rect.unit (s := S1032x1024) ![8, o] ![1024, 256] inb, w⟩ :: L) z = padded p a z := by
  have hz0 : (z 0).val < 1032 := (z 0).isLt
  unfold padded
  split
  · rename_i h
    refine (View.canon_cons_of_not_mem _ L ?_).trans (hp h)
    rw [Rect.mem_set_unit]
    intro hall
    have : 8 ≤ (z 0).val := (hall 0).1
    omega
  · rename_i h
    have hx : (Rect.unit (s := S1032x1024) ![8, o] ![1024, 256] inb).emb (ix2 ⟨(z 0).val - 8, by omega⟩ ⟨(z 1).val - o, by omega⟩ : S1024x256.Idx) = z := by
      funext b
      match b with
      | ⟨0, _⟩ => exact Fin.ext (show 8 + 1 * ((z 0).val - 8) = (z 0).val by omega)
      | ⟨1, _⟩ => exact Fin.ext (show o + 1 * ((z 1).val - o) = (z 1).val by omega)
    refine (congrArg _ hx.symm).trans ((View.canon_cons_emb _ _ L _).trans (hw _ _ rfl ?_))
    show (z 1).val = o + ((z 1).val - o)
    omega

/-- The first eight rows as a sequence's first point clears them. -/
theorem canon_zero (inb) (L : List (View.Piece (Elt Ideal) S1032x1024 .f32)) (z : S1032x1024.Idx) (h : (z 0).val < 8) :
    View.canon (Val := Elt Ideal) (⟨Rect.unit (s := S1032x1024) ![0, 0] ![8, 1024] inb, (k0_pay4 : FVec Ideal S8x1024 .f32)⟩ :: L) z = (0 : EReal) := by
  have hx : (Rect.unit (s := S1032x1024) ![0, 0] ![8, 1024] inb).emb (ix2 ⟨(z 0).val, h⟩ (z 1) : S8x1024.Idx) = z := by
    funext b
    match b with
    | ⟨0, _⟩ => exact Fin.ext (show 0 + 1 * (z 0).val = (z 0).val by omega)
    | ⟨1, _⟩ => exact Fin.ext (show 0 + 1 * (z 1).val = (z 1).val by omega)
  refine (congrArg _ hx.symm).trans ((View.canon_cons_emb _ _ L _).trans ?_)
  pointwise [k0_pay4]

section read

variable {sig : RefSig} {κ : Kind} {sp : Space} (v : View sig κ sp S1032x1024 .f32) (f : v.ty.Contents (Elt Ideal))

/-- A store of columns before the position's leaves it as it was. -/
theorem read_skip {r o n : ℕ} (inb) (w) (L : List (View.Piece (Elt Ideal) S1032x1024 .f32)) (z : S1032x1024.Idx) (h : o + 256 ≤ (z 1).val) :
    v.read (Elt Ideal) (v.writes (Elt Ideal) f (⟨Rect.unit (s := S1032x1024) ![r, o] ![n, 256] inb, w⟩ :: L)) z = v.read (Elt Ideal) (v.writes (Elt Ideal) f L) z :=
  View.read_writes_cons_unit_of_not_mem v f inb w L z rfl 1 (Or.inr h)

/-- A store of a group's product, over the rows the point before left. -/
theorem read_group {o : ℕ} (inb) (w : S1024x256.Idx → EReal) (L : List (View.Piece (Elt Ideal) S1032x1024 .f32)) (p : Vec Ideal S1032x1024 .f32) (a : Vec Ideal S1024x1024 .f32)
    (z : S1032x1024.Idx) (hz : o ≤ (z 1).val ∧ (z 1).val < o + 256)
    (hw : ∀ (i : S1024x256.Idx) (y : S1024x1024.Idx), (y 0).val = (i 0).val → (y 1).val = o + (i 1).val → w i = a y)
    (hp : v.read (Elt Ideal) (v.writes (Elt Ideal) f L) z = p z) :
    v.read (Elt Ideal) (v.writes (Elt Ideal) f (⟨Rect.unit (s := S1032x1024) ![8, o] ![1024, 256] inb, w⟩ :: L)) z = padded p a z := by
  have hz0 : (z 0).val < 1032 := (z 0).isLt
  unfold padded
  split
  · rename_i h
    exact (View.read_writes_cons_unit_of_not_mem v f inb w L z rfl 0 (Or.inl h)).trans hp
  · rename_i h
    refine (View.read_writes_cons_unit_of_mem v f inb w L z (ix2 ⟨(z 0).val - 8, by omega⟩ ⟨(z 1).val - o, by omega⟩ : S1024x256.Idx) rfl fun b => ?_).trans (hw _ _ rfl ?_)
    · match b with
      | ⟨0, _⟩ => exact (show (z 0).val = 8 + ((z 0).val - 8) by omega)
      | ⟨1, _⟩ => exact (show (z 1).val = o + ((z 1).val - o) by omega)
    · show (z 1).val = o + ((z 1).val - o)
      omega

/-- A group's rows, one tap apart, over the rows the point before left. -/
theorem odd_at (k : Fin 9) {o : ℕ} (inb inb') (w : S1024x256.Idx → EReal) (L : List (View.Piece (Elt Ideal) S1032x1024 .f32)) (p : Vec Ideal S1032x1024 .f32) (a : Vec Ideal S1024x1024 .f32)
    (i : S1024x256.Idx) (y : S1024x1024.Idx) (h0 : (y 0).val = (i 0).val) (h1 : (y 1).val = o + (i 1).val)
    (hw : ∀ (i : S1024x256.Idx) (y : S1024x1024.Idx), (y 0).val = (i 0).val → (y 1).val = o + (i 1).val → w i = a y)
    (hp : ∀ z : S1032x1024.Idx, o ≤ (z 1).val → v.read (Elt Ideal) (v.writes (Elt Ideal) f L) z = p z) :
    View.ld (v.read (Elt Ideal) (v.writes (Elt Ideal) f (⟨Rect.unit (s := S1032x1024) ![8, o] ![1024, 256] inb, w⟩ :: L)))
      (Rect.unit (s := S1032x1024) ![k.val, o] ![1024, 256] inb') i = tap (padded p a) k y := by
  have hi : (i 1).val < 256 := (i 1).isLt
  refine (ld_at _ _ _ _ fun b => ?_).trans (read_group v f inb w L p a _ ⟨?_, ?_⟩ hw (hp _ ?_))
  · match b with
    | ⟨0, _⟩ => exact (show k.val + (y 0).val = k.val + (i 0).val by omega)
    | ⟨1, _⟩ => exact h1
  · show o ≤ (y 1).val; omega
  · show (y 1).val < o + 256; omega
  · show o ≤ (y 1).val; omega

end read

/-- A group's rows, one tap apart, over cleared rows. -/
theorem even_at {sig : RefSig} {κ : Kind} {sp : Space} (v : View sig κ sp S1032x1024 .f32) (k : Fin 9) {o : ℕ} (inb inb') (w : S1024x256.Idx → EReal) (L : List (View.Piece (Elt Ideal) S1032x1024 .f32)) (p : Vec Ideal S1032x1024 .f32) (a : Vec Ideal S1024x1024 .f32)
    (i : S1024x256.Idx) (y : S1024x1024.Idx) (h0 : (y 0).val = (i 0).val) (h1 : (y 1).val = o + (i 1).val)
    (hw : ∀ (i : S1024x256.Idx) (y : S1024x1024.Idx), (y 0).val = (i 0).val → (y 1).val = o + (i 1).val → w i = a y)
    (hp : ∀ z : S1032x1024.Idx, o ≤ (z 1).val → (z 0).val < 8 → View.canon L z = p z) :
    v.readCov (Val := Elt Ideal) (⟨Rect.unit (s := S1032x1024) ![8, o] ![1024, 256] inb, w⟩ :: L)
      (Rect.unit (s := S1032x1024) ![k.val, o] ![1024, 256] inb').toLoadRect i = tap (padded p a) k y := by
  have hi : (i 1).val < 256 := (i 1).isLt
  refine (readCov_at v _ _ _ _ fun b => ?_).trans (canon_group inb w L p a _ ⟨?_, ?_⟩ hw (hp _ ?_))
  · match b with
    | ⟨0, _⟩ => exact (show k.val + (y 0).val = k.val + (i 0).val by omega)
    | ⟨1, _⟩ => exact h1
  · show o ≤ (y 1).val; omega
  · show (y 1).val < o + 256; omega
  · show o ≤ (y 1).val; omega

/-- The last tap is the product's own row. -/
theorem own_at {r : EReal} (p : Vec Ideal S1032x1024 .f32) (a : Vec Ideal S1024x1024 .f32) (y : S1024x1024.Idx) (h : r = a y) : r = tap (padded p a) 8 y := by
  refine h.trans (Eq.symm ?_)
  unfold tap padded
  refine (dif_neg (show ¬ 8 + (y 0).val < 8 by omega)).trans (congrArg a (funext fun b => ?_))
  match b with
  | ⟨0, _⟩ => exact Fin.ext (show 8 + (y 0).val - 8 = (y 0).val by omega)
  | ⟨1, _⟩ => rfl

/-- The taps' weights, at a group's column. -/
theorem wt_at (k : Fin 4) {o : ℕ} (X : Vec Ideal S4x1024 .f32) (inb) (i : S1024x256.Idx) (y : S1024x1024.Idx) (h1 : (y 1).val = o + (i 1).val) :
    View.ld X (Rect.unit (s := S4x1024) ![k.val, o] ![1, 256] inb) (ix2 0 (i 1)) = X (ix2 k (y 1)) :=
  ld_at _ _ _ _ fun a => match a with
    | ⟨0, _⟩ => rfl
    | ⟨1, _⟩ => h1
/-- The bias, at a group's column. -/
theorem bias_at {o : ℕ} (X : Vec Ideal S1x1024 .f32) (inb) (i : S1024x256.Idx) (y : S1024x1024.Idx) (h1 : (y 1).val = o + (i 1).val) :
    View.ld X (Rect.unit (s := S1x1024) ![0, o] ![1, 256] inb) (ix2 0 (i 1)) = X (ix2 0 (y 1)) :=
  ld_at _ _ _ _ fun a => match a with
    | ⟨0, _⟩ => rfl
    | ⟨1, _⟩ => h1

end pieces

end Cert.ConvIdeal.Own

end
-- ==== Proof.Conv.Steps.lean ====
module

public import proofs.«01_k».proof.Proof.Conv.Block

@[expose] public section

set_option maxRecDepth 16384

noncomputable section

/-! # What the points of the convolution leave -/

namespace Cert.ConvIdeal.Own

open Idealize.ShloMosaic Idealize.ShloMosaic.TcCoe Idealize.ShloMosaic.Tactic Idealize.SL.Sem
open Idealize.ShloMosaic.Pipeline (Dat)
open Cert.ConvIdeal Cert.ConvIdeal.Gen

variable (m : (ℓ : Loc nD τ sig) → Buf (Elt Ideal) ℓ)

/-- Where the windows' blocks sit at each point. -/
theorem places : ∀ t : Fin cfg0.N, win0_0.index t = ![t.val % 8, 0] ∧ win0_1.index t = ![4096 + 1024 * (t.val / 8), 0] ∧ win0_2.index t = ![0, t.val / 8]
    ∧ win0_3.index t = ![0, t.val / 8] ∧ win0_4.index t = ![t.val % 8, t.val / 8] ∧ win0_5.index t = ![t.val % 8 / 2, 0, t.val / 8] :=
  (by decide +kernel : ∀ t : Fin grid0.N, _)

/-- Points of one column block read the same weights. -/
theorem same (c : Dev nD) (t s : Fin cfg0.N) (h : t.val / 8 = s.val / 8) : (iblk m c 1 t : Vec Ideal S1024x2048 .f32) = iblk m c 1 s := by
  have off : ∀ (t : Fin cfg0.N) (z) (a), ((win0_1.rect t).emb z a : Nat) = win0_1.index t a + z a := fun t z a => win0_1.rect_emb_val_off t z a
  funext y
  refine congrArg (V m c main_v1) (funext fun a => Fin.ext ?_)
  show ((win0_1.rect t).emb y a : Nat) = (win0_1.rect s).emb y a
  rw [off, off, (places t).2.1, (places s).2.1, h]

/-- The kept weights are the column block's, rounded. -/
theorem wts (c : Dev nD) : ∀ (n : ℕ) (hn : n < cfg0.N), ((outsAt0 m c n hn).2.2.1 : Vec Ideal S1024x2048 .bf16) = k0_pay3 (iblk m c 1 ⟨n, hn⟩) := by
  intro n
  induction n with
  | zero =>
    intro hn
    funext y
    rw [outsAt0_A m c ⟨0, hn⟩ rfl rfl]; frame_out
  | succ n ih =>
    intro hn
    by_cases h0 : (n + 1) % 8 = 0
    · funext y
      rw [outsAt0_A m c ⟨n + 1, hn⟩ h0 (show (n + 1) % 2 = 0 by omega)]; frame_out
    · have e : (iblk m c 1 ⟨n + 1, hn⟩ : Vec Ideal S1024x2048 .f32) = iblk m c 1 ⟨n, Nat.lt_of_succ_lt hn⟩ := same m c _ _ (show (n + 1) / 8 = n / 8 by omega)
      rw [e, ← ih (Nat.lt_of_succ_lt hn)]
      by_cases h1 : (n + 1) % 2 = 0
      · rw [outsAt0_C m c ⟨n + 1, hn⟩ h0 h1]; rfl
      · rw [outsAt0_B m c ⟨n + 1, hn⟩ h0 h1]; rfl

/-- The weights a point finds kept. -/
theorem before (c : Dev nD) (t : Fin cfg0.N) (h0 : ¬t.val % 8 = 0) (hn : t.val - 1 < cfg0.N) :
    ((outsAt0 m c (t.val - 1) hn).2.2.1 : Vec Ideal S1024x2048 .bf16) = k0_pay3 (iblk m c 1 t) := by
  rw [wts, same m c t ⟨t.val - 1, hn⟩ (show t.val / 8 = (t.val - 1) / 8 by omega)]

section cols

variable (x w : Vec Ideal S1024x2048 .bf16)

/-- The last rows kept, over any stores before. -/
theorem last (i0 i1 i2 i3 j0 j1 j2 j3) (k0 k1 k2 k3) (L : List (View.Piece (Elt Ideal) S1032x1024 .f32)) (z : S1032x1024.Idx) (y : S1024x1024.Idx)
    (hz : (z 0).val < 8) (h0 : (y 0).val = 1016 + (z 0).val) (h1 : (y 1).val = (z 1).val) :
    View.canon (Val := Elt Ideal)
      (⟨Rect.unit (s := S1032x1024) ![0, 768] ![8, 256] i3, k0_pay1 (F := Ideal) (k0_pay31 (k0_pay28 x (View.ld w (Rect.unit (s := S1024x2048) ![768, 0] ![256, 2048] k3))))⟩ ::
       ⟨Rect.unit (s := S1032x1024) ![8, 768] ![1024, 256] j3, k0_pay29 (F := Ideal) x (View.ld w (Rect.unit (s := S1024x2048) ![768, 0] ![256, 2048] k3))⟩ ::
       ⟨Rect.unit (s := S1032x1024) ![0, 512] ![8, 256] i2, k0_pay26 (F := Ideal) (k0_pay21 x (View.ld w (Rect.unit (s := S1024x2048) ![512, 0] ![256, 2048] k2)))⟩ ::
       ⟨Rect.unit (s := S1032x1024) ![8, 512] ![1024, 256] j2, k0_pay22 (F := Ideal) x (View.ld w (Rect.unit (s := S1024x2048) ![512, 0] ![256, 2048] k2))⟩ ::
       ⟨Rect.unit (s := S1032x1024) ![0, 256] ![8, 256] i1, k0_pay19 (F := Ideal) (k0_pay12 x (View.ld w (Rect.unit (s := S1024x2048) ![256, 0] ![256, 2048] k1)))⟩ ::
       ⟨Rect.unit (s := S1032x1024) ![8, 256] ![1024, 256] j1, k0_pay13 (F := Ideal) x (View.ld w (Rect.unit (s := S1024x2048) ![256, 0] ![256, 2048] k1))⟩ ::
       ⟨Rect.unit (s := S1032x1024) ![0, 0] ![8, 256] i0, k0_pay10 (F := Ideal) (k0_pay5 x (View.ld w (Rect.unit (s := S1024x2048) ![0, 0] ![256, 2048] k0)))⟩ ::
       ⟨Rect.unit (s := S1032x1024) ![8, 0] ![1024, 256] j0, k0_pay6 (F := Ideal) x (View.ld w (Rect.unit (s := S1024x2048) ![0, 0] ![256, 2048] k0))⟩ :: L) z = prod x w y := by
  have hz1 : (z 1).val < 1024 := (z 1).isLt
  have place : ∀ (o : ℕ) (ho : o ≤ (z 1).val ∧ (z 1).val < o + 256) (a : Fin 2), (z a).val = (![0, o] : Fin 2 → ℕ) a
      + ((ix2 ⟨(z 0).val, hz⟩ ⟨(z 1).val - o, by omega⟩ : S8x256.Idx) a).val := fun o ho a =>
    match a with
    | ⟨0, _⟩ => show (z 0).val = 0 + (z 0).val by omega
    | ⟨1, _⟩ => show (z 1).val = o + ((z 1).val - o) by omega
  have inside : ∀ (o : ℕ) (ho : o ≤ (z 1).val ∧ (z 1).val < o + 256), (y 1).val = o + ((z 1).val - o) := fun o ho => by omega
  by_cases c0 : (z 1).val < 256
  · rw [canon_skip _ _ _ z (by omega), canon_skip _ _ _ z (by omega), canon_skip _ _ _ z (by omega), canon_skip _ _ _ z (by omega),
      canon_skip _ _ _ z (by omega), canon_skip _ _ _ z (by omega)]
    exact (canon_at _ _ _ z _ (place 0 (by omega))).trans ((pay10_eq _ _).trans (part_prod x w _ _ _ y h0 (inside 0 (by omega))))
  by_cases c1 : (z 1).val < 512
  · rw [canon_skip _ _ _ z (by omega), canon_skip _ _ _ z (by omega), canon_skip _ _ _ z (by omega), canon_skip _ _ _ z (by omega)]
    exact (canon_at _ _ _ z _ (place 256 (by omega))).trans ((pay19_eq _ _).trans (part_prod x w _ _ _ y h0 (inside 256 (by omega))))
  by_cases c2 : (z 1).val < 768
  · rw [canon_skip _ _ _ z (by omega), canon_skip _ _ _ z (by omega)]
    exact (canon_at _ _ _ z _ (place 512 (by omega))).trans ((pay26_eq _ _).trans (part_prod x w _ _ _ y h0 (inside 512 (by omega))))
  · exact (canon_at _ _ _ z _ (place 768 (by omega))).trans ((pay1_eq _ _).trans (part_prod x w _ _ _ y h0 (inside 768 (by omega))))

end cols

/-- After a sequence's first point, the kept rows above are the product's last. -/
theorem padEven (c : Dev nD) (t : Fin cfg0.N) (h1 : t.val % 2 = 0) (z : S1032x1024.Idx) (y : S1024x1024.Idx)
    (hz : (z 0).val < 8) (hy0 : (y 0).val = 1016 + (z 0).val) (hy1 : (y 1).val = (z 1).val) :
    (outsAt0 m c t.val t.isLt).2.2.2 z = prod (iblk m c 0 t) (k0_pay3 (iblk m c 1 t)) y := by
  by_cases h0 : t.val % 8 = 0
  · rw [outsAt0_A m c t h0 h1]
    frame_open
    simp (disch := decide) only [↓ View.readCov_skip, ↓ View.readCov_cons_toLoadRect, ↓ View.readCov_fill]
    frame_out
    exact last _ _ _ _ _ _ _ _ _ _ _ _ _ _ _ z y hz hy0 hy1
  · rw [outsAt0_C m c t h0 h1]
    frame_open
    simp (disch := decide) only [↓ View.readCov_skip, ↓ View.readCov_cons_toLoadRect, ↓ View.readCov_fill]
    frame_out
    simp only [before m c t h0, read_unread_whole]
    exact last _ _ _ _ _ _ _ _ _ _ _ _ _ _ _ z y hz hy0 hy1

/-- A sequence's second point stores the product's last rows. -/
theorem tailOdd (c : Dev nD) (t : Fin cfg0.N) (h1 : ¬t.val % 2 = 0) (y : S1x8x1024.Idx) (z : S1024x1024.Idx)
    (hz0 : (z 0).val = 1016 + (y 1).val) (hz1 : (z 1).val = (y 2).val) :
    (outsAt0 m c t.val t.isLt).2.1 y = prod (iblk m c 0 t) (k0_pay3 (iblk m c 1 t)) z := by
  rw [outsAt0_B m c t (by omega) h1]
  frame_out
  simp only [before m c t (show ¬t.val % 8 = 0 by omega), read_unread_whole]
  canon_tiles i h
  · exact (pay2_eq _ _).trans (part_prod _ _ 768 _ _ z (by show _ = 1016 + _; omega) (by show _ = 768 + (i 2).val; omega))
  · exact (pay27_eq _ _).trans (part_prod _ _ 512 _ _ z (by show _ = 1016 + _; omega) (by show _ = 512 + (i 2).val; omega))
  · exact (pay20_eq _ _).trans (part_prod _ _ 256 _ _ z (by show _ = 1016 + _; omega) (by show _ = 256 + (i 2).val; omega))
  · exact (pay11_eq _ _).trans (part_prod _ _ 0 _ _ z (by show _ = 1016 + _; omega) (by show _ = 0 + (i 2).val; omega))

/-- A sequence's first point's output. -/
theorem outEven (c : Dev nD) (t : Fin cfg0.N) (h1 : t.val % 2 = 0) (y : S1024x1024.Idx) :
    (outsAt0 m c t.val t.isLt).1 y = mixed (padded (fun _ => (0 : EReal)) (prod (iblk m c 0 t) (k0_pay3 (iblk m c 1 t)))) (iblk m c 2 t) (iblk m c 3 t) y := by
  by_cases h0 : t.val % 8 = 0
  all_goals
    first
    | rw [outsAt0_A m c t h0 h1]
    | rw [outsAt0_C m c t h0 h1]
    frame_open
    simp (disch := decide) only [↓ View.readCov_skip, ↓ View.readCov_cons_toLoadRect, ↓ View.readCov_fill]
    frame_out
    try simp only [before m c t h0, read_unread_whole]
    generalize (k0_pay3 (iblk m c 1 t) : Vec Ideal S1024x2048 .bf16) = w
    generalize (iblk m c 0 t : Vec Ideal S1024x2048 .bf16) = x
    canon_tiles i h
    · refine (group3 _ _ _ _ _ _ _ _ _ i).trans (act_congr (bias_at _ _ i y (by omega)) (even_at _ 5 _ _ _ _ _ _ i y (by omega) (by omega) (stored3 x w _) ?_) (wt_at 0 _ _ i y (by omega))
        (even_at _ 6 _ _ _ _ _ _ i y (by omega) (by omega) (stored3 x w _) ?_) (wt_at 1 _ _ i y (by omega)) (even_at _ 7 _ _ _ _ _ _ i y (by omega) (by omega) (stored3 x w _) ?_) (wt_at 2 _ _ i y (by omega))
        (own_at _ _ y (stored3 x w _ i y (by omega) (by omega))) (wt_at 3 _ _ i y (by omega)))
      all_goals
        exact fun z hz hz0 => by
          rw [canon_skip _ _ _ z (by omega), canon_skip _ _ _ z (by omega), canon_skip _ _ _ z (by omega), canon_skip _ _ _ z (by omega), canon_skip _ _ _ z (by omega), canon_skip _ _ _ z (by omega)]
          exact canon_zero _ _ z hz0
    · refine (group2 _ _ _ _ _ _ _ _ _ i).trans (act_congr (bias_at _ _ i y (by omega)) (even_at _ 5 _ _ _ _ _ _ i y (by omega) (by omega) (stored2 x w _) ?_) (wt_at 0 _ _ i y (by omega))
        (even_at _ 6 _ _ _ _ _ _ i y (by omega) (by omega) (stored2 x w _) ?_) (wt_at 1 _ _ i y (by omega)) (even_at _ 7 _ _ _ _ _ _ i y (by omega) (by omega) (stored2 x w _) ?_) (wt_at 2 _ _ i y (by omega))
        (own_at _ _ y (stored2 x w _ i y (by omega) (by omega))) (wt_at 3 _ _ i y (by omega)))
      all_goals
        exact fun z hz hz0 => by
          rw [canon_skip _ _ _ z (by omega), canon_skip _ _ _ z (by omega), canon_skip _ _ _ z (by omega), canon_skip _ _ _ z (by omega)]
          exact canon_zero _ _ z hz0
    · refine (group1 _ _ _ _ _ _ _ _ _ i).trans (act_congr (bias_at _ _ i y (by omega)) (even_at _ 5 _ _ _ _ _ _ i y (by omega) (by omega) (stored1 x w _) ?_) (wt_at 0 _ _ i y (by omega))
        (even_at _ 6 _ _ _ _ _ _ i y (by omega) (by omega) (stored1 x w _) ?_) (wt_at 1 _ _ i y (by omega)) (even_at _ 7 _ _ _ _ _ _ i y (by omega) (by omega) (stored1 x w _) ?_) (wt_at 2 _ _ i y (by omega))
        (own_at _ _ y (stored1 x w _ i y (by omega) (by omega))) (wt_at 3 _ _ i y (by omega)))
      all_goals
        exact fun z hz hz0 => by
          rw [canon_skip _ _ _ z (by omega), canon_skip _ _ _ z (by omega)]
          exact canon_zero _ _ z hz0
    · refine (group0 _ _ _ _ _ _ _ _ _ i).trans (act_congr (bias_at _ _ i y (by omega)) (even_at _ 5 _ _ _ _ _ _ i y (by omega) (by omega) (stored0 x w _) ?_) (wt_at 0 _ _ i y (by omega))
        (even_at _ 6 _ _ _ _ _ _ i y (by omega) (by omega) (stored0 x w _) ?_) (wt_at 1 _ _ i y (by omega)) (even_at _ 7 _ _ _ _ _ _ i y (by omega) (by omega) (stored0 x w _) ?_) (wt_at 2 _ _ i y (by omega))
        (own_at _ _ y (stored0 x w _ i y (by omega) (by omega))) (wt_at 3 _ _ i y (by omega)))
      all_goals
        exact fun z hz hz0 => by
          exact canon_zero _ _ z hz0

/-- A sequence's second point's output. -/
theorem outOdd (c : Dev nD) (t : Fin cfg0.N) (h1 : ¬t.val % 2 = 0) (y : S1024x1024.Idx) (hn : t.val - 1 < cfg0.N) :
    (outsAt0 m c t.val t.isLt).1 y = mixed (padded (outsAt0 m c (t.val - 1) hn).2.2.2 (prod (iblk m c 0 t) (k0_pay3 (iblk m c 1 t)))) (iblk m c 2 t) (iblk m c 3 t) y := by
  have h0 : ¬t.val % 8 = 0 := by omega
  rw [outsAt0_B m c t h0 h1]
  frame_open
  simp (disch := decide) only [↓ View.readCov_skip, ↓ View.readCov_cons_toLoadRect, ↓ View.readCov_fill]
  frame_out
  simp only [before m c t h0, read_unread_whole]
  generalize (k0_pay3 (iblk m c 1 t) : Vec Ideal S1024x2048 .bf16) = w
  generalize (iblk m c 0 t : Vec Ideal S1024x2048 .bf16) = x
  canon_tiles i h
  · refine (group3 _ _ _ _ _ _ _ _ _ i).trans (act_congr (bias_at _ _ i y (by omega)) (odd_at _ _ 5 _ _ _ _ _ _ i y (by omega) (by omega) (stored3 x w _) ?_) (wt_at 0 _ _ i y (by omega))
      (odd_at _ _ 6 _ _ _ _ _ _ i y (by omega) (by omega) (stored3 x w _) ?_) (wt_at 1 _ _ i y (by omega)) (odd_at _ _ 7 _ _ _ _ _ _ i y (by omega) (by omega) (stored3 x w _) ?_) (wt_at 2 _ _ i y (by omega))
      (own_at _ _ y (stored3 x w _ i y (by omega) (by omega))) (wt_at 3 _ _ i y (by omega)))
    all_goals
      exact fun z hz => by
        rw [read_skip _ _ _ _ _ z (by omega), read_skip _ _ _ _ _ z (by omega), read_skip _ _ _ _ _ z (by omega), read_skip _ _ _ _ _ z (by omega), read_skip _ _ _ _ _ z (by omega), read_skip _ _ _ _ _ z (by omega)]
        exact congrFun (read_unread_whole cc0_scratch1 _ _) z
  · refine (group2 _ _ _ _ _ _ _ _ _ i).trans (act_congr (bias_at _ _ i y (by omega)) (odd_at _ _ 5 _ _ _ _ _ _ i y (by omega) (by omega) (stored2 x w _) ?_) (wt_at 0 _ _ i y (by omega))
      (odd_at _ _ 6 _ _ _ _ _ _ i y (by omega) (by omega) (stored2 x w _) ?_) (wt_at 1 _ _ i y (by omega)) (odd_at _ _ 7 _ _ _ _ _ _ i y (by omega) (by omega) (stored2 x w _) ?_) (wt_at 2 _ _ i y (by omega))
      (own_at _ _ y (stored2 x w _ i y (by omega) (by omega))) (wt_at 3 _ _ i y (by omega)))
    all_goals
      exact fun z hz => by
        rw [read_skip _ _ _ _ _ z (by omega), read_skip _ _ _ _ _ z (by omega), read_skip _ _ _ _ _ z (by omega), read_skip _ _ _ _ _ z (by omega)]
        exact congrFun (read_unread_whole cc0_scratch1 _ _) z
  · refine (group1 _ _ _ _ _ _ _ _ _ i).trans (act_congr (bias_at _ _ i y (by omega)) (odd_at _ _ 5 _ _ _ _ _ _ i y (by omega) (by omega) (stored1 x w _) ?_) (wt_at 0 _ _ i y (by omega))
      (odd_at _ _ 6 _ _ _ _ _ _ i y (by omega) (by omega) (stored1 x w _) ?_) (wt_at 1 _ _ i y (by omega)) (odd_at _ _ 7 _ _ _ _ _ _ i y (by omega) (by omega) (stored1 x w _) ?_) (wt_at 2 _ _ i y (by omega))
      (own_at _ _ y (stored1 x w _ i y (by omega) (by omega))) (wt_at 3 _ _ i y (by omega)))
    all_goals
      exact fun z hz => by
        rw [read_skip _ _ _ _ _ z (by omega), read_skip _ _ _ _ _ z (by omega)]
        exact congrFun (read_unread_whole cc0_scratch1 _ _) z
  · refine (group0 _ _ _ _ _ _ _ _ _ i).trans (act_congr (bias_at _ _ i y (by omega)) (odd_at _ _ 5 _ _ _ _ _ _ i y (by omega) (by omega) (stored0 x w _) ?_) (wt_at 0 _ _ i y (by omega))
      (odd_at _ _ 6 _ _ _ _ _ _ i y (by omega) (by omega) (stored0 x w _) ?_) (wt_at 1 _ _ i y (by omega)) (odd_at _ _ 7 _ _ _ _ _ _ i y (by omega) (by omega) (stored0 x w _) ?_) (wt_at 2 _ _ i y (by omega))
      (own_at _ _ y (stored0 x w _ i y (by omega) (by omega))) (wt_at 3 _ _ i y (by omega)))
    all_goals
      exact fun z hz => by
        exact congrFun (read_unread_whole cc0_scratch1 _ _) z

end Cert.ConvIdeal.Own

end
-- ==== Proof.Conv.Ref.lean ====
module

public import proofs.«01_k».proof.Proof.Gen.ConvRefIdeal.Run
public import proofs.«01_k».proof.Proof.Att.Sigmoid
public import Idealize.ShloMosaic.Lib.Pointwise

@[expose] public section

set_option maxRecDepth 16384

noncomputable section

/-! # The reference of the projection and its causal convolution, entry by entry -/

namespace Cert.ConvRefIdeal.Own

open Idealize.ShloMosaic Idealize.ShloMosaic.TcCoe Idealize.ShloMosaic.Tactic Idealize.SL.Sem
open Cert.ConvRefIdeal Cert.ConvRefIdeal.Gen

/-- An entry of the projection. -/
abbrev xbc (x : FVec Ideal S8192x2048 .bf16) (w : FVec Ideal S1x2048x23616 .f32) (r : Fin 8192) (j : Fin 6144) : EReal :=
  ∑ k : Fin 2048, x (ix2 r k) * w (ix3 (0 : Fin 1) k ⟨4096 + j.val, by omega⟩)

/-- A sequence's rows below three zero rows. -/
abbrev padRow (x : FVec Ideal S8192x2048 .bf16) (w : FVec Ideal S1x2048x23616 .f32) (s : Fin 4) (i : Fin 2051) (j : Fin 6144) : EReal :=
  if h : i.val < 3 then 0 else xbc x w ⟨s.val * 2048 + (i.val - 3), by omega⟩ j

/-- The projection by sequences, as the reference writes it. -/
abbrev stream (x : FVec Ideal S8192x2048 .bf16) (w : FVec Ideal S1x2048x23616 .f32) : FVec Ideal S4x2048x6144 .f32 :=
  shapeCast _ (Host.dotGeneral dot_S8192x2048_S2048x6144_S8192x6144_1_0_0_1_n_n none (extf .f32 x bitsLt_bf16_f32) (extractStridedSlice S2048x6144 ![0, 4096] (shapeCast _ w shapeCasts_S1x2048x23616_S2048x23616) slices_S2048x23616_S2048x6144_0_4096)) shapeCasts_S8192x6144_S4x2048x6144

/-- The sequences below three zero rows, as the reference writes them. -/
abbrev stacked (x : FVec Ideal S8192x2048 .bf16) (w : FVec Ideal S1x2048x23616 .f32) : FVec Ideal S4x2051x6144 .f32 :=
  concatenate S4x2051x6144 1 [⟨S4x3x6144, (broadcastInDim S4x3x6144 ![] bcast_S_S4x3x6144 (constant S_ .f32 0x00000000#32))⟩, ⟨S4x2048x6144, (stream x w)⟩] concatenates_S4x3x6144_S4x2048x6144_S4x2051x6144_d1

/-- The weighted sums, as the reference writes them. -/
abbrev summed (C : FVec Ideal S4x2051x6144 .f32) (cw : FVec Ideal S1x4x6144 .f32) (cb : FVec Ideal S1x6144 .f32) : FVec Ideal S4x2048x6144 .f32 :=
  addf (addf (addf (addf (broadcastInDim S4x2048x6144 ![0, 1, 2] bcast_S1x1x6144_S4x2048x6144_0_1_2 (broadcastInDim S1x1x6144 ![2] bcast_S6144_S1x1x6144_2 (shapeCast _ cb shapeCasts_S1x6144_S6144))) (mulf (extractStridedSlice S4x2048x6144 ![0, 0, 0] C slices_S4x2051x6144_S4x2048x6144_0_0_0) (broadcastInDim S4x2048x6144 ![0, 1, 2] bcast_S1x1x6144_S4x2048x6144_0_1_2 (broadcastInDim S1x1x6144 ![2] bcast_S6144_S1x1x6144_2 (shapeCast _ (extractStridedSlice S1x6144 ![0, 0] (shapeCast _ cw shapeCasts_S1x4x6144_S4x6144) slices_S4x6144_S1x6144_0_0) shapeCasts_S1x6144_S6144))))) (mulf (extractStridedSlice S4x2048x6144 ![0, 1, 0] C slices_S4x2051x6144_S4x2048x6144_0_1_0) (broadcastInDim S4x2048x6144 ![0, 1, 2] bcast_S1x1x6144_S4x2048x6144_0_1_2 (broadcastInDim S1x1x6144 ![2] bcast_S6144_S1x1x6144_2 (shapeCast _ (extractStridedSlice S1x6144 ![1, 0] (shapeCast _ cw shapeCasts_S1x4x6144_S4x6144) slices_S4x6144_S1x6144_1_0) shapeCasts_S1x6144_S6144))))) (mulf (extractStridedSlice S4x2048x6144 ![0, 2, 0] C slices_S4x2051x6144_S4x2048x6144_0_2_0) (broadcastInDim S4x2048x6144 ![0, 1, 2] bcast_S1x1x6144_S4x2048x6144_0_1_2 (broadcastInDim S1x1x6144 ![2] bcast_S6144_S1x1x6144_2 (shapeCast _ (extractStridedSlice S1x6144 ![2, 0] (shapeCast _ cw shapeCasts_S1x4x6144_S4x6144) slices_S4x6144_S1x6144_2_0) shapeCasts_S1x6144_S6144))))) (mulf (extractStridedSlice S4x2048x6144 ![0, 3, 0] C slices_S4x2051x6144_S4x2048x6144_0_3_0) (broadcastInDim S4x2048x6144 ![0, 1, 2] bcast_S1x1x6144_S4x2048x6144_0_1_2 (broadcastInDim S1x1x6144 ![2] bcast_S6144_S1x1x6144_2 (shapeCast _ (extractStridedSlice S1x6144 ![3, 0] (shapeCast _ cw shapeCasts_S1x4x6144_S4x6144) slices_S4x6144_S1x6144_3_0) shapeCasts_S1x6144_S6144))))

/-- Their activation, as the reference writes it. -/
abbrev active (S : FVec Ideal S4x2048x6144 .f32) : FVec Ideal S8192x6144 .f32 :=
  shapeCast _ (mulf S (Host.divf (broadcastInDim S4x2048x6144 ![] bcast_S_S4x2048x6144 (constant S_ .f32 0x3F800000#32)) (addf (broadcastInDim S4x2048x6144 ![] bcast_S_S4x2048x6144 (constant S_ .f32 0x3F800000#32)) (Host.exp (Host.negf S))))) shapeCasts_S4x2048x6144_S8192x6144

/-- An entry of the projection by sequences. -/
theorem stream_at (x : FVec Ideal S8192x2048 .bf16) (w : FVec Ideal S1x2048x23616 .f32) (s : Fin 4) (i : Fin 2048) (j : Fin 6144) :
    stream x w (ix3 s i j) = xbc x w ⟨s.val * 2048 + i.val, by omega⟩ j := by
  pointwise [stream, xbc]

/-- An entry of the sequences below three zero rows. -/
theorem stacked_at (x : FVec Ideal S8192x2048 .bf16) (w : FVec Ideal S1x2048x23616 .f32) (s : Fin 4) (i : Fin 2051) (j : Fin 6144) :
    stacked x w (ix3 s i j) = padRow x w s i j := by
  pointwise [stacked, padRow, xbc]

/-- A weighted sum. -/
theorem summed_at (C : FVec Ideal S4x2051x6144 .f32) (cw : FVec Ideal S1x4x6144 .f32) (cb : FVec Ideal S1x6144 .f32) (s : Fin 4) (i : Fin 2048) (j : Fin 6144) :
    summed C cw cb (ix3 s i j) = cb (ix2 (0 : Fin 1) j) + C (ix3 s ⟨i.val, by omega⟩ j) * cw (ix3 (0 : Fin 1) 0 j) + C (ix3 s ⟨1 + i.val, by omega⟩ j) * cw (ix3 (0 : Fin 1) 1 j)
      + C (ix3 s ⟨2 + i.val, by omega⟩ j) * cw (ix3 (0 : Fin 1) 2 j) + C (ix3 s ⟨3 + i.val, by omega⟩ j) * cw (ix3 (0 : Fin 1) 3 j) := by
  pointwise [summed]

/-- An activation. -/
theorem active_at (S : FVec Ideal S4x2048x6144 .f32) (r : Fin 8192) (j : Fin 6144) :
    active S (ix2 r j) = S (ix3 ⟨r.val / 2048, by omega⟩ ⟨r.val % 2048, by omega⟩ j)
      * (Ideal.ofBits FTy.f32 0x3F000000#32 * Ideal.tanh (Ideal.ofBits FTy.f32 0x3F000000#32 * S (ix3 ⟨r.val / 2048, by omega⟩ ⟨r.val % 2048, by omega⟩ j)) + Ideal.ofBits FTy.f32 0x3F000000#32) := by
  rw [Soft.sigmoid]
  pointwise [active]

variable (m : (ℓ : Loc nD τ sig) → Buf (Elt Ideal) ℓ) (c : Dev nD)

/-- The reference's first result, named in parts. -/
theorem ref0 : Cert.ConvRefIdeal.Value.res_out0 m c = active (summed (stacked (m ((c.tc : Thread nD τ).loc main_arg0)) (m ((c.tc : Thread nD τ).loc main_arg1)))
    (m ((c.tc : Thread nD τ).loc main_arg2)) (m ((c.tc : Thread nD τ).loc main_arg3))) := by
  unfold Cert.ConvRefIdeal.Value.res_out0 Cert.ConvRefIdeal.Value.res_main_v43
  rfl

end Cert.ConvRefIdeal.Own

end
-- ==== Proof.Conv.Value.lean ====
module

public import proofs.«01_k».proof.Proof.Conv.Steps
public import proofs.«01_k».proof.Proof.Conv.Ref
public import proofs.«01_k».proof.Defs
public import Idealize.ShloMosaic.Lib.Claim

@[expose] public section

set_option maxRecDepth 16384

noncomputable section

/-! # The projection and its causal convolution: the result arrays and the claim -/

namespace Cert.ConvIdeal.Own

open Idealize.ShloMosaic Idealize.ShloMosaic.TcCoe Idealize.ShloMosaic.Tactic Idealize.SL.Sem
open Idealize.ShloMosaic.Pipeline (Dat)
open Cert.ConvIdeal Cert.ConvIdeal.Gen
open Cert.ConvRefIdeal.Own (xbc padRow active summed stacked stream active_at summed_at stacked_at stream_at)

variable (m : (ℓ : Loc nD τ sig) → Buf (Elt Ideal) ℓ)

/-- The call's rows. -/
abbrev argX (c : Dev nD) : FVec Ideal S8192x2048 .bf16 := m ((c : Thread nD τ).loc main_arg0)
/-- The projection's weights. -/
abbrev argW (c : Dev nD) : FVec Ideal S1x2048x23616 .f32 := m ((c : Thread nD τ).loc main_arg1)
/-- The taps' weights. -/
abbrev argCw (c : Dev nD) : FVec Ideal S1x4x6144 .f32 := m ((c : Thread nD τ).loc main_arg2)
/-- The bias. -/
abbrev argCb (c : Dev nD) : FVec Ideal S1x6144 .f32 := m ((c : Thread nD τ).loc main_arg3)

/-- The weights as the call takes them: rows and columns exchanged. -/
theorem weight (c : Dev nD) (i : Fin 23616) (j : Fin 2048) : (V m c main_v1 : FVec Ideal S23616x2048 .f32) (ix2 i j) = argW m c (ix3 (0 : Fin 1) j i) := by
  show (StableHlo.after hostOps0 (fun b => m (c, b)) (Proc.tc.devRef main_v1) : FVec Ideal S23616x2048 .f32) (ix2 i j) = argW m c _
  after_results_simp
  pointwise

/-- The taps' weights as the call takes them. -/
theorem taps (c : Dev nD) (i : Fin 4) (j : Fin 6144) : (V m c main_v2 : FVec Ideal S4x6144 .f32) (ix2 i j) = argCw m c (ix3 (0 : Fin 1) i j) := by
  show (StableHlo.after hostOps0 (fun b => m (c, b)) (Proc.tc.devRef main_v2) : FVec Ideal S4x6144 .f32) (ix2 i j) = argCw m c _
  after_results_simp
  pointwise

/-- The bias as the call takes it. -/
theorem bias (c : Dev nD) (j : Fin 6144) : (V m c main_v4 : FVec Ideal S1x6144 .f32) (ix2 (0 : Fin 1) j) = argCb m c (ix2 (0 : Fin 1) j) := by
  show (StableHlo.after hostOps0 (fun b => m (c, b)) (Proc.tc.devRef main_v4) : FVec Ideal S1x6144 .f32) (ix2 (0 : Fin 1) j) = argCb m c _
  after_results_simp
  pointwise

/-- A point's product holds entries of the projection. -/
theorem prod_at (c : Dev nD) (t : Fin cfg0.N) (y : S1024x1024.Idx) (r : Fin 8192) (j : Fin 6144) (hr : r.val = t.val % 8 * 1024 + (y 0).val)
    (hj : j.val = t.val / 8 * 1024 + (y 1).val) : prod (iblk m c 0 t) (k0_pay3 (iblk m c 1 t)) y = xbc (argX m c) (argW m c) r j := by
  have off : ∀ (z) (a), ((win0_1.rect t).emb z a : Nat) = win0_1.index t a + z a := fun z a => win0_1.rect_emb_val_off t z a
  unfold prod
  refine Finset.sum_congr rfl fun k _ => congrArg₂ (· * ·) ?_ ?_
  · blk_point [iblk, V, places t]
  · pointwise [k0_pay3]
    refine Eq.trans ?_ (weight m c ⟨4096 + j.val, by omega⟩ k)
    blk_point [iblk, V, places t]
    · refine (off _ _).trans ?_
      rw [(places t).2.1]; simp; omega
    · refine (off _ _).trans ?_
      rw [(places t).2.1]; simp

/-- A point's taps' weights. -/
theorem taps_at (c : Dev nD) (t : Fin cfg0.N) (i : Fin 4) (q : Fin 1024) (j : Fin 6144) (hj : j.val = t.val / 8 * 1024 + q.val) :
    (iblk m c 2 t : Vec Ideal S4x1024 .f32) (ix2 i q) = argCw m c (ix3 (0 : Fin 1) i j) := by
  refine Eq.trans ?_ (taps m c i j)
  blk_point [iblk, V, places t]
/-- A point's bias. -/
theorem bias_blk (c : Dev nD) (t : Fin cfg0.N) (q : Fin 1024) (j : Fin 6144) (hj : j.val = t.val / 8 * 1024 + q.val) :
    (iblk m c 3 t : Vec Ideal S1x1024 .f32) (ix2 (0 : Fin 1) q) = argCb m c (ix2 (0 : Fin 1) j) := by
  refine Eq.trans ?_ (bias m c j)
  blk_point [iblk, V, places t]

/-- A sequence's first three rows are zero. -/
theorem padRow_zero (x : FVec Ideal S8192x2048 .bf16) (w : FVec Ideal S1x2048x23616 .f32) (s : Fin 4) (i : Fin 2051) (j : Fin 6144) (h : i.val < 3) : padRow x w s i j = 0 :=
  dif_pos h

/-- The others are the projection's. -/
theorem padRow_row (x : FVec Ideal S8192x2048 .bf16) (w : FVec Ideal S1x2048x23616 .f32) (s : Fin 4) (i : Fin 2051) (j : Fin 6144) (h : ¬i.val < 3) :
    padRow x w s i j = xbc x w ⟨s.val * 2048 + (i.val - 3), by omega⟩ j :=
  dif_neg h

/-- The kept rows over cleared rows are a sequence's first rows below the zero rows. -/
theorem keptEven (c : Dev nD) (t : Fin cfg0.N) (h1 : t.val % 2 = 0) (k : Fin 9) (y : S1024x1024.Idx) (s : Fin 4) (i : Fin 2051) (j : Fin 6144) (hk : 5 ≤ k.val)
    (hs : s.val = t.val % 8 / 2) (hi : i.val = k.val - 5 + (y 0).val) (hj : j.val = t.val / 8 * 1024 + (y 1).val) :
    tap (padded (fun _ => (0 : EReal)) (prod (iblk m c 0 t) (k0_pay3 (iblk m c 1 t)))) k y = padRow (argX m c) (argW m c) s i j := by
  unfold tap padded
  by_cases h : k.val + (y 0).val < 8
  · exact (dif_pos h).trans (padRow_zero _ _ s i j (show i.val < 3 by omega)).symm
  · refine (dif_neg h).trans (Eq.trans (prod_at m c t _ _ j ?_ hj) (padRow_row _ _ s i j (show ¬i.val < 3 by omega)).symm)
    show s.val * 2048 + (i.val - 3) = t.val % 8 * 1024 + (k.val + (y 0).val - 8)
    omega

/-- The kept rows over the last rows of the point before continue the sequence. -/
theorem keptOdd (c : Dev nD) (t : Fin cfg0.N) (h1 : ¬t.val % 2 = 0) (hn : t.val - 1 < cfg0.N) (k : Fin 9) (y : S1024x1024.Idx) (s : Fin 4) (i : Fin 2051) (j : Fin 6144) (hk : 5 ≤ k.val)
    (hs : s.val = t.val % 8 / 2) (hi : i.val = k.val - 5 + 1024 + (y 0).val) (hj : j.val = t.val / 8 * 1024 + (y 1).val) :
    tap (padded (outsAt0 m c (t.val - 1) hn).2.2.2 (prod (iblk m c 0 t) (k0_pay3 (iblk m c 1 t)))) k y = padRow (argX m c) (argW m c) s i j := by
  unfold tap padded
  refine Eq.trans ?_ (padRow_row _ _ s i j (show ¬i.val < 3 by omega)).symm
  by_cases h : k.val + (y 0).val < 8
  · refine (dif_pos h).trans ?_
    refine (padEven m c ⟨t.val - 1, hn⟩ (show (t.val - 1) % 2 = 0 by omega) _ (ix2 ⟨1016 + (k.val + (y 0).val), by omega⟩ (y 1)) h rfl rfl).trans (prod_at m c _ _ _ j ?_ ?_)
    · show s.val * 2048 + (i.val - 3) = (t.val - 1) % 8 * 1024 + (1016 + (k.val + (y 0).val))
      omega
    · show j.val = (t.val - 1) / 8 * 1024 + (y 1).val
      omega
  · refine (dif_neg h).trans (prod_at m c t _ _ j ?_ hj)
    show s.val * 2048 + (i.val - 3) = t.val % 8 * 1024 + (k.val + (y 0).val - 8)
    omega

/-- The reference's entry as an activation. -/
theorem entry_act (x : FVec Ideal S8192x2048 .bf16) (w : FVec Ideal S1x2048x23616 .f32) (cw : FVec Ideal S1x4x6144 .f32) (cb : FVec Ideal S1x6144 .f32) (r : Fin 8192) (j : Fin 6144) :
    (active (summed (stacked x w) cw cb) : FVec Ideal S8192x6144 .f32) (ix2 r j) = act (cb (ix2 (0 : Fin 1) j))
      (padRow x w ⟨r.val / 2048, by omega⟩ ⟨r.val % 2048, by omega⟩ j) (cw (ix3 (0 : Fin 1) 0 j))
      (padRow x w ⟨r.val / 2048, by omega⟩ ⟨1 + r.val % 2048, by omega⟩ j) (cw (ix3 (0 : Fin 1) 1 j))
      (padRow x w ⟨r.val / 2048, by omega⟩ ⟨2 + r.val % 2048, by omega⟩ j) (cw (ix3 (0 : Fin 1) 2 j))
      (padRow x w ⟨r.val / 2048, by omega⟩ ⟨3 + r.val % 2048, by omega⟩ j) (cw (ix3 (0 : Fin 1) 3 j)) := by
  rw [active_at, summed_at, stacked_at, stacked_at, stacked_at, stacked_at]
  rfl

/-- What a point stores is the reference's entry at the place it stores it. -/
theorem point (c : Dev nD) (t : Fin cfg0.N) (y : S1024x1024.Idx) (r : Fin 8192) (j : Fin 6144) (hr : r.val = t.val % 8 * 1024 + (y 0).val)
    (hj : j.val = t.val / 8 * 1024 + (y 1).val) :
    (outsAt0 m c t.val t.isLt).1 y = (active (summed (stacked (argX m c) (argW m c)) (argCw m c) (argCb m c)) : FVec Ideal S8192x6144 .f32) (ix2 r j) := by
  have hy : (y 0).val < 1024 := (y 0).isLt
  rw [entry_act]
  by_cases h1 : t.val % 2 = 0
  · refine (outEven m c t h1 y).trans (act_congr (bias_blk m c t _ j hj) ?_ (taps_at m c t 0 _ j hj) ?_ (taps_at m c t 1 _ j hj) ?_ (taps_at m c t 2 _ j hj) ?_ (taps_at m c t 3 _ j hj))
    all_goals refine keptEven m c t h1 _ y _ _ j (by decide) ?_ ?_ hj
    all_goals show _ = _
    all_goals simp only [Fin.val_ofNat]
    all_goals omega
  · have hn : t.val - 1 < cfg0.N := lt_of_le_of_lt (Nat.sub_le _ _) t.isLt
    refine (outOdd m c t h1 y hn).trans (act_congr (bias_blk m c t _ j hj) ?_ (taps_at m c t 0 _ j hj) ?_ (taps_at m c t 1 _ j hj) ?_ (taps_at m c t 2 _ j hj) ?_ (taps_at m c t 3 _ j hj))
    all_goals refine keptOdd m c t h1 hn _ y _ _ j (by decide) ?_ ?_ hj
    all_goals show _ = _
    all_goals simp only [Fin.val_ofNat]
    all_goals omega

/-- Each sequence's last eight rows. -/
def lastRows (x : FVec Ideal S8192x2048 .bf16) (w : FVec Ideal S1x2048x23616 .f32) : FVec Ideal S4x8x6144 .f32 :=
  fun z => xbc x w ⟨(z 0).val * 2048 + (2040 + (z 1).val), by have h0 : (z 0).val < 4 := (z 0).isLt; have h1 : (z 1).val < 8 := (z 1).isLt; omega⟩ (z 2)

/-- An entry of the last rows. -/
theorem tail_at (x : FVec Ideal S8192x2048 .bf16) (w : FVec Ideal S1x2048x23616 .f32) (s : Fin 4) (i : Fin 8) (j : Fin 6144) :
    lastRows x w (ix3 s i j) = xbc x w ⟨s.val * 2048 + (2040 + i.val), by omega⟩ j := rfl

/-- The last three of these rows are the last three of the rows below three zero rows. -/
theorem state (x : FVec Ideal S8192x2048 .bf16) (w : FVec Ideal S1x2048x23616 .f32) :
    extractStridedSlice S4x3x6144 ![0, 5, 0] (lastRows x w) slices_S4x8x6144_S4x3x6144_0_5_0
      = extractStridedSlice S4x3x6144 ![0, 2048, 0] (stacked x w) Cert.ConvRefIdeal.Gen.slices_S4x2051x6144_S4x3x6144_0_2048_0 := by
  funext z
  obtain ⟨s, i, j, rfl⟩ : ∃ (s : Fin 4) (i : Fin 3) (j : Fin 6144), z = ix3 s i j := ⟨z 0, z 1, z 2, eq_ix3 z⟩
  have e1 : extractStridedSlice S4x3x6144 ![0, 5, 0] (lastRows x w) slices_S4x8x6144_S4x3x6144_0_5_0 (ix3 s i j) = lastRows x w (ix3 s ⟨5 + i.val, by omega⟩ j) := by pointwise
  have e2 : extractStridedSlice S4x3x6144 ![0, 2048, 0] (stacked x w) Cert.ConvRefIdeal.Gen.slices_S4x2051x6144_S4x3x6144_0_2048_0 (ix3 s i j)
      = stacked x w (ix3 s ⟨2048 + i.val, by omega⟩ j) := by
    generalize stacked x w = C
    pointwise
  rw [e1, e2, stacked_at, tail_at, padRow_row _ _ _ _ _ (show ¬2048 + i.val < 3 by omega)]
  refine congrArg (fun r => xbc x w r j) (Fin.ext ?_)
  show s.val * 2048 + (2040 + (5 + i.val)) = s.val * 2048 + (2048 + i.val - 3)
  omega

/-- The first result array after the run. -/
theorem final (c : Dev nD) : (dats m 0 c).arrAt 4 (cfgs 0).N = (active (summed (stacked (argX m c) (argW m c)) (argCw m c) (argCb m c)) : FVec Ideal S8192x6144 .f32) := by
  refine (dats m 0 c).arrAt_eq_of_covers 4 _ (by decide +kernel) fun t _ y => ?_
  blk_simp
  rw [after0_4]
  have ht : t.val < 48 := t.isLt
  have h0 : (y 0).val < 1024 := (y 0).isLt
  have h1 : (y 1).val < 1024 := (y 1).isLt
  refine (point m c t y ⟨t.val % 8 * 1024 + (y 0).val, by omega⟩ ⟨t.val / 8 * 1024 + (y 1).val, by omega⟩ rfl rfl).trans (congrArg (active _ : FVec Ideal S8192x6144 .f32) ?_)
  blk_ext [places t]

/-- The second result array after the run. -/
theorem finalT (c : Dev nD) : (dats m 0 c).arrAt 5 (cfgs 0).N = lastRows (argX m c) (argW m c) := by
  refine (dats m 0 c).arrAt_eq_of_covers 5 _ (by decide +kernel) fun t hf y => ?_
  have h1 : ¬t.val % 2 = 0 := by
    have := (flush0_5 t).mp hf
    omega
  blk_simp
  rw [after0_5]
  have ht : t.val < 48 := t.isLt
  have h0 : (y 0).val < 1 := (y 0).isLt
  have h2 : (y 1).val < 8 := (y 1).isLt
  have h3 : (y 2).val < 1024 := (y 2).isLt
  refine (tailOdd m c t h1 y (ix2 ⟨1016 + (y 1).val, by omega⟩ (y 2)) rfl rfl).trans ?_
  refine (prod_at m c t _ ⟨t.val % 8 / 2 * 2048 + (2040 + (y 1).val), by omega⟩ ⟨t.val / 8 * 1024 + (y 2).val, by omega⟩ ?_ rfl).trans ?_
  · show t.val % 8 / 2 * 2048 + (2040 + (y 1).val) = t.val % 8 * 1024 + (1016 + (y 1).val)
    omega
  refine (tail_at _ _ ⟨t.val % 8 / 2, by omega⟩ (y 1) ⟨t.val / 8 * 1024 + (y 2).val, by omega⟩).symm.trans (congrArg (lastRows (argX m c) (argW m c)) ?_)
  blk_ext [places t]

/-- The second result after the operation that follows the region. -/
theorem sliced (c : Dev nD) : Pipeline.afterTail₀ cfgs (dats m) 0 (V0 m) [hostOps1] c main_v6
    = extractStridedSlice S4x3x6144 ![0, 2048, 0] (stacked (argX m c) (argW m c)) Cert.ConvRefIdeal.Gen.slices_S4x2051x6144_S4x3x6144_0_2048_0 := by
  refine Eq.trans ?_ (state (argX m c) (argW m c))
  rw [← finalT m c]
  show StableHlo.after hostOps1 _ _ = _
  after_results_simp
  exact congrArg (extractStridedSlice S4x3x6144 ![0, 5, 0] · slices_S4x8x6144_S4x3x6144_0_5_0)
    (Pipeline.withArrays_arr spec0 (by decide) c (V0 m c) (fun w => (dats m 0 c).arrAt w (cfgs 0).N) 5)

/-- The claim. -/
theorem algebraic : Cert.algebraic_ConvIdeal_ConvRefIdeal := by
  pair_intro
  · run_from Cert.ConvIdeal.Gen.run_main m g
    · exact W_main_arg1 m (dats m) c
    · exact W_main_arg2 m (dats m) c
    · exact W_main_arg3 m (dats m) c
  · refine (θ_run _ _ _).mono (fun r h c => ⟨(h c).1.trans ?_, (h c).2.1.trans ?_, (h c).2.2⟩) (Cert.ConvRefIdeal.Value.run m' g')
    · refine (Cert.ConvRefIdeal.Own.ref0 m' c).trans ?_
      rw [(hagree c).1, (hagree c).2.1, (hagree c).2.2.1, (hagree c).2.2.2]
      exact (final m c).symm
    · rw [(hagree c).1, (hagree c).2.1]
      exact (sliced m c).symm

end Cert.ConvIdeal.Own

end
-- ==== Proof.Heads.Store.lean ====
module

public import Idealize.ShloMosaic.Lib.Pointwise
public import Idealize.ShloMosaic.Lib.Pipeline.Value
public import Idealize.ShloMosaic.Lib.VecWindow

@[expose] public section

set_option maxRecDepth 16384

noncomputable section

/-! # A matrix stored head by head

A kernel stores a matrix of 1024 columns as eight heads of 128 columns: head `h` goes to every eighth row, from row `h` on,
of the output block seen as rows of 128. -/

namespace Cert.Heads

open Idealize.ShloMosaic Idealize.ShloMosaic.Tactic
open Idealize.SL
open Idealize.SL.BI (sProp)
open scoped Idealize.SL.BI
open Idealize.SL.BI.BIBase Idealize.SL.BI.Laws Idealize.SL.ProofMode
open Idealize.SL.RA

/-- A block of rows, heads and lanes; its rows; the matrix stored in it; one head of the matrix. -/
abbrev Block (R : ℕ) : Shape := ⟨3, ![R, 8, 128]⟩
abbrev Rows (N : ℕ) : Shape := ⟨2, ![N, 128]⟩
abbrev Mat (R : ℕ) : Shape := ⟨2, ![R, 1024]⟩

/-- The matrix by rows, heads and lanes. -/
def split {α : Type} {R : ℕ} (Z : (Mat R).Idx → α) : (Block R).Idx → α :=
  fun y => Z (ix2 (y 0) ⟨128 * (y 1).val + (y 2).val, by
    have h1 : (y 1).val < 8 := (y 1).isLt
    have h2 : (y 2).val < 128 := (y 2).isLt
    omega⟩)

/-- A block seen as its rows. -/
def flatten {α : Type} {R N : ℕ} (h : (Rows N).numel = (Block R).numel) (x : (Block R).Idx → α) : (Rows N).Idx → α :=
  fun z => x (Shape.reshapeEquiv h z)

section owned

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- To own a block is to own its rows. -/
theorem owns_rows (c : Thread nD τ) {sp : Space} {e : EltTy} {R N : ℕ} (a : Memref sig c.2.kind sp (Block R) e) (q : PosShare TreeShare)
    (h : (Rows N).numel = (Block R).numel) (hr : 2 ≤ (Block R).rank ∧ 2 ≤ (Rows N).rank) (hc : a.view.Contiguous) (X : (Block R).Idx → Val e) :
    (owns c a q X : sProp 𝕄) = owns c (a.reshape (Rows N) h hr hc) q (flatten h X) := by
  unfold owns
  have hs : (a.reshape (Rows N) h hr hc).view.set = a.view.set := View.set_reshape _ _
  rw [hs]
  refine congrArg (fun P : a.view.ty.Contents Val → Prop => iprop(∃ f, ⌜P f⌝ ∗ (a.view.loc c ↦[a.view.set]{q} f))) (funext fun f => propext ⟨fun hX => ?_, fun hX => ?_⟩)
  · rw [← hX]; rfl
  · funext y
    have := congrFun hX ((Shape.reshapeEquiv h).symm y)
    have e1 : (flatten h X) ((Shape.reshapeEquiv h).symm y) = X y := congrArg X ((Shape.reshapeEquiv h).apply_symm_apply y)
    rw [e1] at this
    rw [← this]
    exact congrArg (a.view.read Val f) ((Shape.reshapeEquiv h).apply_symm_apply y).symm

end owned

/-- Every eighth row from row `h` on. -/
theorem rowInb {R N : ℕ} (hN : N = 8 * R) (h : Fin 8) :
    ∀ a : Fin 2, (![R, 128] : Fin 2 → ℕ) a = 0 ∨ (![h.val, 0] : Fin 2 → ℕ) a + (![8, 1] : Fin 2 → ℕ) a * ((![R, 128] : Fin 2 → ℕ) a - 1) < (![N, 128] : Fin 2 → ℕ) a := by
  intro a
  have := h.isLt
  match a with
  | ⟨0, _⟩ => show R = 0 ∨ h.val + 8 * (R - 1) < N; omega
  | ⟨1, _⟩ => show 128 = 0 ∨ 0 + 1 * (128 - 1) < 128; decide

theorem stridePos : ∀ a, 0 < (![8, 1] : Fin 2 → Nat) a := by decide

abbrev rowsOf {R N : ℕ} (hN : N = 8 * R) (h : Fin 8) : LoadRect (Rows N) := ⟨![h.val, 0], (⟨2, ![R, 128]⟩ : Shape).size, ![8, 1], rowInb hN h⟩

theorem colSlices (R : ℕ) (h : Fin 8) : (Mat R).Slices ![0, 128 * h.val] ⟨2, ![R, 128]⟩ := by
  refine ⟨rfl, fun a => ?_⟩
  have := h.isLt
  match a with
  | ⟨0, _⟩ => show 0 + R ≤ R; omega
  | ⟨1, _⟩ => show 128 * h.val + 128 ≤ 1024; omega

/-- The columns of one head. -/
def cols {α : Type} {R : ℕ} (Z : (Mat R).Idx → α) (h : Fin 8) : (⟨2, ![R, 128]⟩ : Shape).Idx → α :=
  extractStridedSlice ⟨2, ![R, 128]⟩ ![0, 128 * h.val] Z (colSlices R h)

/-- The stores, the last first. -/
def pieces {Val : EltTy → Type} {e : EltTy} {R N : ℕ} (hN : N = 8 * R) (Z : (Mat R).Idx → Val e) : List (View.Piece Val (Rows N) e) :=
  [7, 6, 5, 4, 3, 2, 1, 0].map fun h : Fin 8 => ⟨⟨rowsOf hN h, stridePos⟩, cols Z h⟩

/-- The heads' rows make up the block. -/
theorem pieces_cover {Val : EltTy → Type} {e : EltTy} {R N : ℕ} (hN : N = 8 * R) (Z : (Mat R).Idx → Val e) (y : (Rows N).Idx) :
    ∃ p ∈ pieces hN Z, y ∈ p.1.set := by
  have h0 : (y 0).val < N := (y 0).isLt
  have h1 : (y 1).val < 128 := (y 1).isLt
  refine ⟨⟨⟨rowsOf hN ⟨(y 0).val % 8, Nat.mod_lt _ (by decide)⟩, stridePos⟩, cols Z _⟩, List.mem_map.mpr ⟨_, ?_, rfl⟩, ?_⟩
  · generalize (⟨(y 0).val % 8, Nat.mod_lt _ (by decide)⟩ : Fin 8) = h
    revert h; decide
  · rw [LoadRect.mem_set]
    intro a
    match a with
    | ⟨0, _⟩ => exact ⟨(y 0).val / 8, show (y 0).val / 8 < R by omega, show (y 0).val = (y 0).val % 8 + 8 * ((y 0).val / 8) by omega⟩
    | ⟨1, _⟩ => exact ⟨(y 1).val, h1, show (y 1).val = 0 + 1 * (y 1).val by omega⟩

/-- The matrix laid out in the block's rows: row `8 i + h` is head `h` of row `i`. -/
def laid {α : Type} {R N : ℕ} (hN : N = 8 * R) (Z : (Mat R).Idx → α) : (Rows N).Idx → α :=
  fun y => Z (ix2 ⟨(y 0).val / 8, by have : (y 0).val < N := (y 0).isLt; omega⟩ ⟨128 * ((y 0).val % 8) + (y 1).val, by
    have h1 : (y 1).val < 128 := (y 1).isLt
    omega⟩)

/-- What the rows read after the stores. -/
theorem read_pieces {sig : RefSig} {κ : Kind} {sp : Space} {Val : EltTy → Type} [∀ e, Nonempty (Val e)] {e : EltTy} {R N : ℕ} (hN : N = 8 * R)
    (Z : (Mat R).Idx → Val e) (v : View sig κ sp (Rows N) e) (f : v.ty.Contents Val) :
    v.read Val (v.writes Val f (pieces hN Z)) = laid hN Z := by
  rw [View.read_writes_eq_canon v f (pieces hN Z) (pieces_cover hN Z)]
  funext y
  refine View.canon_apply_of_pieces (laid hN Z) (pieces hN Z) ?_ y (pieces_cover hN Z y)
  intro p hp x
  obtain ⟨h, -, rfl⟩ := List.mem_map.mp hp
  have hx0 : (x 0).val < R := (x 0).isLt
  have hx1 : (x 1).val < 128 := (x 1).isLt
  have hh := h.isLt
  show Z _ = Z _
  refine congrArg Z (funext fun a => Fin.ext ?_)
  match a with
  | ⟨0, _⟩ => show 0 + (x 0).val = (h.val + 8 * (x 0).val) / 8; omega
  | ⟨1, _⟩ => show 128 * h.val + (x 1).val = 128 * ((h.val + 8 * (x 0).val) % 8) + (0 + 1 * (x 1).val); omega

/-- The rows of a split matrix, once row `8 i + h` is known to be head `h` of row `i`. -/
theorem flatten_split {α : Type} {R N : ℕ} (hN : N = 8 * R) (h : (Rows N).numel = (Block R).numel) (Z : (Mat R).Idx → α)
    (hr : ∀ (i : Fin R) (k : Fin 8) (e : Fin 128), Shape.reshapeEquiv h (ix2 ⟨i.val * 8 + k.val, by omega⟩ e : (Rows N).Idx) = (ix3 i k e : (Block R).Idx)) :
    flatten h (split Z) = laid hN Z := by
  funext y
  have h0 : (y 0).val < N := (y 0).isLt
  have e0 : y = ix2 ⟨(y 0).val / 8 * 8 + (y 0).val % 8, by omega⟩ (y 1) := by
    funext a
    match a with
    | ⟨0, _⟩ => exact Fin.ext (by show (y 0).val = (y 0).val / 8 * 8 + (y 0).val % 8; omega)
    | ⟨1, _⟩ => rfl
  have e1 : Shape.reshapeEquiv h y = ix3 ⟨(y 0).val / 8, by omega⟩ ⟨(y 0).val % 8, by omega⟩ (y 1) := by
    refine (congrArg _ e0).trans ?_
    exact hr ⟨(y 0).val / 8, by omega⟩ ⟨(y 0).val % 8, by omega⟩ (y 1)
  unfold flatten
  rw [e1]
  rfl

/-- The block of the prompt's rows, -/
theorem flatten_prompt {α : Type} (h : (Rows 8192).numel = (Block 1024).numel) (Z : (Mat 1024).Idx → α) :
    flatten h (split Z) = laid (R := 1024) (N := 8192) rfl Z :=
  flatten_split rfl h Z fun i k e => by pointwise

/-- and of the sample's. -/
theorem flatten_sample {α : Type} (h : (Rows 4096).numel = (Block 512).numel) (Z : (Mat 512).Idx → α) :
    flatten h (split Z) = laid (R := 512) (N := 4096) rfl Z :=
  flatten_split rfl h Z fun i k e => by pointwise

end Cert.Heads

end
-- ==== Proof.InQ.RunIdeal.lean ====
module

public import proofs.«01_k».proof.Proof.Gen.InQIdeal.Frame
public import proofs.«01_k».proof.Proof.Gen.InQIdeal.Skeleton
public import proofs.«01_k».proof.Proof.Heads.Store
public import Idealize.ShloMosaic.Lib.VecWindow

@[expose] public section

set_option maxRecDepth 16384

noncomputable section

namespace Cert.InQIdeal.Own

open Cert.InQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body -/

/-- A column of blocks begins: the weights are cast. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 9 = 0 :=
  (by decide +kernel : ∀ t : Fin grid0.N, first (grid0.coords t) ↔ t.val % 9 = 0)

/-- The point is one of the prompt's rows. -/
theorem prompt_iff : ∀ t : Fin cfg0.N, k0_cond2 (grid0.coords t) = 1#1 ↔ t.val % 9 < 8 :=
  (by decide +kernel : ∀ t : Fin grid0.N, k0_cond2 (grid0.coords t) = 1#1 ↔ t.val % 9 < 8)

/-- The point is the sample's. -/
theorem sample_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-! ## The body in its three cases, under any body table -/

section
variable (D : Defs nD τ sig (Elt F) Λ₀) (c : Dev nD) (i : grid0.Coords)
  (arg2 : Memref sig .tc .vmem S1024x2048 .bf16) (harg2 : arg2.IsWhole) (arg3 : Memref sig .tc .vmem S1024x2048 .f32) (harg3 : arg3.IsWhole)
  (arg4 : Memref sig .tc .vmem S512x2048 .bf16) (harg4 : arg4.IsWhole) (arg5 : Memref sig .tc .vmem S1024x8x128 .f32) (harg5 : arg5.IsWhole)
  (arg6 : Memref sig .tc .vmem S512x8x128 .f32) (harg6 : arg6.IsWhole) (arg7 : Memref sig .tc .vmem S1024x2048 .bf16) (harg7 : arg7.IsWhole)

set_option maxHeartbeats 1000000 in
/-- At the first rows of a column the body casts the weights into the scratch and multiplies by them. -/
theorem run_first (h0 : first i) (h1 : k0_cond2 i = 1#1) (h2 : ¬k0_cond3 i = 1#1)
    (x0 : Vec F S1024x2048 .bf16) (x1 : Vec F S1024x2048 .f32) (x2 : Vec F S512x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 (k0_pay1 x1))) ∗ owns (c : Thread nD τ) arg6 fullShare x4
          ∗ owns (c : Thread nD τ) arg7 fullShare (k0_pay1 x1)) -∗ K ⟨⟩))
      ⊢ wp frame (wpE D Variants.none c none) E (cc0_in_q i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_q_eq_skeleton]; unfold cc0_in_q_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v10 run_first.sl.HS_1
    rw [View.readCov_full, View.readAt_full, View.readAt_full, harg2.read_unread, harg3.read_unread]
    have key := Heads.read_pieces (Val := Elt F) (R := 1024) (N := 8192) rfl (k0_pay2 x0 (k0_pay1 x1)) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; swap; · iexact HS
  ipureintro
  unfold run_first.sl.HS_1
  rw [View.read_writes_full, View.readAt_full, harg3.read_unread]

set_option maxHeartbeats 1000000 in
/-- At the prompt's other rows the body multiplies by the weights in the scratch. -/
theorem run_prompt (h0 : ¬first i) (h1 : k0_cond2 i = 1#1) (h2 : ¬k0_cond3 i = 1#1)
    (x0 : Vec F S1024x2048 .bf16) (x1 : Vec F S1024x2048 .f32) (x2 : Vec F S512x2048 .bf16) (xs : Vec F S1024x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 xs)) ∗ owns (c : Thread nD τ) arg6 fullShare x4
          ∗ owns (c : Thread nD τ) arg7 fullShare xs) -∗ K ⟨⟩))
      ⊢ wp frame (wpE D Variants.none c none) E (cc0_in_q i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_q_eq_skeleton]; unfold cc0_in_q_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.readAt_full, View.readAt_full, harg2.read_unread, harg7.read_unread]
    have key := Heads.read_pieces (Val := Elt F) (R := 1024) (N := 8192) rfl (k0_pay2 x0 xs) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; · ipureintro; exact harg7.read_unread _
  iexact HS

set_option maxHeartbeats 1000000 in
/-- At the sample's rows the body multiplies the sample's block by the weights in the scratch. -/
theorem run_sample (h0 : ¬first i) (h1 : ¬k0_cond2 i = 1#1) (h2 : k0_cond3 i = 1#1)
    (x0 : Vec F S1024x2048 .bf16) (x1 : Vec F S1024x2048 .f32) (x2 : Vec F S512x2048 .bf16) (xs : Vec F S1024x2048 .bf16) (x3 : Vec F S1024x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (Heads.split (k0_pay11 x2 xs))
          ∗ owns (c : Thread nD τ) arg7 fullShare xs) -∗ K ⟨⟩))
      ⊢ wp frame (wpE D Variants.none c none) E (cc0_in_q i arg2 harg2 arg3 harg3 arg4 harg4 arg5 harg5 arg6 harg6 arg7 harg7) K := by
  simp only [Heads.owns_rows (c : Thread nD τ) arg6 fullShare reshapes_S512x8x128_S4096x128.1 reshapes_S512x8x128_S4096x128.2 harg6.contiguous, Heads.flatten_sample]
  simp only [cc0_in_q_eq_skeleton]; unfold cc0_in_q_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.readAt_full, View.readAt_full, harg4.read_unread, harg7.read_unread]
    have key := Heads.read_pieces (Val := Elt F) (R := 512) (N := 4096) rfl (k0_pay11 x2 xs) (arg6.reshape S4096x128 reshapes_S512x8x128_S4096x128.1 reshapes_S512x8x128_S4096x128.2 harg6.contiguous).view
    exact key f4
  iexists _; isplitr; · ipureintro; exact harg7.read_unread _
  iexact HS

end

end Cert.InQIdeal.Own

end
-- ==== Proof.InQ.FrameIdeal.lean ====
module

public import proofs.«01_k».proof.Proof.InQ.RunIdeal
public import Idealize.ShloMosaic.Lib.Claim
public import Idealize.ShloMosaic.Lib.Pipeline.ValueKit

@[expose] public section

set_option maxRecDepth 16384

noncomputable section

namespace Cert.InQIdeal.Own

open Cert.InQIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which windows' blocks the points share -/

/-- Inside a column of blocks the weights' block stays. -/
theorem index1 : ∀ t u : Fin cfg0.N, t.val / 9 = u.val / 9 → win0_1.index t = win0_1.index u :=
  (by decide +kernel : ∀ t u : Fin grid0.N, t.val / 9 = u.val / 9 → win0_1.index t = win0_1.index u)

/-- The sample's point has the prompt block of the point before it. -/
theorem index0 : ∀ t u : Fin cfg0.N, t.val % 9 = 8 → u.val + 1 = t.val → win0_0.index t = win0_0.index u :=
  (by decide +kernel : ∀ t u : Fin grid0.N, t.val % 9 = 8 → u.val + 1 = t.val → win0_0.index t = win0_0.index u)

theorem iblk1 (c : Dev nD) (t u : Fin cfg0.N) (h : t.val / 9 = u.val / 9) : iblk m c 1 t = iblk m c 1 u := by
  funext y
  unfold iblk
  refine congrArg (V m c main_v1) (funext fun a => Fin.ext ?_)
  refine (win0_1.rect_emb_val_off t y a).trans (Eq.trans ?_ (win0_1.rect_emb_val_off u y a).symm)
  rw [index1 t u h]

theorem iblk0 (c : Dev nD) (t u : Fin cfg0.N) (h : t.val % 9 = 8) (hu : u.val + 1 = t.val) : iblk m c 0 t = iblk m c 0 u := by
  funext y
  unfold iblk
  refine congrArg (V m c main_arg0) (funext fun a => Fin.ext ?_)
  refine (win0_0.rect_emb_val_off t y a).trans (Eq.trans ?_ (win0_0.rect_emb_val_off u y a).symm)
  rw [index0 t u h hu]

/-! ## Where the outputs are stored and written back -/

theorem live3 : ∀ t : Fin cfg0.N, t.val % 9 < 8 → cfg0.idle 3 (grid0.coords t) = false :=
  (by decide +kernel : ∀ t : Fin grid0.N, t.val % 9 < 8 → idle0 3 (grid0.coords t) = false)
theorem idle3 : ∀ t : Fin cfg0.N, t.val % 9 = 8 → cfg0.idle 3 (grid0.coords t) = true :=
  (by decide +kernel : ∀ t : Fin grid0.N, t.val % 9 = 8 → idle0 3 (grid0.coords t) = true)
theorem live4 : ∀ t : Fin cfg0.N, t.val % 9 = 8 → cfg0.idle 4 (grid0.coords t) = false :=
  (by decide +kernel : ∀ t : Fin grid0.N, t.val % 9 = 8 → idle0 4 (grid0.coords t) = false)
theorem idle4 : ∀ t : Fin cfg0.N, t.val % 9 < 8 → cfg0.idle 4 (grid0.coords t) = true :=
  (by decide +kernel : ∀ t : Fin grid0.N, t.val % 9 < 8 → idle0 4 (grid0.coords t) = true)
theorem flush3 : ∀ t : Fin cfg0.N, (cfg0.win 3).flush t = true ↔ ¬t.val % 9 = 7 :=
  (by decide +kernel : ∀ t : Fin grid0.N, win0_3.flush t = true ↔ ¬t.val % 9 = 7)

/-! ## The pipeline's proof data -/

/-- The scratch between the points: what the last point left in it. -/
def Phi (c : Dev nD) : (n : ℕ) → n ≤ cfg0.N → sProp 𝕄
  | 0, _ => Pipeline.ΦA spec0 c
  | n + 1, hn => iprop(owns (c : Thread nD τ) (Memref.whole cc0_scratch0) fullShare (k0_pay1 (iblk m c 1 ⟨n, hn⟩)) ∗ (∃ r, prngReg c r))

theorem Phi_start (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (k0_pay1 (iblk m c 1 ⟨n - 1, by omega⟩)) ∗ (∃ r, prngReg c r)) := by
  cases n with
  | zero => exact absurd rfl hz
  | succ n => rfl

/-- What the prompt's output block holds after each point, -/
def rows (c : Dev nD) (t : Fin cfg0.N) : Vec F S1024x8x128 .f32 := Heads.split (k0_pay2 (iblk m c 0 t) (k0_pay1 (iblk m c 1 t)))

/-- and what the sample's holds after the points that store it. -/
def tail (c : Dev nD) (t : Fin cfg0.N) : Vec F S512x8x128 .f32 := Heads.split (k0_pay11 (iblk m c 2 t) (k0_pay1 (iblk m c 1 t)))

/-- The proof data: the inputs' blocks stay, the outputs' are the products, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => tail m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the sample's point the prompt's output block is still the one the point before stored. -/
theorem before3 (c : Dev nD) (t : Fin cfg0.N) (h : t.val % 9 = 8) (d) : (dats m 0 c).before 3 t d = rows m c t := by
  rw [(dats m 0 c).before_of_pos 3 t (by omega) rfl d,
    if_neg (fun hf => (flush3 ⟨t.val - 1, Nat.lt_of_le_of_lt (Nat.sub_le _ _) t.isLt⟩).mp hf (by show (t.val - 1) % 9 = 7; omega))]
  unfold Dat.left
  rw [live3 ⟨t.val - 1, Nat.lt_of_le_of_lt (Nat.sub_le _ _) t.isLt⟩ (by show (t.val - 1) % 9 < 8; omega)]
  show (dats m 0 c).kept 3 _ d = _
  unfold Dat.kept
  rw [Pipeline.fill_of_clip_none 3 _ (fun _ => rfl) d _, (cfg0.win 3).fill_cut, after3]
  unfold rows
  rw [iblk0 m c t ⟨t.val - 1, Nat.lt_of_le_of_lt (Nat.sub_le _ _) t.isLt⟩ h (by show t.val - 1 + 1 = t.val; omega),
    iblk1 m c t ⟨t.val - 1, Nat.lt_of_le_of_lt (Nat.sub_le _ _) t.isLt⟩ (by show t.val / 9 = (t.val - 1) / 9; omega)]

/-! ## What the body hands back of the outputs -/

theorem leaves3 (c : Dev nD) (t : Fin cfg0.N) :
    (dats m 0 c).leavesExact 3 t = owns (c : Thread nD τ) (st0_3 t) fullShare (rows m c t) := by
  by_cases h : t.val % 9 = 8
  · unfold Dat.leavesExact; rw [idle3 t h, (flush3 t).mpr (by omega), after3]
  · unfold Dat.leavesExact; rw [live3 t (by omega), after3]

theorem leaves4_live (c : Dev nD) (t : Fin cfg0.N) (h : t.val % 9 = 8) :
    (dats m 0 c).leavesExact 4 t = owns (c : Thread nD τ) (st0_4 t) fullShare (tail m c t) := by
  unfold Dat.leavesExact; rw [live4 t h, after4]

theorem leaves4_idle (c : Dev nD) (t : Fin cfg0.N) (h : t.val % 9 < 8) :
    (dats m 0 c).leavesExact 4 t = iprop(∃ d, owns (c : Thread nD τ) (st0_4 t) fullShare ((dats m 0 c).before 4 t d)) :=
  (dats m 0 c).leavesExact_idle 4 t (idle4 t h) (Bool.eq_false_iff.mpr fun hf => by have := (flush0_4 t).mp hf; omega)

/-! ## The body at every point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The scratch before a point that does not begin a column: the point's own weights, cast. -/
theorem Phi_rest (c : Dev nD) (t : Fin cfg0.N) (h : ¬t.val % 9 = 0) :
    Phi m c t.val (Nat.le_of_lt t.isLt) = iprop(owns (c : Thread nD τ) (Memref.whole cc0_scratch0) fullShare (k0_pay1 (iblk m c 1 t)) ∗ (∃ r, prngReg c r)) := by
  rw [Phi_pos m c _ _ (by omega), iblk1 m c ⟨t.val - 1, Nat.lt_of_le_of_lt (Nat.sub_le _ _) t.isLt⟩ t (by show (t.val - 1) / 9 = t.val / 9; omega)]

/-- The scratch before any point, its contents forgotten. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz; show Pipeline.ΦA spec0 c ⊢ _; rw [Phi_start]
  · rw [Phi_pos m c n h hz]
    iintro ⟨HS, Hg⟩
    isplitl [HS]
    · iexists _; iexact HS
    iexact Hg

set_option maxHeartbeats 3200000 in
/-- The body's triple: the first, the other prompt rows, the sample's rows. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, leaves3]
  rw [show (dats m 0 c).Φ t.succ = iprop(owns (c : Thread nD τ) (Memref.whole cc0_scratch0) fullShare (k0_pay1 (iblk m c 1 t)) ∗ (∃ r, prngReg c r)) from rfl]
  rw [Phi_castSucc m c t]
  unfold rows
  by_cases h8 : t.val % 9 = 8
  · rw [leaves4_live m c t h8, Phi_rest m c t (by omega)]
    simp only [before3 m c t h8]
    unfold rows tail
    iintro ⟨⟨HS, Hg⟩, Ho, ⟨%d0, H0⟩, ⟨%d1, H1⟩, ⟨%d2, H2⟩, ⟨%d3, H3⟩, ⟨%d4, H4⟩⟩
    iapply (run_sample (defs₀ (F := F)) c (grid0.coords t) _ _ _ _ _ _ _ _ _ _ _ _ (fun h => by have := (first_iff t).mp h; omega)
      (fun h => by have := (prompt_iff t).mp h; omega) ((sample_iff t).mpr h8) (iblk m c 0 t) (iblk m c 1 t) (iblk m c 2 t) (k0_pay1 (iblk m c 1 t))
      (Heads.split (k0_pay2 (iblk m c 0 t) (k0_pay1 (iblk m c 1 t)))) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have h7 : t.val % 9 < 8 := by omega
    rw [leaves4_idle m c t h7]
    by_cases h0 : t.val % 9 = 0
    · refine (sep_mono (Phi_any m c _ _) .rfl).trans ?_
      iintro ⟨⟨HS, Hg⟩, Ho, ⟨%d0, H0⟩, ⟨%d1, H1⟩, ⟨%d2, H2⟩, ⟨%d3, H3⟩, ⟨%d4, H4⟩⟩
      iapply (run_first (defs₀ (F := F)) c (grid0.coords t) _ _ _ _ _ _ _ _ _ _ _ _ ((first_iff t).mpr h0)
        ((prompt_iff t).mpr h7) (fun h => h8 ((sample_iff t).mp h)) (iblk m c 0 t) (iblk m c 1 t) (iblk m c 2 t)
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi_rest m c t h0]
      iintro ⟨⟨HS, Hg⟩, Ho, ⟨%d0, H0⟩, ⟨%d1, H1⟩, ⟨%d2, H2⟩, ⟨%d3, H3⟩, ⟨%d4, H4⟩⟩
      iapply (run_prompt (defs₀ (F := F)) c (grid0.coords t) _ _ _ _ _ _ _ _ _ _ _ _ (fun h => h0 ((first_iff t).mp h))
        ((prompt_iff t).mpr h7) (fun h => h8 ((sample_iff t).mp h)) (iblk m c 0 t) (iblk m c 1 t) (iblk m c 2 t) (k0_pay1 (iblk m c 1 t))
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body at that point. -/
theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [Phi_start, show (dats m 0 c).Φ (Fin.last cfg0.N) = Phi m c cfg0.N (Nat.le_refl _) from rfl]
  exact Phi_any m c _ _

/-! ## The run -/

set_option backward.isDefEq.respectTransparency.types false in
/-- Every run ends with the arrays the proof data give and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.InQIdeal.Own

end
-- ==== Proof.InQ.Frame.lean ====
module

public import proofs.«01_k».proof.Proof.InQ.FrameIdeal
public import proofs.«01_k».proof.Proof.Gen.InQ

@[expose] public section

set_option maxRecDepth 16384

noncomputable section

namespace Cert.InQ.Own

open Cert.InQ Cert.InQ.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The body table is the one of the program read at the ideal numbers. -/
theorem bodies : defs₀ (F := F) = Cert.InQIdeal.defs₀ (F := F) := by
  unfold defs₀ Cert.InQIdeal.defs₀
  refine congrArg (Defs.onTc (nD := nD) (τ := τ) (sig := sig) (Val := Elt F) (Λ := Λ₀)) (funext fun l => funext fun a => ?_)
  match l, a with
  | 0, (t, s) => rfl
  | ⟨_ + 1, h⟩, _ => exact absurd h (Nat.not_lt.2 (Nat.le_add_left _ _))

/-- The frame: the program is operation for operation the one read at the ideal numbers, whose frame is proved at every
    reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  unfold defs
  rw [bodies]
  exact Cert.InQIdeal.Own.frame (F := F) m ρ

end Cert.InQ.Own

end
-- ==== Proof.InQ.Value.lean ====
module

public import proofs.«01_k».proof.Proof.InQ.FrameIdeal
public import proofs.«01_k».proof.Proof.Gen.InQRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.InQIdeal.Own

open Idealize.ShloMosaic Idealize.ShloMosaic.TcCoe Idealize.ShloMosaic.Tactic Idealize.SL.Sem
open Idealize.ShloMosaic.Pipeline (Dat)
open Cert.InQIdeal Cert.InQIdeal.Gen

variable (m : (ℓ : Loc nD τ sig) → Buf (Elt Ideal) ℓ)

/-- The queries' columns of the weights, as the reference takes them. -/
abbrev part (w : FVec Ideal S1x2048x23616 .f32) : FVec Ideal Cert.InQRefIdeal.S2048x3072 .f32 :=
  extractStridedSlice Cert.InQRefIdeal.S2048x3072 ![0, 10304] (shapeCast Cert.InQRefIdeal.S2048x23616 w Cert.InQRefIdeal.Gen.shapeCasts_S1x2048x23616_S2048x23616)
    Cert.InQRefIdeal.Gen.slices_S2048x23616_S2048x3072_0_10304

/-- The queries of the prompt's rows, as the reference writes them. -/
abbrev whole (x : FVec Ideal S8192x2048 .bf16) (w : FVec Ideal S1x2048x23616 .f32) : FVec Ideal S8192x24x128 .f32 :=
  shapeCast Cert.InQRefIdeal.S8192x24x128 (Host.dotGeneral Cert.InQRefIdeal.dot_S8192x2048_S2048x3072_S8192x3072_1_0_0_1_n_n none (extf .f32 x bitsLt_bf16_f32) (part w))
    Cert.InQRefIdeal.Gen.shapeCasts_S8192x3072_S8192x24x128

/-- The queries of the sample's rows, as the reference writes them. -/
abbrev wholeS (x : FVec Ideal S512x2048 .bf16) (w : FVec Ideal S1x2048x23616 .f32) : FVec Ideal S512x24x128 .f32 :=
  shapeCast Cert.InQRefIdeal.S512x24x128 (Host.dotGeneral Cert.InQRefIdeal.dot_S512x2048_S2048x3072_S512x3072_1_0_0_1_n_n none (extf .f32 x bitsLt_bf16_f32) (part w))
    Cert.InQRefIdeal.Gen.shapeCasts_S512x3072_S512x24x128

/-- Where the windows' blocks sit at each point. -/
theorem places : ∀ t : Fin cfg0.N, win0_0.index t = ![min (t.val % 9) 7, 0] ∧ win0_1.index t = ![10304 + 1024 * (t.val / 9), 0]
    ∧ win0_2.index t = ![0, 0] ∧ win0_3.index t = ![min (t.val % 9) 7, t.val / 9, 0] ∧ win0_4.index t = ![0, t.val / 9, 0] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg2) : FVec Ideal S1x2048x23616 .f32) (ix3 (0 : Fin 1) j i) := by
  entry_read
  pointwise

/-- Where an entry of a weights' block sits in the array. -/
theorem off (t : Fin cfg0.N) (z) (a) : ((win0_1.rect t).emb z a : Nat) = win0_1.index t a + z a := win0_1.rect_emb_val_off t z a

/-- A weights' block, entry by entry. -/
theorem wblk (c : Dev nD) (t : Fin cfg0.N) (i : Fin 1024) (j : Fin 2048) : iblk m c 1 t (ix2 i j)
    = (m ((c : Thread nD τ).loc main_arg2) : FVec Ideal S1x2048x23616 .f32) (ix3 (0 : Fin 1) j ⟨10304 + 1024 * (t.val / 9) + i.val, by
      have := t.isLt
      have e : cfg0.N = 27 := rfl
      omega⟩) := by
  rw [← weight m c]
  refine congrArg (V m c main_v1) (funext fun a => Fin.ext ((off t _ a).trans ?_))
  rw [(places t).2.1]
  match a with
  | ⟨0, _⟩ => rfl
  | ⟨1, _⟩ => exact Nat.zero_add _

/-- What a point stores of the prompt is the reference's entry at the place it stores it. -/
theorem point (c : Dev nD) (t : Fin cfg0.N) (y) : rows m c t y
    = whole (m ((c : Thread nD τ).loc main_arg0)) (m ((c : Thread nD τ).loc main_arg2)) (((cfg0.win 3).blk t).view.emb y) := by
  unfold rows Heads.split
  pointwise [k0_pay1, k0_pay2, whole, part, wblk m c t]
  blk_point [iblk, V, places t]

/-- What a point stores of the sample is the reference's entry at the place it stores it. -/
theorem pointS (c : Dev nD) (t : Fin cfg0.N) (y) : tail m c t y
    = wholeS (m ((c : Thread nD τ).loc main_arg1)) (m ((c : Thread nD τ).loc main_arg2)) (((cfg0.win 4).blk t).view.emb y) := by
  unfold tail Heads.split
  pointwise [k0_pay1, k0_pay11, wholeS, part, wblk m c t]
  blk_point [iblk, V, places t]

/-- The prompt's result array after the run. -/
theorem final (c : Dev nD) : (dats m 0 c).arrAt 3 (cfgs 0).N = whole (m ((c : Thread nD τ).loc main_arg0)) (m ((c : Thread nD τ).loc main_arg2)) := by
  refine (dats m 0 c).arrAt_eq_of_covers 3 _ (by decide +kernel) fun t _ y => ?_
  blk_simp
  rw [after3]
  exact point m c t y

/-- The sample's result array after the run. -/
theorem finalS (c : Dev nD) : (dats m 0 c).arrAt 4 (cfgs 0).N = wholeS (m ((c : Thread nD τ).loc main_arg1)) (m ((c : Thread nD τ).loc main_arg2)) := by
  refine (dats m 0 c).arrAt_eq_of_covers 4 _ (by decide +kernel) fun t _ y => ?_
  blk_simp
  rw [after4]
  exact pointS m c t y

/-- The claim. -/
theorem algebraic : Cert.algebraic_InQIdeal_InQRefIdeal := by
  pair_intro
  · run_from Cert.InQIdeal.Own.run_main m g
  · hlo_run
    · exact (final m c).symm
    · exact (finalS m c).symm

end Cert.InQIdeal.Own

end
-- ==== Proof.KvA.RunIdeal.lean ====
module

public import proofs.«01_k».proof.Proof.Gen.KvAIdeal.Frame
public import proofs.«01_k».proof.Proof.Gen.KvAIdeal.Skeleton
public import proofs.«01_k».proof.Proof.Heads.Store
public import Idealize.ShloMosaic.Lib.VecWindow

@[expose] public section

set_option maxRecDepth 16384

noncomputable section

namespace Cert.KvAIdeal.Own

open Cert.KvAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body -/

/-- A column of blocks begins: the weights are cast. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 9 = 0 :=
  (by decide +kernel : ∀ t : Fin grid0.N, first (grid0.coords t) ↔ t.val % 9 = 0)

/-- The point is one of the prompt's rows. -/
theorem prompt_iff : ∀ t : Fin cfg0.N, k0_cond2 (grid0.coords t) = 1#1 ↔ t.val % 9 < 8 :=
  (by decide +kernel : ∀ t : Fin grid0.N, k0_cond2 (grid0.coords t) = 1#1 ↔ t.val % 9 < 8)

/-- The point is the sample's. -/
theorem sample_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-! ## The body in its three cases, under any body table -/

section
variable (D : Defs nD τ sig (Elt F) Λ₀) (c : Dev nD) (i : grid0.Coords)
  (arg2 : Memref sig .tc .vmem S1024x2048 .bf16) (harg2 : arg2.IsWhole) (arg3 : Memref sig .tc .vmem S1024x2048 .f32) (harg3 : arg3.IsWhole)
  (arg4 : Memref sig .tc .vmem S512x2048 .bf16) (harg4 : arg4.IsWhole) (arg5 : Memref sig .tc .vmem S1024x8x128 .f32) (harg5 : arg5.IsWhole)
  (arg6 : Memref sig .tc .vmem S512x8x128 .f32) (harg6 : arg6.IsWhole) (arg7 : Memref sig .tc .vmem S1024x2048 .bf16) (harg7 : arg7.IsWhole)

set_option maxHeartbeats 1000000 in
/-- At the first rows of a column the body casts the weights into the scratch and multiplies by them. -/
theorem run_first (h0 : first i) (h1 : k0_cond2 i = 1#1) (h2 : ¬k0_cond3 i = 1#1)
    (x0 : Vec F S1024x2048 .bf16) (x1 : Vec F S1024x2048 .f32) (x2 : Vec F S512x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 (k0_pay1 x1))) ∗ owns (c : Thread nD τ) arg6 fullShare x4
          ∗ owns (c : Thread nD τ) arg7 fullShare (k0_pay1 x1)) -∗ K ⟨⟩))
      ⊢ wp frame (wpE D Variants.none c none) E (cc0_in_kv0 i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_kv0_eq_skeleton]; unfold cc0_in_kv0_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v10 run_first.sl.HS_1
    rw [View.readCov_full, View.readAt_full, View.readAt_full, harg2.read_unread, harg3.read_unread]
    have key := Heads.read_pieces (Val := Elt F) (R := 1024) (N := 8192) rfl (k0_pay2 x0 (k0_pay1 x1)) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; swap; · iexact HS
  ipureintro
  unfold run_first.sl.HS_1
  rw [View.read_writes_full, View.readAt_full, harg3.read_unread]

set_option maxHeartbeats 1000000 in
/-- At the prompt's other rows the body multiplies by the weights in the scratch. -/
theorem run_prompt (h0 : ¬first i) (h1 : k0_cond2 i = 1#1) (h2 : ¬k0_cond3 i = 1#1)
    (x0 : Vec F S1024x2048 .bf16) (x1 : Vec F S1024x2048 .f32) (x2 : Vec F S512x2048 .bf16) (xs : Vec F S1024x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 xs)) ∗ owns (c : Thread nD τ) arg6 fullShare x4
          ∗ owns (c : Thread nD τ) arg7 fullShare xs) -∗ K ⟨⟩))
      ⊢ wp frame (wpE D Variants.none c none) E (cc0_in_kv0 i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_kv0_eq_skeleton]; unfold cc0_in_kv0_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.readAt_full, View.readAt_full, harg2.read_unread, harg7.read_unread]
    have key := Heads.read_pieces (Val := Elt F) (R := 1024) (N := 8192) rfl (k0_pay2 x0 xs) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; · ipureintro; exact harg7.read_unread _
  iexact HS

set_option maxHeartbeats 1000000 in
/-- At the sample's rows the body multiplies the sample's block by the weights in the scratch. -/
theorem run_sample (h0 : ¬first i) (h1 : ¬k0_cond2 i = 1#1) (h2 : k0_cond3 i = 1#1)
    (x0 : Vec F S1024x2048 .bf16) (x1 : Vec F S1024x2048 .f32) (x2 : Vec F S512x2048 .bf16) (xs : Vec F S1024x2048 .bf16) (x3 : Vec F S1024x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (Heads.split (k0_pay11 x2 xs))
          ∗ owns (c : Thread nD τ) arg7 fullShare xs) -∗ K ⟨⟩))
      ⊢ wp frame (wpE D Variants.none c none) E (cc0_in_kv0 i arg2 harg2 arg3 harg3 arg4 harg4 arg5 harg5 arg6 harg6 arg7 harg7) K := by
  simp only [Heads.owns_rows (c : Thread nD τ) arg6 fullShare reshapes_S512x8x128_S4096x128.1 reshapes_S512x8x128_S4096x128.2 harg6.contiguous, Heads.flatten_sample]
  simp only [cc0_in_kv0_eq_skeleton]; unfold cc0_in_kv0_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.readAt_full, View.readAt_full, harg4.read_unread, harg7.read_unread]
    have key := Heads.read_pieces (Val := Elt F) (R := 512) (N := 4096) rfl (k0_pay11 x2 xs) (arg6.reshape S4096x128 reshapes_S512x8x128_S4096x128.1 reshapes_S512x8x128_S4096x128.2 harg6.contiguous).view
    exact key f4
  iexists _; isplitr; · ipureintro; exact harg7.read_unread _
  iexact HS

end

end Cert.KvAIdeal.Own

end
-- ==== Proof.KvA.FrameIdeal.lean ====
module

public import proofs.«01_k».proof.Proof.KvA.RunIdeal
public import Idealize.ShloMosaic.Lib.Claim
public import Idealize.ShloMosaic.Lib.Pipeline.ValueKit

@[expose] public section

set_option maxRecDepth 16384

noncomputable section

namespace Cert.KvAIdeal.Own

open Cert.KvAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which windows' blocks the points share -/

/-- Inside a column of blocks the weights' block stays. -/
theorem index1 : ∀ t u : Fin cfg0.N, t.val / 9 = u.val / 9 → win0_1.index t = win0_1.index u :=
  (by decide +kernel : ∀ t u : Fin grid0.N, t.val / 9 = u.val / 9 → win0_1.index t = win0_1.index u)

/-- The sample's point has the prompt block of the point before it. -/
theorem index0 : ∀ t u : Fin cfg0.N, t.val % 9 = 8 → u.val + 1 = t.val → win0_0.index t = win0_0.index u :=
  (by decide +kernel : ∀ t u : Fin grid0.N, t.val % 9 = 8 → u.val + 1 = t.val → win0_0.index t = win0_0.index u)

theorem iblk1 (c : Dev nD) (t u : Fin cfg0.N) (h : t.val / 9 = u.val / 9) : iblk m c 1 t = iblk m c 1 u := by
  funext y
  unfold iblk
  refine congrArg (V m c main_v1) (funext fun a => Fin.ext ?_)
  refine (win0_1.rect_emb_val_off t y a).trans (Eq.trans ?_ (win0_1.rect_emb_val_off u y a).symm)
  rw [index1 t u h]

theorem iblk0 (c : Dev nD) (t u : Fin cfg0.N) (h : t.val % 9 = 8) (hu : u.val + 1 = t.val) : iblk m c 0 t = iblk m c 0 u := by
  funext y
  unfold iblk
  refine congrArg (V m c main_arg0) (funext fun a => Fin.ext ?_)
  refine (win0_0.rect_emb_val_off t y a).trans (Eq.trans ?_ (win0_0.rect_emb_val_off u y a).symm)
  rw [index0 t u h hu]

/-! ## Where the outputs are stored and written back -/

theorem live3 : ∀ t : Fin cfg0.N, t.val % 9 < 8 → cfg0.idle 3 (grid0.coords t) = false :=
  (by decide +kernel : ∀ t : Fin grid0.N, t.val % 9 < 8 → idle0 3 (grid0.coords t) = false)
theorem idle3 : ∀ t : Fin cfg0.N, t.val % 9 = 8 → cfg0.idle 3 (grid0.coords t) = true :=
  (by decide +kernel : ∀ t : Fin grid0.N, t.val % 9 = 8 → idle0 3 (grid0.coords t) = true)
theorem live4 : ∀ t : Fin cfg0.N, t.val % 9 = 8 → cfg0.idle 4 (grid0.coords t) = false :=
  (by decide +kernel : ∀ t : Fin grid0.N, t.val % 9 = 8 → idle0 4 (grid0.coords t) = false)
theorem idle4 : ∀ t : Fin cfg0.N, t.val % 9 < 8 → cfg0.idle 4 (grid0.coords t) = true :=
  (by decide +kernel : ∀ t : Fin grid0.N, t.val % 9 < 8 → idle0 4 (grid0.coords t) = true)
theorem flush3 : ∀ t : Fin cfg0.N, (cfg0.win 3).flush t = true ↔ ¬t.val % 9 = 7 :=
  (by decide +kernel : ∀ t : Fin grid0.N, win0_3.flush t = true ↔ ¬t.val % 9 = 7)

/-! ## The pipeline's proof data -/

/-- The scratch between the points: what the last point left in it. -/
def Phi (c : Dev nD) : (n : ℕ) → n ≤ cfg0.N → sProp 𝕄
  | 0, _ => Pipeline.ΦA spec0 c
  | n + 1, hn => iprop(owns (c : Thread nD τ) (Memref.whole cc0_scratch0) fullShare (k0_pay1 (iblk m c 1 ⟨n, hn⟩)) ∗ (∃ r, prngReg c r))

theorem Phi_start (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (k0_pay1 (iblk m c 1 ⟨n - 1, by omega⟩)) ∗ (∃ r, prngReg c r)) := by
  cases n with
  | zero => exact absurd rfl hz
  | succ n => rfl

/-- What the prompt's output block holds after each point, -/
def rows (c : Dev nD) (t : Fin cfg0.N) : Vec F S1024x8x128 .f32 := Heads.split (k0_pay2 (iblk m c 0 t) (k0_pay1 (iblk m c 1 t)))

/-- and what the sample's holds after the points that store it. -/
def tail (c : Dev nD) (t : Fin cfg0.N) : Vec F S512x8x128 .f32 := Heads.split (k0_pay11 (iblk m c 2 t) (k0_pay1 (iblk m c 1 t)))

/-- The proof data: the inputs' blocks stay, the outputs' are the products, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => tail m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the sample's point the prompt's output block is still the one the point before stored. -/
theorem before3 (c : Dev nD) (t : Fin cfg0.N) (h : t.val % 9 = 8) (d) : (dats m 0 c).before 3 t d = rows m c t := by
  rw [(dats m 0 c).before_of_pos 3 t (by omega) rfl d,
    if_neg (fun hf => (flush3 ⟨t.val - 1, Nat.lt_of_le_of_lt (Nat.sub_le _ _) t.isLt⟩).mp hf (by show (t.val - 1) % 9 = 7; omega))]
  unfold Dat.left
  rw [live3 ⟨t.val - 1, Nat.lt_of_le_of_lt (Nat.sub_le _ _) t.isLt⟩ (by show (t.val - 1) % 9 < 8; omega)]
  show (dats m 0 c).kept 3 _ d = _
  unfold Dat.kept
  rw [Pipeline.fill_of_clip_none 3 _ (fun _ => rfl) d _, (cfg0.win 3).fill_cut, after3]
  unfold rows
  rw [iblk0 m c t ⟨t.val - 1, Nat.lt_of_le_of_lt (Nat.sub_le _ _) t.isLt⟩ h (by show t.val - 1 + 1 = t.val; omega),
    iblk1 m c t ⟨t.val - 1, Nat.lt_of_le_of_lt (Nat.sub_le _ _) t.isLt⟩ (by show t.val / 9 = (t.val - 1) / 9; omega)]

/-! ## What the body hands back of the outputs -/

theorem leaves3 (c : Dev nD) (t : Fin cfg0.N) :
    (dats m 0 c).leavesExact 3 t = owns (c : Thread nD τ) (st0_3 t) fullShare (rows m c t) := by
  by_cases h : t.val % 9 = 8
  · unfold Dat.leavesExact; rw [idle3 t h, (flush3 t).mpr (by omega), after3]
  · unfold Dat.leavesExact; rw [live3 t (by omega), after3]

theorem leaves4_live (c : Dev nD) (t : Fin cfg0.N) (h : t.val % 9 = 8) :
    (dats m 0 c).leavesExact 4 t = owns (c : Thread nD τ) (st0_4 t) fullShare (tail m c t) := by
  unfold Dat.leavesExact; rw [live4 t h, after4]

theorem leaves4_idle (c : Dev nD) (t : Fin cfg0.N) (h : t.val % 9 < 8) :
    (dats m 0 c).leavesExact 4 t = iprop(∃ d, owns (c : Thread nD τ) (st0_4 t) fullShare ((dats m 0 c).before 4 t d)) :=
  (dats m 0 c).leavesExact_idle 4 t (idle4 t h) (Bool.eq_false_iff.mpr fun hf => by have := (flush0_4 t).mp hf; omega)

/-! ## The body at every point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The scratch before a point that does not begin a column: the point's own weights, cast. -/
theorem Phi_rest (c : Dev nD) (t : Fin cfg0.N) (h : ¬t.val % 9 = 0) :
    Phi m c t.val (Nat.le_of_lt t.isLt) = iprop(owns (c : Thread nD τ) (Memref.whole cc0_scratch0) fullShare (k0_pay1 (iblk m c 1 t)) ∗ (∃ r, prngReg c r)) := by
  rw [Phi_pos m c _ _ (by omega), iblk1 m c ⟨t.val - 1, Nat.lt_of_le_of_lt (Nat.sub_le _ _) t.isLt⟩ t (by show (t.val - 1) / 9 = t.val / 9; omega)]

/-- The scratch before any point, its contents forgotten. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz; show Pipeline.ΦA spec0 c ⊢ _; rw [Phi_start]
  · rw [Phi_pos m c n h hz]
    iintro ⟨HS, Hg⟩
    isplitl [HS]
    · iexists _; iexact HS
    iexact Hg

set_option maxHeartbeats 3200000 in
/-- The body's triple: the first, the other prompt rows, the sample's rows. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, leaves3]
  rw [show (dats m 0 c).Φ t.succ = iprop(owns (c : Thread nD τ) (Memref.whole cc0_scratch0) fullShare (k0_pay1 (iblk m c 1 t)) ∗ (∃ r, prngReg c r)) from rfl]
  rw [Phi_castSucc m c t]
  unfold rows
  by_cases h8 : t.val % 9 = 8
  · rw [leaves4_live m c t h8, Phi_rest m c t (by omega)]
    simp only [before3 m c t h8]
    unfold rows tail
    iintro ⟨⟨HS, Hg⟩, Ho, ⟨%d0, H0⟩, ⟨%d1, H1⟩, ⟨%d2, H2⟩, ⟨%d3, H3⟩, ⟨%d4, H4⟩⟩
    iapply (run_sample (defs₀ (F := F)) c (grid0.coords t) _ _ _ _ _ _ _ _ _ _ _ _ (fun h => by have := (first_iff t).mp h; omega)
      (fun h => by have := (prompt_iff t).mp h; omega) ((sample_iff t).mpr h8) (iblk m c 0 t) (iblk m c 1 t) (iblk m c 2 t) (k0_pay1 (iblk m c 1 t))
      (Heads.split (k0_pay2 (iblk m c 0 t) (k0_pay1 (iblk m c 1 t)))) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have h7 : t.val % 9 < 8 := by omega
    rw [leaves4_idle m c t h7]
    by_cases h0 : t.val % 9 = 0
    · refine (sep_mono (Phi_any m c _ _) .rfl).trans ?_
      iintro ⟨⟨HS, Hg⟩, Ho, ⟨%d0, H0⟩, ⟨%d1, H1⟩, ⟨%d2, H2⟩, ⟨%d3, H3⟩, ⟨%d4, H4⟩⟩
      iapply (run_first (defs₀ (F := F)) c (grid0.coords t) _ _ _ _ _ _ _ _ _ _ _ _ ((first_iff t).mpr h0)
        ((prompt_iff t).mpr h7) (fun h => h8 ((sample_iff t).mp h)) (iblk m c 0 t) (iblk m c 1 t) (iblk m c 2 t)
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi_rest m c t h0]
      iintro ⟨⟨HS, Hg⟩, Ho, ⟨%d0, H0⟩, ⟨%d1, H1⟩, ⟨%d2, H2⟩, ⟨%d3, H3⟩, ⟨%d4, H4⟩⟩
      iapply (run_prompt (defs₀ (F := F)) c (grid0.coords t) _ _ _ _ _ _ _ _ _ _ _ _ (fun h => h0 ((first_iff t).mp h))
        ((prompt_iff t).mpr h7) (fun h => h8 ((sample_iff t).mp h)) (iblk m c 0 t) (iblk m c 1 t) (iblk m c 2 t) (k0_pay1 (iblk m c 1 t))
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body at that point. -/
theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [Phi_start, show (dats m 0 c).Φ (Fin.last cfg0.N) = Phi m c cfg0.N (Nat.le_refl _) from rfl]
  exact Phi_any m c _ _

/-! ## The run -/

set_option backward.isDefEq.respectTransparency.types false in
/-- Every run ends with the arrays the proof data give, the other buffers as the operations after the region leave them
    and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.KvAIdeal.Own

end
-- ==== Proof.KvA.Frame.lean ====
module

public import proofs.«01_k».proof.Proof.KvA.FrameIdeal
public import proofs.«01_k».proof.Proof.Gen.KvA

@[expose] public section

set_option maxRecDepth 16384

noncomputable section

namespace Cert.KvA.Own

open Cert.KvA Cert.KvA.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The body table is the one of the program read at the ideal numbers. -/
theorem bodies : defs₀ (F := F) = Cert.KvAIdeal.defs₀ (F := F) := by
  unfold defs₀ Cert.KvAIdeal.defs₀
  refine congrArg (Defs.onTc (nD := nD) (τ := τ) (sig := sig) (Val := Elt F) (Λ := Λ₀)) (funext fun l => funext fun a => ?_)
  match l, a with
  | 0, (t, s) => rfl
  | ⟨_ + 1, h⟩, _ => exact absurd h (Nat.not_lt.2 (Nat.le_add_left _ _))

/-- The frame: the program is operation for operation the one read at the ideal numbers, whose frame is proved at every
    reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  unfold defs
  rw [bodies]
  exact Cert.KvAIdeal.Own.frame (F := F) m ρ

end Cert.KvA.Own

end
-- ==== Proof.KvA.Value.lean ====
module

public import proofs.«01_k».proof.Proof.KvA.FrameIdeal
public import proofs.«01_k».proof.Proof.Gen.KvARefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.KvAIdeal.Own

open Idealize.ShloMosaic Idealize.ShloMosaic.TcCoe Idealize.ShloMosaic.Tactic Idealize.SL.Sem
open Idealize.ShloMosaic.Pipeline (Dat)
open Cert.KvAIdeal Cert.KvAIdeal.Gen

variable (m : (ℓ : Loc nD τ sig) → Buf (Elt Ideal) ℓ)

/-- The keys' columns of the weights, as the reference takes them, -/
abbrev partK (w : FVec Ideal S1x2048x23616 .f32) : FVec Ideal Cert.KvARefIdeal.S2048x1024 .f32 :=
  extractStridedSlice Cert.KvARefIdeal.S2048x1024 ![0, 13376] (shapeCast Cert.KvARefIdeal.S2048x23616 w Cert.KvARefIdeal.Gen.shapeCasts_S1x2048x23616_S2048x23616)
    Cert.KvARefIdeal.Gen.slices_S2048x23616_S2048x1024_0_13376

/-- and the values'. -/
abbrev partV (w : FVec Ideal S1x2048x23616 .f32) : FVec Ideal Cert.KvARefIdeal.S2048x1024 .f32 :=
  extractStridedSlice Cert.KvARefIdeal.S2048x1024 ![0, 16448] (shapeCast Cert.KvARefIdeal.S2048x23616 w Cert.KvARefIdeal.Gen.shapeCasts_S1x2048x23616_S2048x23616)
    Cert.KvARefIdeal.Gen.slices_S2048x23616_S2048x1024_0_16448

/-- One projection of the prompt's rows by columns `p` of the weights, by heads. -/
abbrev half (x : FVec Ideal S8192x2048 .bf16) (p : FVec Ideal Cert.KvARefIdeal.S2048x1024 .f32) : FVec Ideal Cert.KvARefIdeal.S8192x8x128 .f32 :=
  shapeCast Cert.KvARefIdeal.S8192x8x128 (Host.dotGeneral Cert.KvARefIdeal.dot_S8192x2048_S2048x1024_S8192x1024_1_0_0_1_n_n none (extf .f32 x bitsLt_bf16_f32) p)
    Cert.KvARefIdeal.Gen.shapeCasts_S8192x1024_S8192x8x128

/-- The keys and the values of the prompt's rows, as the reference writes them. -/
abbrev whole (x : FVec Ideal S8192x2048 .bf16) (w : FVec Ideal S1x2048x23616 .f32) : FVec Ideal S8192x16x128 .f32 :=
  concatenate S8192x16x128 1 [⟨Cert.KvARefIdeal.S8192x8x128, half x (partK w)⟩, ⟨Cert.KvARefIdeal.S8192x8x128, half x (partV w)⟩]
    Cert.KvARefIdeal.Gen.concatenates_S8192x8x128_S8192x8x128_S8192x16x128_d1

/-- One projection of the sample's rows by columns `p` of the weights, by heads. -/
abbrev halfS (x : FVec Ideal S512x2048 .bf16) (p : FVec Ideal Cert.KvARefIdeal.S2048x1024 .f32) : FVec Ideal Cert.KvARefIdeal.S512x8x128 .f32 :=
  shapeCast Cert.KvARefIdeal.S512x8x128 (Host.dotGeneral Cert.KvARefIdeal.dot_S512x2048_S2048x1024_S512x1024_1_0_0_1_n_n none (extf .f32 x bitsLt_bf16_f32) p)
    Cert.KvARefIdeal.Gen.shapeCasts_S512x1024_S512x8x128

/-- The keys and the values of the sample's rows, as the reference writes them. -/
abbrev wholeS (x : FVec Ideal S512x2048 .bf16) (w : FVec Ideal S1x2048x23616 .f32) : FVec Ideal S512x16x128 .f32 :=
  concatenate S512x16x128 1 [⟨Cert.KvARefIdeal.S512x8x128, halfS x (partK w)⟩, ⟨Cert.KvARefIdeal.S512x8x128, halfS x (partV w)⟩]
    Cert.KvARefIdeal.Gen.concatenates_S512x8x128_S512x8x128_S512x16x128_d1

/-- Where the windows' blocks sit at each point. -/
theorem places : ∀ t : Fin cfg0.N, win0_0.index t = ![min (t.val % 9) 7, 0] ∧ win0_1.index t = ![13376 + 3072 * (t.val / 9), 0]
    ∧ win0_2.index t = ![0, 0] ∧ win0_3.index t = ![min (t.val % 9) 7, t.val / 9, 0] ∧ win0_4.index t = ![0, t.val / 9, 0] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg2) : FVec Ideal S1x2048x23616 .f32) (ix3 (0 : Fin 1) j i) := by
  show (StableHlo.after hostOps0 (fun b => m (c, b)) (Proc.tc.devRef main_v1) : FVec Ideal S23616x2048 .f32) (ix2 i j) = _
  after_results_simp
  pointwise

/-- Where an entry of a weights' block sits in the array. -/
theorem off (t : Fin cfg0.N) (z) (a) : ((win0_1.rect t).emb z a : Nat) = win0_1.index t a + z a := win0_1.rect_emb_val_off t z a

/-- A weights' block, entry by entry. -/
theorem wblk (c : Dev nD) (t : Fin cfg0.N) (i : Fin 1024) (j : Fin 2048) : iblk m c 1 t (ix2 i j)
    = (m ((c : Thread nD τ).loc main_arg2) : FVec Ideal S1x2048x23616 .f32) (ix3 (0 : Fin 1) j ⟨13376 + 3072 * (t.val / 9) + i.val, by
      have := t.isLt
      have e : cfg0.N = 18 := rfl
      omega⟩) := by
  rw [← weight m c]
  refine congrArg (V m c main_v1) (funext fun a => Fin.ext ((off t _ a).trans ?_))
  rw [(places t).2.1]
  match a with
  | ⟨0, _⟩ => rfl
  | ⟨1, _⟩ => exact Nat.zero_add _

/-- The head a point stores the head `y 1` at, of the prompt -/
theorem head3 (t : Fin cfg0.N) (y) : ((((cfg0.win 3).blk t).view.emb y) 1 : Nat) = t.val / 9 * 8 + (y 1).val := by
  refine (win0_3.rect_emb_val_off t y 1).trans ?_
  show win0_3.index t 1 * 8 + (y 1).val = _
  rw [(places t).2.2.2.1]
  rfl

/-- and of the sample. -/
theorem head4 (t : Fin cfg0.N) (y) : ((((cfg0.win 4).blk t).view.emb y) 1 : Nat) = t.val / 9 * 8 + (y 1).val := by
  refine (win0_4.rect_emb_val_off t y 1).trans ?_
  show win0_4.index t 1 * 8 + (y 1).val = _
  rw [(places t).2.2.2.2]
  rfl

/-- What a point stores of the prompt is the reference's entry at the place it stores it. -/
theorem point (c : Dev nD) (t : Fin cfg0.N) (y) : rows m c t y
    = whole (m ((c : Thread nD τ).loc main_arg0)) (m ((c : Thread nD τ).loc main_arg2)) (((cfg0.win 3).blk t).view.emb y) := by
  unfold rows Heads.split
  pointwise [k0_pay1, k0_pay2, whole, half, partK, partV, wblk m c t]
  blk_point [iblk, V, places t]
  · rename_i h _ _
    have h' := lt_of_eq_of_lt (head3 t y).symm h
    omega
  · rename_i h _ _
    have h' : ¬(t.val / 9 * 8 + (y 1).val < 8) := fun hc => h (lt_of_eq_of_lt (head3 t y) hc)
    omega

/-- What a point stores of the sample is the reference's entry at the place it stores it. -/
theorem pointS (c : Dev nD) (t : Fin cfg0.N) (y) : tail m c t y
    = wholeS (m ((c : Thread nD τ).loc main_arg1)) (m ((c : Thread nD τ).loc main_arg2)) (((cfg0.win 4).blk t).view.emb y) := by
  unfold tail Heads.split
  pointwise [k0_pay1, k0_pay11, wholeS, halfS, partK, partV, wblk m c t]
  blk_point [iblk, V, places t]
  · rename_i h _ _
    have h' := lt_of_eq_of_lt (head4 t y).symm h
    omega
  · rename_i h _ _
    have h' : ¬(t.val / 9 * 8 + (y 1).val < 8) := fun hc => h (lt_of_eq_of_lt (head4 t y) hc)
    omega

/-- The prompt's result array after the run. -/
theorem final (c : Dev nD) : (dats m 0 c).arrAt 3 (cfgs 0).N = whole (m ((c : Thread nD τ).loc main_arg0)) (m ((c : Thread nD τ).loc main_arg2)) := by
  refine (dats m 0 c).arrAt_eq_of_covers 3 _ (by decide +kernel) fun t _ y => ?_
  blk_simp
  rw [after3]
  exact point m c t y

/-- The sample's result array after the run. -/
theorem finalS (c : Dev nD) : (dats m 0 c).arrAt 4 (cfgs 0).N = wholeS (m ((c : Thread nD τ).loc main_arg1)) (m ((c : Thread nD τ).loc main_arg2)) := by
  refine (dats m 0 c).arrAt_eq_of_covers 4 _ (by decide +kernel) fun t _ y => ?_
  blk_simp
  rw [after4]
  exact pointS m c t y

/-- Keys and values side by side as 16 heads, seen as pairs of 8 and cut to the last 128 positions, -/
abbrev cut (a : FVec Ideal S8192x16x128 .f32) : FVec Ideal S4x128x2x8x128 .f32 :=
  extractStridedSlice S4x128x2x8x128 ![0, 1920, 0, 0, 0] (shapeCast S4x2048x2x8x128 a shapeCasts_S8192x16x128_S4x2048x2x8x128)
    slices_S4x2048x2x8x128_S4x128x2x8x128_0_1920_0_0_0

/-- one of the two cut to these positions, with an axis for the pair, -/
abbrev part (k : FVec Ideal Cert.KvARefIdeal.S8192x8x128 .f32) : FVec Ideal Cert.KvARefIdeal.S4x128x1x8x128 .f32 :=
  broadcastInDim Cert.KvARefIdeal.S4x128x1x8x128 ![0, 1, 3, 4] Cert.KvARefIdeal.Gen.bcast_S4x128x8x128_S4x128x1x8x128_0_1_3_4
    (extractStridedSlice Cert.KvARefIdeal.S4x128x8x128 ![0, 1920, 0, 0] (shapeCast Cert.KvARefIdeal.S4x2048x8x128 k Cert.KvARefIdeal.Gen.shapeCasts_S8192x8x128_S4x2048x8x128)
      Cert.KvARefIdeal.Gen.slices_S4x2048x8x128_S4x128x8x128_0_1920_0_0)

/-- and the two stacked on that axis, as the reference writes them. -/
abbrev pair (k v : FVec Ideal Cert.KvARefIdeal.S8192x8x128 .f32) : FVec Ideal S4x128x2x8x128 .f32 :=
  concatenate S4x128x2x8x128 2 [⟨Cert.KvARefIdeal.S4x128x1x8x128, part k⟩, ⟨Cert.KvARefIdeal.S4x128x1x8x128, part v⟩]
    Cert.KvARefIdeal.Gen.concatenates_S4x128x1x8x128_S4x128x1x8x128_S4x128x2x8x128_d2

/-- Where an entry of the pairs of heads sits among the 16 heads of its row, -/
theorem cast5 (a : FVec Ideal S8192x16x128 .f32) (s : Fin 4) (r : Fin 2048) (p : Fin 2) (h : Fin 8) (e : Fin 128) :
    shapeCast S4x2048x2x8x128 a shapeCasts_S8192x16x128_S4x2048x2x8x128 (ix5 s r p h e) = a (ix3 ⟨s.val * 2048 + r.val, by omega⟩ ⟨p.val * 8 + h.val, by omega⟩ e) := by
  pointwise

/-- and one of 8 heads by sequences. -/
theorem cast4 (k : FVec Ideal Cert.KvARefIdeal.S8192x8x128 .f32) (s : Fin 4) (r : Fin 2048) (h : Fin 8) (e : Fin 128) :
    shapeCast Cert.KvARefIdeal.S4x2048x8x128 k Cert.KvARefIdeal.Gen.shapeCasts_S8192x8x128_S4x2048x8x128 (ix4 s r h e) = k (ix3 ⟨s.val * 2048 + r.val, by omega⟩ h e) := by
  pointwise

/-- An entry of the heads side by side. -/
theorem side (k v : FVec Ideal Cert.KvARefIdeal.S8192x8x128 .f32) (r : Fin 8192) (a : Fin 16) (e : Fin 128) :
    concatenate S8192x16x128 1 [⟨Cert.KvARefIdeal.S8192x8x128, k⟩, ⟨Cert.KvARefIdeal.S8192x8x128, v⟩] Cert.KvARefIdeal.Gen.concatenates_S8192x8x128_S8192x8x128_S8192x16x128_d1 (ix3 r a e)
      = if h : a.val < 8 then k (ix3 r ⟨a.val, h⟩ e) else v (ix3 r ⟨a.val - 8, by omega⟩ e) := by
  pointwise

/-- An entry of the cut. -/
theorem cut_at (a : FVec Ideal S8192x16x128 .f32) (s : Fin 4) (i : Fin 128) (p : Fin 2) (h : Fin 8) (e : Fin 128) :
    cut a (ix5 s i p h e) = a (ix3 ⟨s.val * 2048 + (1920 + i.val), by omega⟩ ⟨p.val * 8 + h.val, by omega⟩ e) := by
  refine Eq.trans ?_ (cast5 a s ⟨1920 + i.val, by omega⟩ p h e)
  unfold cut
  generalize shapeCast S4x2048x2x8x128 a shapeCasts_S8192x16x128_S4x2048x2x8x128 = b
  pointwise

/-- An entry of one of the two. -/
theorem part_at (k : FVec Ideal Cert.KvARefIdeal.S8192x8x128 .f32) (s : Fin 4) (i : Fin 128) (q : Fin 1) (h : Fin 8) (e : Fin 128) :
    part k (ix5 s i q h e) = k (ix3 ⟨s.val * 2048 + (1920 + i.val), by omega⟩ h e) := by
  refine Eq.trans ?_ (cast4 k s ⟨1920 + i.val, by omega⟩ h e)
  unfold part
  generalize shapeCast Cert.KvARefIdeal.S4x2048x8x128 k Cert.KvARefIdeal.Gen.shapeCasts_S8192x8x128_S4x2048x8x128 = b
  pointwise

/-- An entry of the two stacked. -/
theorem pair_at (k v : FVec Ideal Cert.KvARefIdeal.S8192x8x128 .f32) (s : Fin 4) (i : Fin 128) (p : Fin 2) (h : Fin 8) (e : Fin 128) :
    pair k v (ix5 s i p h e) = if c : p.val < 1 then part k (ix5 s i ⟨p.val, c⟩ h e) else part v (ix5 s i ⟨p.val - 1, by omega⟩ h e) := by
  unfold pair
  generalize part k = a
  generalize part v = b
  pointwise

/-- The last positions of the heads side by side are the stacked last positions. -/
theorem cut_pair (k v : FVec Ideal Cert.KvARefIdeal.S8192x8x128 .f32) :
    cut (concatenate S8192x16x128 1 [⟨Cert.KvARefIdeal.S8192x8x128, k⟩, ⟨Cert.KvARefIdeal.S8192x8x128, v⟩] Cert.KvARefIdeal.Gen.concatenates_S8192x8x128_S8192x8x128_S8192x16x128_d1) = pair k v := by
  funext z
  obtain ⟨s, i, p, h, e, rfl⟩ : ∃ (s : Fin 4) (i : Fin 128) (p : Fin 2) (h : Fin 8) (e : Fin 128), z = ix5 s i p h e := ⟨z 0, z 1, z 2, z 3, z 4, eq_ix5 z⟩
  rw [cut_at, side, pair_at]
  by_cases c : p.val < 1
  · rw [dif_pos c, dif_pos (show p.val * 8 + h.val < 8 by omega), part_at]
    exact congrArg (fun a => k (ix3 _ a e)) (Fin.ext (show p.val * 8 + h.val = h.val by omega))
  · rw [dif_neg c, dif_neg (show ¬p.val * 8 + h.val < 8 by omega), part_at]
    exact congrArg (fun a => v (ix3 _ a e)) (Fin.ext (show p.val * 8 + h.val - 8 = h.val by omega))

/-- The last positions after the operations that follow the region. -/
theorem sliced (c : Dev nD) : Pipeline.afterTail₀ cfgs (dats m) 0 (V0 m) [hostOps1] c main_v4
    = cut (whole (m ((c : Thread nD τ).loc main_arg0)) (m ((c : Thread nD τ).loc main_arg2))) := by
  rw [← final m c]
  show StableHlo.after hostOps1 _ _ = _
  after_results_simp
  exact congrArg cut (Pipeline.withArrays_arr spec0 (by decide) c (V0 m c) (fun w => (dats m 0 c).arrAt w (cfgs 0).N) 3)

/-- The claim. -/
theorem algebraic : Cert.algebraic_KvAIdeal_KvARefIdeal := by
  pair_intro
  · run_from Cert.KvAIdeal.Own.run_main m g
    exact W_main_arg2 m (dats m) c
  · hlo_run
    · rw [(hagree c).2.2]
      exact (final m c).symm
    · rw [(hagree c).2.1, (hagree c).2.2]
      exact (finalS m c).symm
    · rw [(hagree c).2.2]
      exact ((sliced m c).trans (cut_pair _ _)).symm

end Cert.KvAIdeal.Own

end
-- ==== Proof.KvB.RunIdeal.lean ====
module

public import proofs.«01_k».proof.Proof.Gen.KvBIdeal.Frame
public import proofs.«01_k».proof.Proof.Gen.KvBIdeal.Skeleton
public import proofs.«01_k».proof.Proof.Heads.Store
public import Idealize.ShloMosaic.Lib.VecWindow

@[expose] public section

set_option maxRecDepth 16384

noncomputable section

namespace Cert.KvBIdeal.Own

open Cert.KvBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body -/

/-- A column of blocks begins: the weights are cast. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 9 = 0 :=
  (by decide +kernel : ∀ t : Fin grid0.N, first (grid0.coords t) ↔ t.val % 9 = 0)

/-- The point is one of the prompt's rows. -/
theorem prompt_iff : ∀ t : Fin cfg0.N, k0_cond2 (grid0.coords t) = 1#1 ↔ t.val % 9 < 8 :=
  (by decide +kernel : ∀ t : Fin grid0.N, k0_cond2 (grid0.coords t) = 1#1 ↔ t.val % 9 < 8)

/-- The point is the sample's. -/
theorem sample_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-! ## The body in its three cases, under any body table -/

section
variable (D : Defs nD τ sig (Elt F) Λ₀) (c : Dev nD) (i : grid0.Coords)
  (arg2 : Memref sig .tc .vmem S1024x2048 .bf16) (harg2 : arg2.IsWhole) (arg3 : Memref sig .tc .vmem S1024x2048 .f32) (harg3 : arg3.IsWhole)
  (arg4 : Memref sig .tc .vmem S512x2048 .bf16) (harg4 : arg4.IsWhole) (arg5 : Memref sig .tc .vmem S1024x8x128 .f32) (harg5 : arg5.IsWhole)
  (arg6 : Memref sig .tc .vmem S512x8x128 .f32) (harg6 : arg6.IsWhole) (arg7 : Memref sig .tc .vmem S1024x2048 .bf16) (harg7 : arg7.IsWhole)

set_option maxHeartbeats 1000000 in
/-- At the first rows of a column the body casts the weights into the scratch and multiplies by them. -/
theorem run_first (h0 : first i) (h1 : k0_cond2 i = 1#1) (h2 : ¬k0_cond3 i = 1#1)
    (x0 : Vec F S1024x2048 .bf16) (x1 : Vec F S1024x2048 .f32) (x2 : Vec F S512x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 (k0_pay1 x1))) ∗ owns (c : Thread nD τ) arg6 fullShare x4
          ∗ owns (c : Thread nD τ) arg7 fullShare (k0_pay1 x1)) -∗ K ⟨⟩))
      ⊢ wp frame (wpE D Variants.none c none) E (cc0_in_kv1 i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_kv1_eq_skeleton]; unfold cc0_in_kv1_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v10 run_first.sl.HS_1
    rw [View.readCov_full, View.readAt_full, View.readAt_full, harg2.read_unread, harg3.read_unread]
    have key := Heads.read_pieces (Val := Elt F) (R := 1024) (N := 8192) rfl (k0_pay2 x0 (k0_pay1 x1)) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; swap; · iexact HS
  ipureintro
  unfold run_first.sl.HS_1
  rw [View.read_writes_full, View.readAt_full, harg3.read_unread]

set_option maxHeartbeats 1000000 in
/-- At the prompt's other rows the body multiplies by the weights in the scratch. -/
theorem run_prompt (h0 : ¬first i) (h1 : k0_cond2 i = 1#1) (h2 : ¬k0_cond3 i = 1#1)
    (x0 : Vec F S1024x2048 .bf16) (x1 : Vec F S1024x2048 .f32) (x2 : Vec F S512x2048 .bf16) (xs : Vec F S1024x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 xs)) ∗ owns (c : Thread nD τ) arg6 fullShare x4
          ∗ owns (c : Thread nD τ) arg7 fullShare xs) -∗ K ⟨⟩))
      ⊢ wp frame (wpE D Variants.none c none) E (cc0_in_kv1 i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_kv1_eq_skeleton]; unfold cc0_in_kv1_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.readAt_full, View.readAt_full, harg2.read_unread, harg7.read_unread]
    have key := Heads.read_pieces (Val := Elt F) (R := 1024) (N := 8192) rfl (k0_pay2 x0 xs) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; · ipureintro; exact harg7.read_unread _
  iexact HS

set_option maxHeartbeats 1000000 in
/-- At the sample's rows the body multiplies the sample's block by the weights in the scratch. -/
theorem run_sample (h0 : ¬first i) (h1 : ¬k0_cond2 i = 1#1) (h2 : k0_cond3 i = 1#1)
    (x0 : Vec F S1024x2048 .bf16) (x1 : Vec F S1024x2048 .f32) (x2 : Vec F S512x2048 .bf16) (xs : Vec F S1024x2048 .bf16) (x3 : Vec F S1024x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (Heads.split (k0_pay11 x2 xs))
          ∗ owns (c : Thread nD τ) arg7 fullShare xs) -∗ K ⟨⟩))
      ⊢ wp frame (wpE D Variants.none c none) E (cc0_in_kv1 i arg2 harg2 arg3 harg3 arg4 harg4 arg5 harg5 arg6 harg6 arg7 harg7) K := by
  simp only [Heads.owns_rows (c : Thread nD τ) arg6 fullShare reshapes_S512x8x128_S4096x128.1 reshapes_S512x8x128_S4096x128.2 harg6.contiguous, Heads.flatten_sample]
  simp only [cc0_in_kv1_eq_skeleton]; unfold cc0_in_kv1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.readAt_full, View.readAt_full, harg4.read_unread, harg7.read_unread]
    have key := Heads.read_pieces (Val := Elt F) (R := 512) (N := 4096) rfl (k0_pay11 x2 xs) (arg6.reshape S4096x128 reshapes_S512x8x128_S4096x128.1 reshapes_S512x8x128_S4096x128.2 harg6.contiguous).view
    exact key f4
  iexists _; isplitr; · ipureintro; exact harg7.read_unread _
  iexact HS

end

end Cert.KvBIdeal.Own

end
-- ==== Proof.KvB.FrameIdeal.lean ====
module

public import proofs.«01_k».proof.Proof.KvB.RunIdeal
public import Idealize.ShloMosaic.Lib.Claim
public import Idealize.ShloMosaic.Lib.Pipeline.ValueKit

@[expose] public section

set_option maxRecDepth 16384

noncomputable section

namespace Cert.KvBIdeal.Own

open Cert.KvBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which windows' blocks the points share -/

/-- Inside a column of blocks the weights' block stays. -/
theorem index1 : ∀ t u : Fin cfg0.N, t.val / 9 = u.val / 9 → win0_1.index t = win0_1.index u :=
  (by decide +kernel : ∀ t u : Fin grid0.N, t.val / 9 = u.val / 9 → win0_1.index t = win0_1.index u)

/-- The sample's point has the prompt block of the point before it. -/
theorem index0 : ∀ t u : Fin cfg0.N, t.val % 9 = 8 → u.val + 1 = t.val → win0_0.index t = win0_0.index u :=
  (by decide +kernel : ∀ t u : Fin grid0.N, t.val % 9 = 8 → u.val + 1 = t.val → win0_0.index t = win0_0.index u)

theorem iblk1 (c : Dev nD) (t u : Fin cfg0.N) (h : t.val / 9 = u.val / 9) : iblk m c 1 t = iblk m c 1 u := by
  funext y
  unfold iblk
  refine congrArg (V m c main_v1) (funext fun a => Fin.ext ?_)
  refine (win0_1.rect_emb_val_off t y a).trans (Eq.trans ?_ (win0_1.rect_emb_val_off u y a).symm)
  rw [index1 t u h]

theorem iblk0 (c : Dev nD) (t u : Fin cfg0.N) (h : t.val % 9 = 8) (hu : u.val + 1 = t.val) : iblk m c 0 t = iblk m c 0 u := by
  funext y
  unfold iblk
  refine congrArg (V m c main_arg0) (funext fun a => Fin.ext ?_)
  refine (win0_0.rect_emb_val_off t y a).trans (Eq.trans ?_ (win0_0.rect_emb_val_off u y a).symm)
  rw [index0 t u h hu]

/-! ## Where the outputs are stored and written back -/

theorem live3 : ∀ t : Fin cfg0.N, t.val % 9 < 8 → cfg0.idle 3 (grid0.coords t) = false :=
  (by decide +kernel : ∀ t : Fin grid0.N, t.val % 9 < 8 → idle0 3 (grid0.coords t) = false)
theorem idle3 : ∀ t : Fin cfg0.N, t.val % 9 = 8 → cfg0.idle 3 (grid0.coords t) = true :=
  (by decide +kernel : ∀ t : Fin grid0.N, t.val % 9 = 8 → idle0 3 (grid0.coords t) = true)
theorem live4 : ∀ t : Fin cfg0.N, t.val % 9 = 8 → cfg0.idle 4 (grid0.coords t) = false :=
  (by decide +kernel : ∀ t : Fin grid0.N, t.val % 9 = 8 → idle0 4 (grid0.coords t) = false)
theorem idle4 : ∀ t : Fin cfg0.N, t.val % 9 < 8 → cfg0.idle 4 (grid0.coords t) = true :=
  (by decide +kernel : ∀ t : Fin grid0.N, t.val % 9 < 8 → idle0 4 (grid0.coords t) = true)
theorem flush3 : ∀ t : Fin cfg0.N, (cfg0.win 3).flush t = true ↔ ¬t.val % 9 = 7 :=
  (by decide +kernel : ∀ t : Fin grid0.N, win0_3.flush t = true ↔ ¬t.val % 9 = 7)

/-! ## The pipeline's proof data -/

/-- The scratch between the points: what the last point left in it. -/
def Phi (c : Dev nD) : (n : ℕ) → n ≤ cfg0.N → sProp 𝕄
  | 0, _ => Pipeline.ΦA spec0 c
  | n + 1, hn => iprop(owns (c : Thread nD τ) (Memref.whole cc0_scratch0) fullShare (k0_pay1 (iblk m c 1 ⟨n, hn⟩)) ∗ (∃ r, prngReg c r))

theorem Phi_start (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (k0_pay1 (iblk m c 1 ⟨n - 1, by omega⟩)) ∗ (∃ r, prngReg c r)) := by
  cases n with
  | zero => exact absurd rfl hz
  | succ n => rfl

/-- What the prompt's output block holds after each point, -/
def rows (c : Dev nD) (t : Fin cfg0.N) : Vec F S1024x8x128 .f32 := Heads.split (k0_pay2 (iblk m c 0 t) (k0_pay1 (iblk m c 1 t)))

/-- and what the sample's holds after the points that store it. -/
def tail (c : Dev nD) (t : Fin cfg0.N) : Vec F S512x8x128 .f32 := Heads.split (k0_pay11 (iblk m c 2 t) (k0_pay1 (iblk m c 1 t)))

/-- The proof data: the inputs' blocks stay, the outputs' are the products, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => tail m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the sample's point the prompt's output block is still the one the point before stored. -/
theorem before3 (c : Dev nD) (t : Fin cfg0.N) (h : t.val % 9 = 8) (d) : (dats m 0 c).before 3 t d = rows m c t := by
  rw [(dats m 0 c).before_of_pos 3 t (by omega) rfl d,
    if_neg (fun hf => (flush3 ⟨t.val - 1, Nat.lt_of_le_of_lt (Nat.sub_le _ _) t.isLt⟩).mp hf (by show (t.val - 1) % 9 = 7; omega))]
  unfold Dat.left
  rw [live3 ⟨t.val - 1, Nat.lt_of_le_of_lt (Nat.sub_le _ _) t.isLt⟩ (by show (t.val - 1) % 9 < 8; omega)]
  show (dats m 0 c).kept 3 _ d = _
  unfold Dat.kept
  rw [Pipeline.fill_of_clip_none 3 _ (fun _ => rfl) d _, (cfg0.win 3).fill_cut, after3]
  unfold rows
  rw [iblk0 m c t ⟨t.val - 1, Nat.lt_of_le_of_lt (Nat.sub_le _ _) t.isLt⟩ h (by show t.val - 1 + 1 = t.val; omega),
    iblk1 m c t ⟨t.val - 1, Nat.lt_of_le_of_lt (Nat.sub_le _ _) t.isLt⟩ (by show t.val / 9 = (t.val - 1) / 9; omega)]

/-! ## What the body hands back of the outputs -/

theorem leaves3 (c : Dev nD) (t : Fin cfg0.N) :
    (dats m 0 c).leavesExact 3 t = owns (c : Thread nD τ) (st0_3 t) fullShare (rows m c t) := by
  by_cases h : t.val % 9 = 8
  · unfold Dat.leavesExact; rw [idle3 t h, (flush3 t).mpr (by omega), after3]
  · unfold Dat.leavesExact; rw [live3 t (by omega), after3]

theorem leaves4_live (c : Dev nD) (t : Fin cfg0.N) (h : t.val % 9 = 8) :
    (dats m 0 c).leavesExact 4 t = owns (c : Thread nD τ) (st0_4 t) fullShare (tail m c t) := by
  unfold Dat.leavesExact; rw [live4 t h, after4]

theorem leaves4_idle (c : Dev nD) (t : Fin cfg0.N) (h : t.val % 9 < 8) :
    (dats m 0 c).leavesExact 4 t = iprop(∃ d, owns (c : Thread nD τ) (st0_4 t) fullShare ((dats m 0 c).before 4 t d)) :=
  (dats m 0 c).leavesExact_idle 4 t (idle4 t h) (Bool.eq_false_iff.mpr fun hf => by have := (flush0_4 t).mp hf; omega)

/-! ## The body at every point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The scratch before a point that does not begin a column: the point's own weights, cast. -/
theorem Phi_rest (c : Dev nD) (t : Fin cfg0.N) (h : ¬t.val % 9 = 0) :
    Phi m c t.val (Nat.le_of_lt t.isLt) = iprop(owns (c : Thread nD τ) (Memref.whole cc0_scratch0) fullShare (k0_pay1 (iblk m c 1 t)) ∗ (∃ r, prngReg c r)) := by
  rw [Phi_pos m c _ _ (by omega), iblk1 m c ⟨t.val - 1, Nat.lt_of_le_of_lt (Nat.sub_le _ _) t.isLt⟩ t (by show (t.val - 1) / 9 = t.val / 9; omega)]

/-- The scratch before any point, its contents forgotten. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz; show Pipeline.ΦA spec0 c ⊢ _; rw [Phi_start]
  · rw [Phi_pos m c n h hz]
    iintro ⟨HS, Hg⟩
    isplitl [HS]
    · iexists _; iexact HS
    iexact Hg

set_option maxHeartbeats 3200000 in
/-- The body's triple: the first, the other prompt rows, the sample's rows. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, leaves3]
  rw [show (dats m 0 c).Φ t.succ = iprop(owns (c : Thread nD τ) (Memref.whole cc0_scratch0) fullShare (k0_pay1 (iblk m c 1 t)) ∗ (∃ r, prngReg c r)) from rfl]
  rw [Phi_castSucc m c t]
  unfold rows
  by_cases h8 : t.val % 9 = 8
  · rw [leaves4_live m c t h8, Phi_rest m c t (by omega)]
    simp only [before3 m c t h8]
    unfold rows tail
    iintro ⟨⟨HS, Hg⟩, Ho, ⟨%d0, H0⟩, ⟨%d1, H1⟩, ⟨%d2, H2⟩, ⟨%d3, H3⟩, ⟨%d4, H4⟩⟩
    iapply (run_sample (defs₀ (F := F)) c (grid0.coords t) _ _ _ _ _ _ _ _ _ _ _ _ (fun h => by have := (first_iff t).mp h; omega)
      (fun h => by have := (prompt_iff t).mp h; omega) ((sample_iff t).mpr h8) (iblk m c 0 t) (iblk m c 1 t) (iblk m c 2 t) (k0_pay1 (iblk m c 1 t))
      (Heads.split (k0_pay2 (iblk m c 0 t) (k0_pay1 (iblk m c 1 t)))) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have h7 : t.val % 9 < 8 := by omega
    rw [leaves4_idle m c t h7]
    by_cases h0 : t.val % 9 = 0
    · refine (sep_mono (Phi_any m c _ _) .rfl).trans ?_
      iintro ⟨⟨HS, Hg⟩, Ho, ⟨%d0, H0⟩, ⟨%d1, H1⟩, ⟨%d2, H2⟩, ⟨%d3, H3⟩, ⟨%d4, H4⟩⟩
      iapply (run_first (defs₀ (F := F)) c (grid0.coords t) _ _ _ _ _ _ _ _ _ _ _ _ ((first_iff t).mpr h0)
        ((prompt_iff t).mpr h7) (fun h => h8 ((sample_iff t).mp h)) (iblk m c 0 t) (iblk m c 1 t) (iblk m c 2 t)
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi_rest m c t h0]
      iintro ⟨⟨HS, Hg⟩, Ho, ⟨%d0, H0⟩, ⟨%d1, H1⟩, ⟨%d2, H2⟩, ⟨%d3, H3⟩, ⟨%d4, H4⟩⟩
      iapply (run_prompt (defs₀ (F := F)) c (grid0.coords t) _ _ _ _ _ _ _ _ _ _ _ _ (fun h => h0 ((first_iff t).mp h))
        ((prompt_iff t).mpr h7) (fun h => h8 ((sample_iff t).mp h)) (iblk m c 0 t) (iblk m c 1 t) (iblk m c 2 t) (k0_pay1 (iblk m c 1 t))
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body at that point. -/
theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [Phi_start, show (dats m 0 c).Φ (Fin.last cfg0.N) = Phi m c cfg0.N (Nat.le_refl _) from rfl]
  exact Phi_any m c _ _

/-! ## The run -/

set_option backward.isDefEq.respectTransparency.types false in
/-- Every run ends with the arrays the proof data give, the other buffers as the operations after the region leave them
    and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.KvBIdeal.Own

end
-- ==== Proof.KvB.Frame.lean ====
module

public import proofs.«01_k».proof.Proof.KvB.FrameIdeal
public import proofs.«01_k».proof.Proof.Gen.KvB

@[expose] public section

set_option maxRecDepth 16384

noncomputable section

namespace Cert.KvB.Own

open Cert.KvB Cert.KvB.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The body table is the one of the program read at the ideal numbers. -/
theorem bodies : defs₀ (F := F) = Cert.KvBIdeal.defs₀ (F := F) := by
  unfold defs₀ Cert.KvBIdeal.defs₀
  refine congrArg (Defs.onTc (nD := nD) (τ := τ) (sig := sig) (Val := Elt F) (Λ := Λ₀)) (funext fun l => funext fun a => ?_)
  match l, a with
  | 0, (t, s) => rfl
  | ⟨_ + 1, h⟩, _ => exact absurd h (Nat.not_lt.2 (Nat.le_add_left _ _))

/-- The frame: the program is operation for operation the one read at the ideal numbers, whose frame is proved at every
    reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  unfold defs
  rw [bodies]
  exact Cert.KvBIdeal.Own.frame (F := F) m ρ

end Cert.KvB.Own

end
-- ==== Proof.KvB.Value.lean ====
module

public import proofs.«01_k».proof.Proof.KvB.FrameIdeal
public import proofs.«01_k».proof.Proof.Gen.KvBRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.KvBIdeal.Own

open Idealize.ShloMosaic Idealize.ShloMosaic.TcCoe Idealize.ShloMosaic.Tactic Idealize.SL.Sem
open Idealize.ShloMosaic.Pipeline (Dat)
open Cert.KvBIdeal Cert.KvBIdeal.Gen

variable (m : (ℓ : Loc nD τ sig) → Buf (Elt Ideal) ℓ)

/-- The keys' columns of the weights, as the reference takes them, -/
abbrev partK (w : FVec Ideal S1x2048x23616 .f32) : FVec Ideal Cert.KvBRefIdeal.S2048x1024 .f32 :=
  extractStridedSlice Cert.KvBRefIdeal.S2048x1024 ![0, 14400] (shapeCast Cert.KvBRefIdeal.S2048x23616 w Cert.KvBRefIdeal.Gen.shapeCasts_S1x2048x23616_S2048x23616)
    Cert.KvBRefIdeal.Gen.slices_S2048x23616_S2048x1024_0_14400

/-- and the values'. -/
abbrev partV (w : FVec Ideal S1x2048x23616 .f32) : FVec Ideal Cert.KvBRefIdeal.S2048x1024 .f32 :=
  extractStridedSlice Cert.KvBRefIdeal.S2048x1024 ![0, 17472] (shapeCast Cert.KvBRefIdeal.S2048x23616 w Cert.KvBRefIdeal.Gen.shapeCasts_S1x2048x23616_S2048x23616)
    Cert.KvBRefIdeal.Gen.slices_S2048x23616_S2048x1024_0_17472

/-- One projection of the prompt's rows by columns `p` of the weights, by heads. -/
abbrev half (x : FVec Ideal S8192x2048 .bf16) (p : FVec Ideal Cert.KvBRefIdeal.S2048x1024 .f32) : FVec Ideal Cert.KvBRefIdeal.S8192x8x128 .f32 :=
  shapeCast Cert.KvBRefIdeal.S8192x8x128 (Host.dotGeneral Cert.KvBRefIdeal.dot_S8192x2048_S2048x1024_S8192x1024_1_0_0_1_n_n none (extf .f32 x bitsLt_bf16_f32) p)
    Cert.KvBRefIdeal.Gen.shapeCasts_S8192x1024_S8192x8x128

/-- The keys and the values of the prompt's rows, as the reference writes them. -/
abbrev whole (x : FVec Ideal S8192x2048 .bf16) (w : FVec Ideal S1x2048x23616 .f32) : FVec Ideal S8192x16x128 .f32 :=
  concatenate S8192x16x128 1 [⟨Cert.KvBRefIdeal.S8192x8x128, half x (partK w)⟩, ⟨Cert.KvBRefIdeal.S8192x8x128, half x (partV w)⟩]
    Cert.KvBRefIdeal.Gen.concatenates_S8192x8x128_S8192x8x128_S8192x16x128_d1

/-- One projection of the sample's rows by columns `p` of the weights, by heads. -/
abbrev halfS (x : FVec Ideal S512x2048 .bf16) (p : FVec Ideal Cert.KvBRefIdeal.S2048x1024 .f32) : FVec Ideal Cert.KvBRefIdeal.S512x8x128 .f32 :=
  shapeCast Cert.KvBRefIdeal.S512x8x128 (Host.dotGeneral Cert.KvBRefIdeal.dot_S512x2048_S2048x1024_S512x1024_1_0_0_1_n_n none (extf .f32 x bitsLt_bf16_f32) p)
    Cert.KvBRefIdeal.Gen.shapeCasts_S512x1024_S512x8x128

/-- The keys and the values of the sample's rows, as the reference writes them. -/
abbrev wholeS (x : FVec Ideal S512x2048 .bf16) (w : FVec Ideal S1x2048x23616 .f32) : FVec Ideal S512x16x128 .f32 :=
  concatenate S512x16x128 1 [⟨Cert.KvBRefIdeal.S512x8x128, halfS x (partK w)⟩, ⟨Cert.KvBRefIdeal.S512x8x128, halfS x (partV w)⟩]
    Cert.KvBRefIdeal.Gen.concatenates_S512x8x128_S512x8x128_S512x16x128_d1

/-- Where the windows' blocks sit at each point. -/
theorem places : ∀ t : Fin cfg0.N, win0_0.index t = ![min (t.val % 9) 7, 0] ∧ win0_1.index t = ![14400 + 3072 * (t.val / 9), 0]
    ∧ win0_2.index t = ![0, 0] ∧ win0_3.index t = ![min (t.val % 9) 7, t.val / 9, 0] ∧ win0_4.index t = ![0, t.val / 9, 0] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg2) : FVec Ideal S1x2048x23616 .f32) (ix3 (0 : Fin 1) j i) := by
  show (StableHlo.after hostOps0 (fun b => m (c, b)) (Proc.tc.devRef main_v1) : FVec Ideal S23616x2048 .f32) (ix2 i j) = _
  after_results_simp
  pointwise

/-- Where an entry of a weights' block sits in the array. -/
theorem off (t : Fin cfg0.N) (z) (a) : ((win0_1.rect t).emb z a : Nat) = win0_1.index t a + z a := win0_1.rect_emb_val_off t z a

/-- A weights' block, entry by entry. -/
theorem wblk (c : Dev nD) (t : Fin cfg0.N) (i : Fin 1024) (j : Fin 2048) : iblk m c 1 t (ix2 i j)
    = (m ((c : Thread nD τ).loc main_arg2) : FVec Ideal S1x2048x23616 .f32) (ix3 (0 : Fin 1) j ⟨14400 + 3072 * (t.val / 9) + i.val, by
      have := t.isLt
      have e : cfg0.N = 18 := rfl
      omega⟩) := by
  rw [← weight m c]
  refine congrArg (V m c main_v1) (funext fun a => Fin.ext ((off t _ a).trans ?_))
  rw [(places t).2.1]
  match a with
  | ⟨0, _⟩ => rfl
  | ⟨1, _⟩ => exact Nat.zero_add _

/-- The head a point stores the head `y 1` at, of the prompt -/
theorem head3 (t : Fin cfg0.N) (y) : ((((cfg0.win 3).blk t).view.emb y) 1 : Nat) = t.val / 9 * 8 + (y 1).val := by
  refine (win0_3.rect_emb_val_off t y 1).trans ?_
  show win0_3.index t 1 * 8 + (y 1).val = _
  rw [(places t).2.2.2.1]
  rfl

/-- and of the sample. -/
theorem head4 (t : Fin cfg0.N) (y) : ((((cfg0.win 4).blk t).view.emb y) 1 : Nat) = t.val / 9 * 8 + (y 1).val := by
  refine (win0_4.rect_emb_val_off t y 1).trans ?_
  show win0_4.index t 1 * 8 + (y 1).val = _
  rw [(places t).2.2.2.2]
  rfl

/-- What a point stores of the prompt is the reference's entry at the place it stores it. -/
theorem point (c : Dev nD) (t : Fin cfg0.N) (y) : rows m c t y
    = whole (m ((c : Thread nD τ).loc main_arg0)) (m ((c : Thread nD τ).loc main_arg2)) (((cfg0.win 3).blk t).view.emb y) := by
  unfold rows Heads.split
  pointwise [k0_pay1, k0_pay2, whole, half, partK, partV, wblk m c t]
  blk_point [iblk, V, places t]
  · rename_i h _ _
    have h' := lt_of_eq_of_lt (head3 t y).symm h
    omega
  · rename_i h _ _
    have h' : ¬(t.val / 9 * 8 + (y 1).val < 8) := fun hc => h (lt_of_eq_of_lt (head3 t y) hc)
    omega

/-- What a point stores of the sample is the reference's entry at the place it stores it. -/
theorem pointS (c : Dev nD) (t : Fin cfg0.N) (y) : tail m c t y
    = wholeS (m ((c : Thread nD τ).loc main_arg1)) (m ((c : Thread nD τ).loc main_arg2)) (((cfg0.win 4).blk t).view.emb y) := by
  unfold tail Heads.split
  pointwise [k0_pay1, k0_pay11, wholeS, halfS, partK, partV, wblk m c t]
  blk_point [iblk, V, places t]
  · rename_i h _ _
    have h' := lt_of_eq_of_lt (head4 t y).symm h
    omega
  · rename_i h _ _
    have h' : ¬(t.val / 9 * 8 + (y 1).val < 8) := fun hc => h (lt_of_eq_of_lt (head4 t y) hc)
    omega

/-- The prompt's result array after the run. -/
theorem final (c : Dev nD) : (dats m 0 c).arrAt 3 (cfgs 0).N = whole (m ((c : Thread nD τ).loc main_arg0)) (m ((c : Thread nD τ).loc main_arg2)) := by
  refine (dats m 0 c).arrAt_eq_of_covers 3 _ (by decide +kernel) fun t _ y => ?_
  blk_simp
  rw [after3]
  exact point m c t y

/-- The sample's result array after the run. -/
theorem finalS (c : Dev nD) : (dats m 0 c).arrAt 4 (cfgs 0).N = wholeS (m ((c : Thread nD τ).loc main_arg1)) (m ((c : Thread nD τ).loc main_arg2)) := by
  refine (dats m 0 c).arrAt_eq_of_covers 4 _ (by decide +kernel) fun t _ y => ?_
  blk_simp
  rw [after4]
  exact pointS m c t y

/-- Keys and values side by side as 16 heads, seen as pairs of 8 and cut to the last 512 positions, -/
abbrev cut (a : FVec Ideal S8192x16x128 .f32) : FVec Ideal S4x512x2x8x128 .f32 :=
  extractStridedSlice S4x512x2x8x128 ![0, 1536, 0, 0, 0] (shapeCast S4x2048x2x8x128 a shapeCasts_S8192x16x128_S4x2048x2x8x128)
    slices_S4x2048x2x8x128_S4x512x2x8x128_0_1536_0_0_0

/-- one of the two cut to these positions, with an axis for the pair, -/
abbrev part (k : FVec Ideal Cert.KvBRefIdeal.S8192x8x128 .f32) : FVec Ideal Cert.KvBRefIdeal.S4x512x1x8x128 .f32 :=
  broadcastInDim Cert.KvBRefIdeal.S4x512x1x8x128 ![0, 1, 3, 4] Cert.KvBRefIdeal.Gen.bcast_S4x512x8x128_S4x512x1x8x128_0_1_3_4
    (extractStridedSlice Cert.KvBRefIdeal.S4x512x8x128 ![0, 1536, 0, 0] (shapeCast Cert.KvBRefIdeal.S4x2048x8x128 k Cert.KvBRefIdeal.Gen.shapeCasts_S8192x8x128_S4x2048x8x128)
      Cert.KvBRefIdeal.Gen.slices_S4x2048x8x128_S4x512x8x128_0_1536_0_0)

/-- and the two stacked on that axis, as the reference writes them. -/
abbrev pair (k v : FVec Ideal Cert.KvBRefIdeal.S8192x8x128 .f32) : FVec Ideal S4x512x2x8x128 .f32 :=
  concatenate S4x512x2x8x128 2 [⟨Cert.KvBRefIdeal.S4x512x1x8x128, part k⟩, ⟨Cert.KvBRefIdeal.S4x512x1x8x128, part v⟩]
    Cert.KvBRefIdeal.Gen.concatenates_S4x512x1x8x128_S4x512x1x8x128_S4x512x2x8x128_d2

/-- Where an entry of the pairs of heads sits among the 16 heads of its row, -/
theorem cast5 (a : FVec Ideal S8192x16x128 .f32) (s : Fin 4) (r : Fin 2048) (p : Fin 2) (h : Fin 8) (e : Fin 128) :
    shapeCast S4x2048x2x8x128 a shapeCasts_S8192x16x128_S4x2048x2x8x128 (ix5 s r p h e) = a (ix3 ⟨s.val * 2048 + r.val, by omega⟩ ⟨p.val * 8 + h.val, by omega⟩ e) := by
  pointwise

/-- and one of 8 heads by sequences. -/
theorem cast4 (k : FVec Ideal Cert.KvBRefIdeal.S8192x8x128 .f32) (s : Fin 4) (r : Fin 2048) (h : Fin 8) (e : Fin 128) :
    shapeCast Cert.KvBRefIdeal.S4x2048x8x128 k Cert.KvBRefIdeal.Gen.shapeCasts_S8192x8x128_S4x2048x8x128 (ix4 s r h e) = k (ix3 ⟨s.val * 2048 + r.val, by omega⟩ h e) := by
  pointwise

/-- An entry of the heads side by side. -/
theorem side (k v : FVec Ideal Cert.KvBRefIdeal.S8192x8x128 .f32) (r : Fin 8192) (a : Fin 16) (e : Fin 128) :
    concatenate S8192x16x128 1 [⟨Cert.KvBRefIdeal.S8192x8x128, k⟩, ⟨Cert.KvBRefIdeal.S8192x8x128, v⟩] Cert.KvBRefIdeal.Gen.concatenates_S8192x8x128_S8192x8x128_S8192x16x128_d1 (ix3 r a e)
      = if h : a.val < 8 then k (ix3 r ⟨a.val, h⟩ e) else v (ix3 r ⟨a.val - 8, by omega⟩ e) := by
  pointwise

/-- An entry of the cut. -/
theorem cut_at (a : FVec Ideal S8192x16x128 .f32) (s : Fin 4) (i : Fin 512) (p : Fin 2) (h : Fin 8) (e : Fin 128) :
    cut a (ix5 s i p h e) = a (ix3 ⟨s.val * 2048 + (1536 + i.val), by omega⟩ ⟨p.val * 8 + h.val, by omega⟩ e) := by
  refine Eq.trans ?_ (cast5 a s ⟨1536 + i.val, by omega⟩ p h e)
  unfold cut
  generalize shapeCast S4x2048x2x8x128 a shapeCasts_S8192x16x128_S4x2048x2x8x128 = b
  pointwise

/-- An entry of one of the two. -/
theorem part_at (k : FVec Ideal Cert.KvBRefIdeal.S8192x8x128 .f32) (s : Fin 4) (i : Fin 512) (q : Fin 1) (h : Fin 8) (e : Fin 128) :
    part k (ix5 s i q h e) = k (ix3 ⟨s.val * 2048 + (1536 + i.val), by omega⟩ h e) := by
  refine Eq.trans ?_ (cast4 k s ⟨1536 + i.val, by omega⟩ h e)
  unfold part
  generalize shapeCast Cert.KvBRefIdeal.S4x2048x8x128 k Cert.KvBRefIdeal.Gen.shapeCasts_S8192x8x128_S4x2048x8x128 = b
  pointwise

/-- An entry of the two stacked. -/
theorem pair_at (k v : FVec Ideal Cert.KvBRefIdeal.S8192x8x128 .f32) (s : Fin 4) (i : Fin 512) (p : Fin 2) (h : Fin 8) (e : Fin 128) :
    pair k v (ix5 s i p h e) = if c : p.val < 1 then part k (ix5 s i ⟨p.val, c⟩ h e) else part v (ix5 s i ⟨p.val - 1, by omega⟩ h e) := by
  unfold pair
  generalize part k = a
  generalize part v = b
  pointwise

/-- The last positions of the heads side by side are the stacked last positions. -/
theorem cut_pair (k v : FVec Ideal Cert.KvBRefIdeal.S8192x8x128 .f32) :
    cut (concatenate S8192x16x128 1 [⟨Cert.KvBRefIdeal.S8192x8x128, k⟩, ⟨Cert.KvBRefIdeal.S8192x8x128, v⟩] Cert.KvBRefIdeal.Gen.concatenates_S8192x8x128_S8192x8x128_S8192x16x128_d1) = pair k v := by
  funext z
  obtain ⟨s, i, p, h, e, rfl⟩ : ∃ (s : Fin 4) (i : Fin 512) (p : Fin 2) (h : Fin 8) (e : Fin 128), z = ix5 s i p h e := ⟨z 0, z 1, z 2, z 3, z 4, eq_ix5 z⟩
  rw [cut_at, side, pair_at]
  by_cases c : p.val < 1
  · rw [dif_pos c, dif_pos (show p.val * 8 + h.val < 8 by omega), part_at]
    exact congrArg (fun a => k (ix3 _ a e)) (Fin.ext (show p.val * 8 + h.val = h.val by omega))
  · rw [dif_neg c, dif_neg (show ¬p.val * 8 + h.val < 8 by omega), part_at]
    exact congrArg (fun a => v (ix3 _ a e)) (Fin.ext (show p.val * 8 + h.val - 8 = h.val by omega))

/-- The last positions after the operations that follow the region. -/
theorem sliced (c : Dev nD) : Pipeline.afterTail₀ cfgs (dats m) 0 (V0 m) [hostOps1] c main_v4
    = cut (whole (m ((c : Thread nD τ).loc main_arg0)) (m ((c : Thread nD τ).loc main_arg2))) := by
  rw [← final m c]
  show StableHlo.after hostOps1 _ _ = _
  after_results_simp
  exact congrArg cut (Pipeline.withArrays_arr spec0 (by decide) c (V0 m c) (fun w => (dats m 0 c).arrAt w (cfgs 0).N) 3)

/-- The claim. -/
theorem algebraic : Cert.algebraic_KvBIdeal_KvBRefIdeal := by
  pair_intro
  · run_from Cert.KvBIdeal.Own.run_main m g
    exact W_main_arg2 m (dats m) c
  · hlo_run
    · rw [(hagree c).2.2]
      exact (final m c).symm
    · rw [(hagree c).2.1, (hagree c).2.2]
      exact (finalS m c).symm
    · rw [(hagree c).2.2]
      exact ((sliced m c).trans (cut_pair _ _)).symm

end Cert.KvBIdeal.Own

end
-- ==== Proof.KvC.RunIdeal.lean ====
module

public import proofs.«01_k».proof.Proof.Gen.KvCIdeal.Frame
public import proofs.«01_k».proof.Proof.Gen.KvCIdeal.Skeleton
public import proofs.«01_k».proof.Proof.Heads.Store
public import Idealize.ShloMosaic.Lib.VecWindow

@[expose] public section

set_option maxRecDepth 16384

noncomputable section

namespace Cert.KvCIdeal.Own

open Cert.KvCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions of the body -/

/-- A column of blocks begins: the weights are cast. -/
abbrev first (i : grid0.Coords) : Prop := (Scalar.cmpi .ne (Scalar.extui (Scalar.cmpi .eq (BitVec.ofNat 32 (i 1).val) 0#32)) 0#32) = 1#1

theorem first_iff : ∀ t : Fin cfg0.N, first (grid0.coords t) ↔ t.val % 9 = 0 :=
  (by decide +kernel : ∀ t : Fin grid0.N, first (grid0.coords t) ↔ t.val % 9 = 0)

/-- The point is one of the prompt's rows. -/
theorem prompt_iff : ∀ t : Fin cfg0.N, k0_cond2 (grid0.coords t) = 1#1 ↔ t.val % 9 < 8 :=
  (by decide +kernel : ∀ t : Fin grid0.N, k0_cond2 (grid0.coords t) = 1#1 ↔ t.val % 9 < 8)

/-- The point is the sample's. -/
theorem sample_iff : ∀ t : Fin cfg0.N, k0_cond3 (grid0.coords t) = 1#1 ↔ t.val % 9 = 8 :=
  (by decide +kernel : ∀ t : Fin grid0.N, k0_cond3 (grid0.coords t) = 1#1 ↔ t.val % 9 = 8)

/-! ## The body in its three cases, under any body table -/

section
variable (D : Defs nD τ sig (Elt F) Λ₀) (c : Dev nD) (i : grid0.Coords)
  (arg2 : Memref sig .tc .vmem S1024x2048 .bf16) (harg2 : arg2.IsWhole) (arg3 : Memref sig .tc .vmem S1024x2048 .f32) (harg3 : arg3.IsWhole)
  (arg4 : Memref sig .tc .vmem S512x2048 .bf16) (harg4 : arg4.IsWhole) (arg5 : Memref sig .tc .vmem S1024x8x128 .f32) (harg5 : arg5.IsWhole)
  (arg6 : Memref sig .tc .vmem S512x8x128 .f32) (harg6 : arg6.IsWhole) (arg7 : Memref sig .tc .vmem S1024x2048 .bf16) (harg7 : arg7.IsWhole)

set_option maxHeartbeats 1000000 in
/-- At the first rows of a column the body casts the weights into the scratch and multiplies by them. -/
theorem run_first (h0 : first i) (h1 : k0_cond2 i = 1#1) (h2 : ¬k0_cond3 i = 1#1)
    (x0 : Vec F S1024x2048 .bf16) (x1 : Vec F S1024x2048 .f32) (x2 : Vec F S512x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 (k0_pay1 x1))) ∗ owns (c : Thread nD τ) arg6 fullShare x4
          ∗ owns (c : Thread nD τ) arg7 fullShare (k0_pay1 x1)) -∗ K ⟨⟩))
      ⊢ wp frame (wpE D Variants.none c none) E (cc0_in_kv2 i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_kv2_eq_skeleton]; unfold cc0_in_kv2_skel
  unfold owns
  iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
  obtain rfl := harg2.eq_unread hf0; obtain rfl := harg3.eq_unread hf1; obtain rfl := harg4.eq_unread hf2; obtain rfl := harg6.eq_unread hf4
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    unfold run_first.sl.v10 run_first.sl.HS_1
    rw [View.readCov_full, View.readAt_full, View.readAt_full, harg2.read_unread, harg3.read_unread]
    have key := Heads.read_pieces (Val := Elt F) (R := 1024) (N := 8192) rfl (k0_pay2 x0 (k0_pay1 x1)) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; swap; · iexact HS
  ipureintro
  unfold run_first.sl.HS_1
  rw [View.read_writes_full, View.readAt_full, harg3.read_unread]

set_option maxHeartbeats 1000000 in
/-- At the prompt's other rows the body multiplies by the weights in the scratch. -/
theorem run_prompt (h0 : ¬first i) (h1 : k0_cond2 i = 1#1) (h2 : ¬k0_cond3 i = 1#1)
    (x0 : Vec F S1024x2048 .bf16) (x1 : Vec F S1024x2048 .f32) (x2 : Vec F S512x2048 .bf16) (xs : Vec F S1024x2048 .bf16) (x4 : Vec F S512x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare (Heads.split (k0_pay2 x0 xs)) ∗ owns (c : Thread nD τ) arg6 fullShare x4
          ∗ owns (c : Thread nD τ) arg7 fullShare xs) -∗ K ⟨⟩))
      ⊢ wp frame (wpE D Variants.none c none) E (cc0_in_kv2 i arg2 harg2 arg3 harg3 arg4 harg4 arg5 harg5 arg6 harg6 arg7 harg7) K := by
  simp only [Heads.owns_rows (c : Thread nD τ) arg5 fullShare reshapes_S1024x8x128_S8192x128.1 reshapes_S1024x8x128_S8192x128.2 harg5.contiguous, Heads.flatten_prompt]
  simp only [cc0_in_kv2_eq_skeleton]; unfold cc0_in_kv2_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg6.eq_unread hf4; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.readAt_full, View.readAt_full, harg2.read_unread, harg7.read_unread]
    have key := Heads.read_pieces (Val := Elt F) (R := 1024) (N := 8192) rfl (k0_pay2 x0 xs) (arg5.reshape S8192x128 reshapes_S1024x8x128_S8192x128.1 reshapes_S1024x8x128_S8192x128.2 harg5.contiguous).view
    exact key f3
  isplitl [H4]
  · iexists _; isplitr; · ipureintro; exact harg6.read_unread _
    iexact H4
  iexists _; isplitr; · ipureintro; exact harg7.read_unread _
  iexact HS

set_option maxHeartbeats 1000000 in
/-- At the sample's rows the body multiplies the sample's block by the weights in the scratch. -/
theorem run_sample (h0 : ¬first i) (h1 : ¬k0_cond2 i = 1#1) (h2 : k0_cond3 i = 1#1)
    (x0 : Vec F S1024x2048 .bf16) (x1 : Vec F S1024x2048 .f32) (x2 : Vec F S512x2048 .bf16) (xs : Vec F S1024x2048 .bf16) (x3 : Vec F S1024x8x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (Heads.split (k0_pay11 x2 xs))
          ∗ owns (c : Thread nD τ) arg7 fullShare xs) -∗ K ⟨⟩))
      ⊢ wp frame (wpE D Variants.none c none) E (cc0_in_kv2 i arg2 harg2 arg3 harg3 arg4 harg4 arg5 harg5 arg6 harg6 arg7 harg7) K := by
  simp only [Heads.owns_rows (c : Thread nD τ) arg6 fullShare reshapes_S512x8x128_S4096x128.1 reshapes_S512x8x128_S4096x128.2 harg6.contiguous, Heads.flatten_sample]
  simp only [cc0_in_kv2_eq_skeleton]; unfold cc0_in_kv2_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | sl_exact h0 | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [View.readAt_full, View.readAt_full, harg4.read_unread, harg7.read_unread]
    have key := Heads.read_pieces (Val := Elt F) (R := 512) (N := 4096) rfl (k0_pay11 x2 xs) (arg6.reshape S4096x128 reshapes_S512x8x128_S4096x128.1 reshapes_S512x8x128_S4096x128.2 harg6.contiguous).view
    exact key f4
  iexists _; isplitr; · ipureintro; exact harg7.read_unread _
  iexact HS

end

end Cert.KvCIdeal.Own

end
-- ==== Proof.KvC.FrameIdeal.lean ====
module

public import proofs.«01_k».proof.Proof.KvC.RunIdeal
public import Idealize.ShloMosaic.Lib.Claim
public import Idealize.ShloMosaic.Lib.Pipeline.ValueKit

@[expose] public section

set_option maxRecDepth 16384

noncomputable section

namespace Cert.KvCIdeal.Own

open Cert.KvCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which windows' blocks the points share -/

/-- Inside a column of blocks the weights' block stays. -/
theorem index1 : ∀ t u : Fin cfg0.N, t.val / 9 = u.val / 9 → win0_1.index t = win0_1.index u :=
  (by decide +kernel : ∀ t u : Fin grid0.N, t.val / 9 = u.val / 9 → win0_1.index t = win0_1.index u)

/-- The sample's point has the prompt block of the point before it. -/
theorem index0 : ∀ t u : Fin cfg0.N, t.val % 9 = 8 → u.val + 1 = t.val → win0_0.index t = win0_0.index u :=
  (by decide +kernel : ∀ t u : Fin grid0.N, t.val % 9 = 8 → u.val + 1 = t.val → win0_0.index t = win0_0.index u)

theorem iblk1 (c : Dev nD) (t u : Fin cfg0.N) (h : t.val / 9 = u.val / 9) : iblk m c 1 t = iblk m c 1 u := by
  funext y
  unfold iblk
  refine congrArg (V m c main_v1) (funext fun a => Fin.ext ?_)
  refine (win0_1.rect_emb_val_off t y a).trans (Eq.trans ?_ (win0_1.rect_emb_val_off u y a).symm)
  rw [index1 t u h]

theorem iblk0 (c : Dev nD) (t u : Fin cfg0.N) (h : t.val % 9 = 8) (hu : u.val + 1 = t.val) : iblk m c 0 t = iblk m c 0 u := by
  funext y
  unfold iblk
  refine congrArg (V m c main_arg0) (funext fun a => Fin.ext ?_)
  refine (win0_0.rect_emb_val_off t y a).trans (Eq.trans ?_ (win0_0.rect_emb_val_off u y a).symm)
  rw [index0 t u h hu]

/-! ## Where the outputs are stored and written back -/

theorem live3 : ∀ t : Fin cfg0.N, t.val % 9 < 8 → cfg0.idle 3 (grid0.coords t) = false :=
  (by decide +kernel : ∀ t : Fin grid0.N, t.val % 9 < 8 → idle0 3 (grid0.coords t) = false)
theorem idle3 : ∀ t : Fin cfg0.N, t.val % 9 = 8 → cfg0.idle 3 (grid0.coords t) = true :=
  (by decide +kernel : ∀ t : Fin grid0.N, t.val % 9 = 8 → idle0 3 (grid0.coords t) = true)
theorem live4 : ∀ t : Fin cfg0.N, t.val % 9 = 8 → cfg0.idle 4 (grid0.coords t) = false :=
  (by decide +kernel : ∀ t : Fin grid0.N, t.val % 9 = 8 → idle0 4 (grid0.coords t) = false)
theorem idle4 : ∀ t : Fin cfg0.N, t.val % 9 < 8 → cfg0.idle 4 (grid0.coords t) = true :=
  (by decide +kernel : ∀ t : Fin grid0.N, t.val % 9 < 8 → idle0 4 (grid0.coords t) = true)
theorem flush3 : ∀ t : Fin cfg0.N, (cfg0.win 3).flush t = true ↔ ¬t.val % 9 = 7 :=
  (by decide +kernel : ∀ t : Fin grid0.N, win0_3.flush t = true ↔ ¬t.val % 9 = 7)

/-! ## The pipeline's proof data -/

/-- The scratch between the points: what the last point left in it. -/
def Phi (c : Dev nD) : (n : ℕ) → n ≤ cfg0.N → sProp 𝕄
  | 0, _ => Pipeline.ΦA spec0 c
  | n + 1, hn => iprop(owns (c : Thread nD τ) (Memref.whole cc0_scratch0) fullShare (k0_pay1 (iblk m c 1 ⟨n, hn⟩)) ∗ (∃ r, prngReg c r))

theorem Phi_start (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem Phi_pos (c : Dev nD) (n : ℕ) (h : n ≤ cfg0.N) (hz : n ≠ 0) :
    Phi m c n h = iprop(owns (c : Thread nD τ) (Memref.whole cc0_scratch0) fullShare (k0_pay1 (iblk m c 1 ⟨n - 1, by omega⟩)) ∗ (∃ r, prngReg c r)) := by
  cases n with
  | zero => exact absurd rfl hz
  | succ n => rfl

/-- What the prompt's output block holds after each point, -/
def rows (c : Dev nD) (t : Fin cfg0.N) : Vec F S1024x8x128 .f32 := Heads.split (k0_pay2 (iblk m c 0 t) (k0_pay1 (iblk m c 1 t)))

/-- and what the sample's holds after the points that store it. -/
def tail (c : Dev nD) (t : Fin cfg0.N) : Vec F S512x8x128 .f32 := Heads.split (k0_pay11 (iblk m c 2 t) (k0_pay1 (iblk m c 1 t)))

/-- The proof data: the inputs' blocks stay, the outputs' are the products, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => tail m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rows m c t := by dsimp only [dats]
theorem after4 (c : Dev nD) (t : Fin cfg0.N) : (dats m 0 c).after 4 t = tail m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the sample's point the prompt's output block is still the one the point before stored. -/
theorem before3 (c : Dev nD) (t : Fin cfg0.N) (h : t.val % 9 = 8) (d) : (dats m 0 c).before 3 t d = rows m c t := by
  rw [(dats m 0 c).before_of_pos 3 t (by omega) rfl d,
    if_neg (fun hf => (flush3 ⟨t.val - 1, Nat.lt_of_le_of_lt (Nat.sub_le _ _) t.isLt⟩).mp hf (by show (t.val - 1) % 9 = 7; omega))]
  unfold Dat.left
  rw [live3 ⟨t.val - 1, Nat.lt_of_le_of_lt (Nat.sub_le _ _) t.isLt⟩ (by show (t.val - 1) % 9 < 8; omega)]
  show (dats m 0 c).kept 3 _ d = _
  unfold Dat.kept
  rw [Pipeline.fill_of_clip_none 3 _ (fun _ => rfl) d _, (cfg0.win 3).fill_cut, after3]
  unfold rows
  rw [iblk0 m c t ⟨t.val - 1, Nat.lt_of_le_of_lt (Nat.sub_le _ _) t.isLt⟩ h (by show t.val - 1 + 1 = t.val; omega),
    iblk1 m c t ⟨t.val - 1, Nat.lt_of_le_of_lt (Nat.sub_le _ _) t.isLt⟩ (by show t.val / 9 = (t.val - 1) / 9; omega)]

/-! ## What the body hands back of the outputs -/

theorem leaves3 (c : Dev nD) (t : Fin cfg0.N) :
    (dats m 0 c).leavesExact 3 t = owns (c : Thread nD τ) (st0_3 t) fullShare (rows m c t) := by
  by_cases h : t.val % 9 = 8
  · unfold Dat.leavesExact; rw [idle3 t h, (flush3 t).mpr (by omega), after3]
  · unfold Dat.leavesExact; rw [live3 t (by omega), after3]

theorem leaves4_live (c : Dev nD) (t : Fin cfg0.N) (h : t.val % 9 = 8) :
    (dats m 0 c).leavesExact 4 t = owns (c : Thread nD τ) (st0_4 t) fullShare (tail m c t) := by
  unfold Dat.leavesExact; rw [live4 t h, after4]

theorem leaves4_idle (c : Dev nD) (t : Fin cfg0.N) (h : t.val % 9 < 8) :
    (dats m 0 c).leavesExact 4 t = iprop(∃ d, owns (c : Thread nD τ) (st0_4 t) fullShare ((dats m 0 c).before 4 t d)) :=
  (dats m 0 c).leavesExact_idle 4 t (idle4 t h) (Bool.eq_false_iff.mpr fun hf => by have := (flush0_4 t).mp hf; omega)

/-! ## The body at every point -/

/-- What the body is called with, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ (dats m 0 c).leavesExact 4 t)

/-- The scratch before a point that does not begin a column: the point's own weights, cast. -/
theorem Phi_rest (c : Dev nD) (t : Fin cfg0.N) (h : ¬t.val % 9 = 0) :
    Phi m c t.val (Nat.le_of_lt t.isLt) = iprop(owns (c : Thread nD τ) (Memref.whole cc0_scratch0) fullShare (k0_pay1 (iblk m c 1 t)) ∗ (∃ r, prngReg c r)) := by
  rw [Phi_pos m c _ _ (by omega), iblk1 m c ⟨t.val - 1, Nat.lt_of_le_of_lt (Nat.sub_le _ _) t.isLt⟩ t (by show (t.val - 1) / 9 = t.val / 9; omega)]

/-- The scratch before any point, its contents forgotten. -/
theorem Phi_any (c : Dev nD) (n : ℕ) (h : n ≤ cfg0.N) :
    Phi m c n h ⊢ iprop((∃ d, owns (c : Thread nD τ) (Memref.whole cc0_scratch0) fullShare d) ∗ (∃ r, prngReg c r)) := by
  by_cases hz : n = 0
  · subst hz; show Pipeline.ΦA spec0 c ⊢ _; rw [Phi_start]
  · rw [Phi_pos m c n h hz]
    iintro ⟨HS, Hg⟩
    isplitl [HS]
    · iexists _; iexact HS
    iexact Hg

set_option maxHeartbeats 3200000 in
/-- The body's triple: the first, the other prompt rows, the sample's rows. -/
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, leaves3]
  rw [show (dats m 0 c).Φ t.succ = iprop(owns (c : Thread nD τ) (Memref.whole cc0_scratch0) fullShare (k0_pay1 (iblk m c 1 t)) ∗ (∃ r, prngReg c r)) from rfl]
  rw [Phi_castSucc m c t]
  unfold rows
  by_cases h8 : t.val % 9 = 8
  · rw [leaves4_live m c t h8, Phi_rest m c t (by omega)]
    simp only [before3 m c t h8]
    unfold rows tail
    iintro ⟨⟨HS, Hg⟩, Ho, ⟨%d0, H0⟩, ⟨%d1, H1⟩, ⟨%d2, H2⟩, ⟨%d3, H3⟩, ⟨%d4, H4⟩⟩
    iapply (run_sample (defs₀ (F := F)) c (grid0.coords t) _ _ _ _ _ _ _ _ _ _ _ _ (fun h => by have := (first_iff t).mp h; omega)
      (fun h => by have := (prompt_iff t).mp h; omega) ((sample_iff t).mpr h8) (iblk m c 0 t) (iblk m c 1 t) (iblk m c 2 t) (k0_pay1 (iblk m c 1 t))
      (Heads.split (k0_pay2 (iblk m c 0 t) (k0_pay1 (iblk m c 1 t)))) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have h7 : t.val % 9 < 8 := by omega
    rw [leaves4_idle m c t h7]
    by_cases h0 : t.val % 9 = 0
    · refine (sep_mono (Phi_any m c _ _) .rfl).trans ?_
      iintro ⟨⟨HS, Hg⟩, Ho, ⟨%d0, H0⟩, ⟨%d1, H1⟩, ⟨%d2, H2⟩, ⟨%d3, H3⟩, ⟨%d4, H4⟩⟩
      iapply (run_first (defs₀ (F := F)) c (grid0.coords t) _ _ _ _ _ _ _ _ _ _ _ _ ((first_iff t).mpr h0)
        ((prompt_iff t).mpr h7) (fun h => h8 ((sample_iff t).mp h)) (iblk m c 0 t) (iblk m c 1 t) (iblk m c 2 t)
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [Phi_rest m c t h0]
      iintro ⟨⟨HS, Hg⟩, Ho, ⟨%d0, H0⟩, ⟨%d1, H1⟩, ⟨%d2, H2⟩, ⟨%d3, H3⟩, ⟨%d4, H4⟩⟩
      iapply (run_prompt (defs₀ (F := F)) c (grid0.coords t) _ _ _ _ _ _ _ _ _ _ _ _ (fun h => h0 ((first_iff t).mp h))
        ((prompt_iff t).mpr h7) (fun h => h8 ((sample_iff t).mp h)) (iblk m c 0 t) (iblk m c 1 t) (iblk m c 2 t) (k0_pay1 (iblk m c 1 t))
        ((dats m 0 c).before 4 t d4) Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at a point is the body at that point. -/
theorem row (t : Fin cfg0.N) : defs₀ (F := F) .tc cfg0.body (cfg0.bodyArgs t (cfg0.slots t)) = bodyAt0 t := by
  unfold defs₀; rw [Defs.onTc_tc]

/-- The body meets its obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [Phi_start, show (dats m 0 c).Φ (Fin.last cfg0.N) = Phi m c cfg0.N (Nat.le_refl _) from rfl]
  exact Phi_any m c _ _

/-! ## The run -/

set_option backward.isDefEq.respectTransparency.types false in
/-- Every run ends with the arrays the proof data give and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.KvCIdeal.Own

end
-- ==== Proof.KvC.Frame.lean ====
module

public import proofs.«01_k».proof.Proof.KvC.FrameIdeal
public import proofs.«01_k».proof.Proof.Gen.KvC

@[expose] public section

set_option maxRecDepth 16384

noncomputable section

namespace Cert.KvC.Own

open Cert.KvC Cert.KvC.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The body table is the one of the program read at the ideal numbers. -/
theorem bodies : defs₀ (F := F) = Cert.KvCIdeal.defs₀ (F := F) := by
  unfold defs₀ Cert.KvCIdeal.defs₀
  refine congrArg (Defs.onTc (nD := nD) (τ := τ) (sig := sig) (Val := Elt F) (Λ := Λ₀)) (funext fun l => funext fun a => ?_)
  match l, a with
  | 0, (t, s) => rfl
  | ⟨_ + 1, h⟩, _ => exact absurd h (Nat.not_lt.2 (Nat.le_add_left _ _))

/-- The frame: the program is operation for operation the one read at the ideal numbers, whose frame is proved at every
    reading. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  unfold defs
  rw [bodies]
  exact Cert.KvCIdeal.Own.frame (F := F) m ρ

end Cert.KvC.Own

end
-- ==== Proof.KvC.Value.lean ====
module

public import proofs.«01_k».proof.Proof.KvC.FrameIdeal
public import proofs.«01_k».proof.Proof.Gen.KvCRefIdeal
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

namespace Cert.KvCIdeal.Own

open Idealize.ShloMosaic Idealize.ShloMosaic.TcCoe Idealize.ShloMosaic.Tactic Idealize.SL.Sem
open Idealize.ShloMosaic.Pipeline (Dat)
open Cert.KvCIdeal Cert.KvCIdeal.Gen

variable (m : (ℓ : Loc nD τ sig) → Buf (Elt Ideal) ℓ)

/-- The keys' columns of the weights, as the reference takes them, -/
abbrev partK (w : FVec Ideal S1x2048x23616 .f32) : FVec Ideal Cert.KvCRefIdeal.S2048x1024 .f32 :=
  extractStridedSlice Cert.KvCRefIdeal.S2048x1024 ![0, 15424] (shapeCast Cert.KvCRefIdeal.S2048x23616 w Cert.KvCRefIdeal.Gen.shapeCasts_S1x2048x23616_S2048x23616)
    Cert.KvCRefIdeal.Gen.slices_S2048x23616_S2048x1024_0_15424

/-- and the values'. -/
abbrev partV (w : FVec Ideal S1x2048x23616 .f32) : FVec Ideal Cert.KvCRefIdeal.S2048x1024 .f32 :=
  extractStridedSlice Cert.KvCRefIdeal.S2048x1024 ![0, 18496] (shapeCast Cert.KvCRefIdeal.S2048x23616 w Cert.KvCRefIdeal.Gen.shapeCasts_S1x2048x23616_S2048x23616)
    Cert.KvCRefIdeal.Gen.slices_S2048x23616_S2048x1024_0_18496

/-- One projection of the prompt's rows by columns `p` of the weights, by heads. -/
abbrev half (x : FVec Ideal S8192x2048 .bf16) (p : FVec Ideal Cert.KvCRefIdeal.S2048x1024 .f32) : FVec Ideal Cert.KvCRefIdeal.S8192x8x128 .f32 :=
  shapeCast Cert.KvCRefIdeal.S8192x8x128 (Host.dotGeneral Cert.KvCRefIdeal.dot_S8192x2048_S2048x1024_S8192x1024_1_0_0_1_n_n none (extf .f32 x bitsLt_bf16_f32) p)
    Cert.KvCRefIdeal.Gen.shapeCasts_S8192x1024_S8192x8x128

/-- The keys and the values of the prompt's rows, as the reference writes them. -/
abbrev whole (x : FVec Ideal S8192x2048 .bf16) (w : FVec Ideal S1x2048x23616 .f32) : FVec Ideal S8192x16x128 .f32 :=
  concatenate S8192x16x128 1 [⟨Cert.KvCRefIdeal.S8192x8x128, half x (partK w)⟩, ⟨Cert.KvCRefIdeal.S8192x8x128, half x (partV w)⟩]
    Cert.KvCRefIdeal.Gen.concatenates_S8192x8x128_S8192x8x128_S8192x16x128_d1

/-- One projection of the sample's rows by columns `p` of the weights, by heads. -/
abbrev halfS (x : FVec Ideal S512x2048 .bf16) (p : FVec Ideal Cert.KvCRefIdeal.S2048x1024 .f32) : FVec Ideal Cert.KvCRefIdeal.S512x8x128 .f32 :=
  shapeCast Cert.KvCRefIdeal.S512x8x128 (Host.dotGeneral Cert.KvCRefIdeal.dot_S512x2048_S2048x1024_S512x1024_1_0_0_1_n_n none (extf .f32 x bitsLt_bf16_f32) p)
    Cert.KvCRefIdeal.Gen.shapeCasts_S512x1024_S512x8x128

/-- The keys and the values of the sample's rows, as the reference writes them. -/
abbrev wholeS (x : FVec Ideal S512x2048 .bf16) (w : FVec Ideal S1x2048x23616 .f32) : FVec Ideal S512x16x128 .f32 :=
  concatenate S512x16x128 1 [⟨Cert.KvCRefIdeal.S512x8x128, halfS x (partK w)⟩, ⟨Cert.KvCRefIdeal.S512x8x128, halfS x (partV w)⟩]
    Cert.KvCRefIdeal.Gen.concatenates_S512x8x128_S512x8x128_S512x16x128_d1

/-- Where the windows' blocks sit at each point. -/
theorem places : ∀ t : Fin cfg0.N, win0_0.index t = ![min (t.val % 9) 7, 0] ∧ win0_1.index t = ![15424 + 3072 * (t.val / 9), 0]
    ∧ win0_2.index t = ![0, 0] ∧ win0_3.index t = ![min (t.val % 9) 7, t.val / 9, 0] ∧ win0_4.index t = ![0, t.val / 9, 0] :=
  (by decide +kernel : ∀ t : Fin grid0.N, _)

/-- The weights as the call takes them: rows and columns exchanged. -/
theorem weight (c : Dev nD) (i : Fin 23616) (j : Fin 2048) : (V m c main_v1 : FVec Ideal S23616x2048 .f32) (ix2 i j)
    = (m ((c : Thread nD τ).loc main_arg2) : FVec Ideal S1x2048x23616 .f32) (ix3 (0 : Fin 1) j i) := by
  entry_read
  pointwise

/-- Where an entry of a weights' block sits in the array. -/
theorem off (t : Fin cfg0.N) (z) (a) : ((win0_1.rect t).emb z a : Nat) = win0_1.index t a + z a := win0_1.rect_emb_val_off t z a

/-- A weights' block, entry by entry. -/
theorem wblk (c : Dev nD) (t : Fin cfg0.N) (i : Fin 1024) (j : Fin 2048) : iblk m c 1 t (ix2 i j)
    = (m ((c : Thread nD τ).loc main_arg2) : FVec Ideal S1x2048x23616 .f32) (ix3 (0 : Fin 1) j ⟨15424 + 3072 * (t.val / 9) + i.val, by
      have := t.isLt
      have e : cfg0.N = 18 := rfl
      omega⟩) := by
  rw [← weight m c]
  refine congrArg (V m c main_v1) (funext fun a => Fin.ext ((off t _ a).trans ?_))
  rw [(places t).2.1]
  match a with
  | ⟨0, _⟩ => rfl
  | ⟨1, _⟩ => exact Nat.zero_add _

/-- The head a point stores the head `y 1` at, of the prompt -/
theorem head3 (t : Fin cfg0.N) (y) : ((((cfg0.win 3).blk t).view.emb y) 1 : Nat) = t.val / 9 * 8 + (y 1).val := by
  refine (win0_3.rect_emb_val_off t y 1).trans ?_
  show win0_3.index t 1 * 8 + (y 1).val = _
  rw [(places t).2.2.2.1]
  rfl

/-- and of the sample. -/
theorem head4 (t : Fin cfg0.N) (y) : ((((cfg0.win 4).blk t).view.emb y) 1 : Nat) = t.val / 9 * 8 + (y 1).val := by
  refine (win0_4.rect_emb_val_off t y 1).trans ?_
  show win0_4.index t 1 * 8 + (y 1).val = _
  rw [(places t).2.2.2.2]
  rfl

/-- What a point stores of the prompt is the reference's entry at the place it stores it. -/
theorem point (c : Dev nD) (t : Fin cfg0.N) (y) : rows m c t y
    = whole (m ((c : Thread nD τ).loc main_arg0)) (m ((c : Thread nD τ).loc main_arg2)) (((cfg0.win 3).blk t).view.emb y) := by
  unfold rows Heads.split
  pointwise [k0_pay1, k0_pay2, whole, half, partK, partV, wblk m c t]
  blk_point [iblk, V, places t]
  · rename_i h _ _
    have h' := lt_of_eq_of_lt (head3 t y).symm h
    omega
  · rename_i h _ _
    have h' : ¬(t.val / 9 * 8 + (y 1).val < 8) := fun hc => h (lt_of_eq_of_lt (head3 t y) hc)
    omega

/-- What a point stores of the sample is the reference's entry at the place it stores it. -/
theorem pointS (c : Dev nD) (t : Fin cfg0.N) (y) : tail m c t y
    = wholeS (m ((c : Thread nD τ).loc main_arg1)) (m ((c : Thread nD τ).loc main_arg2)) (((cfg0.win 4).blk t).view.emb y) := by
  unfold tail Heads.split
  pointwise [k0_pay1, k0_pay11, wholeS, halfS, partK, partV, wblk m c t]
  blk_point [iblk, V, places t]
  · rename_i h _ _
    have h' := lt_of_eq_of_lt (head4 t y).symm h
    omega
  · rename_i h _ _
    have h' : ¬(t.val / 9 * 8 + (y 1).val < 8) := fun hc => h (lt_of_eq_of_lt (head4 t y) hc)
    omega

/-- The prompt's result array after the run. -/
theorem final (c : Dev nD) : (dats m 0 c).arrAt 3 (cfgs 0).N = whole (m ((c : Thread nD τ).loc main_arg0)) (m ((c : Thread nD τ).loc main_arg2)) := by
  refine (dats m 0 c).arrAt_eq_of_covers 3 _ (by decide +kernel) fun t _ y => ?_
  blk_simp
  rw [after3]
  exact point m c t y

/-- The sample's result array after the run. -/
theorem finalS (c : Dev nD) : (dats m 0 c).arrAt 4 (cfgs 0).N = wholeS (m ((c : Thread nD τ).loc main_arg1)) (m ((c : Thread nD τ).loc main_arg2)) := by
  refine (dats m 0 c).arrAt_eq_of_covers 4 _ (by decide +kernel) fun t _ y => ?_
  blk_simp
  rw [after4]
  exact pointS m c t y

/-- The claim. -/
theorem algebraic : Cert.algebraic_KvCIdeal_KvCRefIdeal := by
  pair_intro
  · run_from Cert.KvCIdeal.Own.run_main m g
  · hlo_run
    · rw [(hagree c).2.2]
      exact (final m c).symm
    · rw [(hagree c).2.1, (hagree c).2.2]
      exact (finalS m c).symm

end Cert.KvCIdeal.Own

end
-- ==== Proof.lean ====
module

public import proofs.«01_k».proof.Defs
public import proofs.«01_k».proof.Proof.Gen.Down.Frame
public import proofs.«01_k».proof.Proof.Gen.DownIdeal.Value
public import proofs.«01_k».proof.Proof.Gen.UpIdeal.Value
public import proofs.«01_k».proof.Proof.Gen.OutIdeal.Value
public import proofs.«01_k».proof.Proof.Gen.MergeIdeal.Value
public import proofs.«01_k».proof.Proof.Gen.FinalIdeal.Value
public import proofs.«01_k».proof.Proof.Gen.FinalSIdeal.Value
public import proofs.«01_k».proof.Proof.Gen.UpRefIdeal.Run
public import proofs.«01_k».proof.Proof.Gen.OutRefIdeal.Run
public import proofs.«01_k».proof.Proof.Gen.MergeRefIdeal.Run
public import proofs.«01_k».proof.Proof.Gen.FinalRefIdeal.Run
public import proofs.«01_k».proof.Proof.Gen.FinalSRefIdeal.Run
public import proofs.«01_k».proof.Proof.AttC.Frame
public import proofs.«01_k».proof.Proof.AttC.Algebraic
public import proofs.«01_k».proof.Proof.Down.Value
public import proofs.«01_k».proof.Proof.Gen.Up.Frame
public import proofs.«01_k».proof.Proof.Up.Value
public import proofs.«01_k».proof.Proof.Gen.Out.Frame
public import proofs.«01_k».proof.Proof.Out.Value
public import proofs.«01_k».proof.Proof.Gen.Merge.Frame
public import proofs.«01_k».proof.Proof.Merge.Value
public import proofs.«01_k».proof.Proof.Gen.Final.Frame
public import proofs.«01_k».proof.Proof.Final.Value
public import proofs.«01_k».proof.Proof.Gen.FinalS.Frame
public import proofs.«01_k».proof.Proof.FinalS.Value
public import proofs.«01_k».proof.Proof.Gen.XbcRefIdeal.Run
public import proofs.«01_k».proof.Proof.Gen.InZRefIdeal.Run
public import proofs.«01_k».proof.Proof.Gen.GatesRefIdeal.Run
public import proofs.«01_k».proof.Proof.Gen.Xbc.Frame
public import proofs.«01_k».proof.Proof.Gen.XbcIdeal.Frame
public import proofs.«01_k».proof.Proof.InZ.Frame
public import proofs.«01_k».proof.Proof.InZ.Value
public import proofs.«01_k».proof.Proof.Gates.Frame
public import proofs.«01_k».proof.Proof.Gates.Value
public import proofs.«01_k».proof.Proof.Xbc.Value
public import proofs.«01_k».proof.Proof.Conv.Value
public import proofs.«01_k».proof.Proof.Gen.InQRefIdeal.Run
public import proofs.«01_k».proof.Proof.InQ.Frame
public import proofs.«01_k».proof.Proof.InQ.Value
public import proofs.«01_k».proof.Proof.Gen.KvARefIdeal.Run
public import proofs.«01_k».proof.Proof.KvA.Frame
public import proofs.«01_k».proof.Proof.KvA.Value
public import proofs.«01_k».proof.Proof.Gen.KvBRefIdeal.Run
public import proofs.«01_k».proof.Proof.KvB.Frame
public import proofs.«01_k».proof.Proof.KvB.Value
public import proofs.«01_k».proof.Proof.Gen.KvCRefIdeal.Run
public import proofs.«01_k».proof.Proof.KvC.Frame
public import proofs.«01_k».proof.Proof.KvC.Value
public import proofs.«01_k».proof.Proof.Gen.ConvRefIdeal.Run
public import proofs.«01_k».proof.Proof.Gen.Conv.Frame
public import proofs.«01_k».proof.Proof.Gen.ConvIdeal.Frame
public import Idealize.ShloMosaic.Adequacy
public import Idealize.ShloMosaic.Init

@[expose] public section

noncomputable section

namespace Cert.Proof

open Idealize.ShloMosaic Idealize.SL.Sem

/-- The attention's reference ends with its arguments unchanged; it declares no semaphore. -/
theorem attC_ref : Cert.quiescent_AttCRefIdeal := by
  intro m g _
  exact (θ_run _ _ _).mono (fun r h => ⟨fun c => (h c).2.2, sem_eq_zero_of_no_sems (by decide) r.2⟩) (Cert.AttCRefIdeal.Value.run m g)

/-- So does the projection's. -/
theorem down_ref : Cert.quiescent_DownRefIdeal := by
  intro m g _
  exact (θ_run _ _ _).mono (fun r h => ⟨fun c => (h c).2, sem_eq_zero_of_no_sems (by decide) r.2⟩) (Cert.DownRefIdeal.Value.run m g)

/-- The reference of the up projection ends with its arguments unchanged. -/
theorem up_ref : Cert.quiescent_UpRefIdeal := by
  intro m g _
  exact (θ_run _ _ _).mono (fun r h => ⟨fun c => (h c).2, sem_eq_zero_of_no_sems (by decide) r.2⟩) (Cert.UpRefIdeal.Value.run m g)

/-- The reference of the output projection ends with its arguments unchanged. -/
theorem out_ref : Cert.quiescent_OutRefIdeal := by
  intro m g _
  exact (θ_run _ _ _).mono (fun r h => ⟨fun c => (h c).2, sem_eq_zero_of_no_sems (by decide) r.2⟩) (Cert.OutRefIdeal.Value.run m g)

/-- The reference of the merge of the branches ends with its arguments unchanged. -/
theorem merge_ref : Cert.quiescent_MergeRefIdeal := by
  intro m g _
  exact (θ_run _ _ _).mono (fun r h => ⟨fun c => (h c).2, sem_eq_zero_of_no_sems (by decide) r.2⟩) (Cert.MergeRefIdeal.Value.run m g)

/-- The reference of the last norm ends with its arguments unchanged. -/
theorem final_ref : Cert.quiescent_FinalRefIdeal := by
  intro m g _
  exact (θ_run _ _ _).mono (fun r h => ⟨fun c => (h c).2, sem_eq_zero_of_no_sems (by decide) r.2⟩) (Cert.FinalRefIdeal.Value.run m g)

/-- The reference of the last norm on the sample's rows ends with its arguments unchanged. -/
theorem finalS_ref : Cert.quiescent_FinalSRefIdeal := by
  intro m g _
  exact (θ_run _ _ _).mono (fun r h => ⟨fun c => (h c).2, sem_eq_zero_of_no_sems (by decide) r.2⟩) (Cert.FinalSRefIdeal.Value.run m g)

/-- The reference of the sample's projection before the convolution ends with its arguments unchanged. -/
theorem xbc_ref : Cert.quiescent_XbcRefIdeal := by
  intro m g _
  exact (θ_run _ _ _).mono (fun r h => ⟨fun c => (h c).2.2, sem_eq_zero_of_no_sems (by decide) r.2⟩) (Cert.XbcRefIdeal.Value.run m g)

/-- The reference of the projection to the gate of the state-space branch ends with its arguments unchanged. -/
theorem inZ_ref : Cert.quiescent_InZRefIdeal := by
  intro m g _
  exact (θ_run _ _ _).mono (fun r h => ⟨fun c => (h c).2.2, sem_eq_zero_of_no_sems (by decide) r.2⟩) (Cert.InZRefIdeal.Value.run m g)

/-- The reference of the projection to the merge's gates ends with its arguments unchanged. -/
theorem gates_ref : Cert.quiescent_GatesRefIdeal := by
  intro m g _
  exact (θ_run _ _ _).mono (fun r h => ⟨fun c => (h c).2.2, sem_eq_zero_of_no_sems (by decide) r.2⟩) (Cert.GatesRefIdeal.Value.run m g)

/-- The reference of the projection to the queries ends with its arguments unchanged. -/
theorem inQ_ref : Cert.quiescent_InQRefIdeal := by
  intro m g _
  exact (θ_run _ _ _).mono (fun r h => ⟨fun c => (h c).2.2, sem_eq_zero_of_no_sems (by decide) r.2⟩) (Cert.InQRefIdeal.Value.run m g)

/-- The reference of the projection to the first group's keys and values ends with its arguments unchanged. -/
theorem kvA_ref : Cert.quiescent_KvARefIdeal := by
  intro m g _
  exact (θ_run _ _ _).mono (fun r h => ⟨fun c => (h c).2.2.2, sem_eq_zero_of_no_sems (by decide) r.2⟩) (Cert.KvARefIdeal.Value.run m g)

/-- The reference of the projection to the second group's keys and values ends with its arguments unchanged. -/
theorem kvB_ref : Cert.quiescent_KvBRefIdeal := by
  intro m g _
  exact (θ_run _ _ _).mono (fun r h => ⟨fun c => (h c).2.2.2, sem_eq_zero_of_no_sems (by decide) r.2⟩) (Cert.KvBRefIdeal.Value.run m g)

/-- The reference of the projection to the third group's keys and values ends with its arguments unchanged. -/
theorem kvC_ref : Cert.quiescent_KvCRefIdeal := by
  intro m g _
  exact (θ_run _ _ _).mono (fun r h => ⟨fun c => (h c).2.2, sem_eq_zero_of_no_sems (by decide) r.2⟩) (Cert.KvCRefIdeal.Value.run m g)

/-- The reference of the prompt's projection and its convolution ends with its arguments unchanged. -/
theorem conv_ref : Cert.quiescent_ConvRefIdeal := by
  intro m g _
  exact (θ_run _ _ _).mono (fun r h => ⟨fun c => (h c).2.2, sem_eq_zero_of_no_sems (by decide) r.2⟩) (Cert.ConvRefIdeal.Value.run m g)

/-- All claims: each call's kernel, ideal kernel and reference run to the end, and the two ideal programs agree. -/
theorem claim : Cert.Claim := ⟨Cert.AttC.Gen.facts, Cert.AttCIdeal.Gen.facts, Cert.AttCRefIdeal.Gen.facts, Cert.Down.Gen.facts, Cert.DownIdeal.Gen.facts, Cert.DownRefIdeal.Gen.facts, Cert.Up.Gen.facts, Cert.UpIdeal.Gen.facts, Cert.UpRefIdeal.Gen.facts, Cert.Out.Gen.facts, Cert.OutIdeal.Gen.facts, Cert.OutRefIdeal.Gen.facts, Cert.Merge.Gen.facts, Cert.MergeIdeal.Gen.facts, Cert.MergeRefIdeal.Gen.facts, Cert.Final.Gen.facts, Cert.FinalIdeal.Gen.facts, Cert.FinalRefIdeal.Gen.facts, Cert.FinalS.Gen.facts, Cert.FinalSIdeal.Gen.facts, Cert.FinalSRefIdeal.Gen.facts, Cert.Xbc.Gen.facts, Cert.XbcIdeal.Gen.facts, Cert.XbcRefIdeal.Gen.facts, Cert.InZ.Gen.facts, Cert.InZIdeal.Gen.facts, Cert.InZRefIdeal.Gen.facts, Cert.Gates.Gen.facts, Cert.GatesIdeal.Gen.facts, Cert.GatesRefIdeal.Gen.facts, Cert.InQ.Gen.facts, Cert.InQIdeal.Gen.facts, Cert.InQRefIdeal.Gen.facts, Cert.KvA.Gen.facts, Cert.KvAIdeal.Gen.facts, Cert.KvARefIdeal.Gen.facts, Cert.KvB.Gen.facts, Cert.KvBIdeal.Gen.facts, Cert.KvBRefIdeal.Gen.facts, Cert.KvC.Gen.facts, Cert.KvCIdeal.Gen.facts, Cert.KvCRefIdeal.Gen.facts, Cert.Conv.Gen.facts, Cert.ConvIdeal.Gen.facts, Cert.ConvRefIdeal.Gen.facts, Cert.Pre_finite.Gen.facts,
  fun m ρ _ => Cert.AttC.Own.frame m ρ, fun m ρ _ => Cert.AttCIdeal.Own.frame m ρ, fun m ρ _ => Cert.AttCIdeal.Own.frame m ρ,
  attC_ref, fun m ρ _ => attC_ref m ρ trivial,
  fun m ρ _ => Cert.Down.Gen.frame m ρ, fun m ρ _ => Cert.DownIdeal.Gen.frame m ρ, down_ref,
  fun m ρ _ => Cert.Up.Gen.frame m ρ, fun m ρ _ => Cert.UpIdeal.Gen.frame m ρ, up_ref,
  fun m ρ _ => Cert.Out.Gen.frame m ρ, fun m ρ _ => Cert.OutIdeal.Gen.frame m ρ, out_ref,
  fun m ρ _ => Cert.Merge.Gen.frame m ρ, fun m ρ _ => Cert.MergeIdeal.Gen.frame m ρ, merge_ref,
  fun m ρ _ => Cert.Final.Gen.frame m ρ, fun m ρ _ => Cert.FinalIdeal.Gen.frame m ρ, final_ref,
  fun m ρ _ => Cert.FinalS.Gen.frame m ρ, fun m ρ _ => Cert.FinalSIdeal.Gen.frame m ρ, finalS_ref,
  fun m ρ _ => Cert.Xbc.Gen.frame m ρ, fun m ρ _ => Cert.XbcIdeal.Gen.frame m ρ, xbc_ref,
  fun m ρ _ => Cert.InZ.Own.frame m ρ, fun m ρ _ => Cert.InZIdeal.Own.frame m ρ, inZ_ref,
  fun m ρ _ => Cert.Gates.Own.frame m ρ, fun m ρ _ => Cert.GatesIdeal.Own.frame m ρ, gates_ref,
  fun m ρ _ => Cert.InQ.Own.frame m ρ, fun m ρ _ => Cert.InQIdeal.Own.frame m ρ, inQ_ref,
  fun m ρ _ => Cert.KvA.Own.frame m ρ, fun m ρ _ => Cert.KvAIdeal.Own.frame m ρ, kvA_ref,
  fun m ρ _ => Cert.KvB.Own.frame m ρ, fun m ρ _ => Cert.KvBIdeal.Own.frame m ρ, kvB_ref,
  fun m ρ _ => Cert.KvC.Own.frame m ρ, fun m ρ _ => Cert.KvCIdeal.Own.frame m ρ, kvC_ref,
  fun m ρ _ => Cert.Conv.Gen.frame m ρ, fun m ρ _ => Cert.ConvIdeal.Gen.frame m ρ, conv_ref,
  trivial, Cert.AttCIdeal.Own.algebraic,
  trivial, Cert.DownIdeal.Own.algebraic,
  trivial, Cert.UpIdeal.Own.algebraic,
  trivial, Cert.OutIdeal.Own.algebraic,
  trivial, Cert.MergeIdeal.Own.algebraic,
  trivial, Cert.FinalIdeal.Own.algebraic,
  trivial, Cert.FinalSIdeal.Own.algebraic,
  trivial, Cert.XbcIdeal.Own.algebraic,
  trivial, Cert.InZIdeal.Own.algebraic,
  trivial, Cert.GatesIdeal.Own.algebraic,
  trivial, Cert.InQIdeal.Own.algebraic,
  trivial, Cert.KvAIdeal.Own.algebraic,
  trivial, Cert.KvBIdeal.Own.algebraic,
  trivial, Cert.KvCIdeal.Own.algebraic,
  trivial, Cert.ConvIdeal.Own.algebraic⟩

end Cert.Proof

end
